-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Bch (m : (ℓ : Loc Cert.Bch.nD Cert.Bch.τ Cert.Bch.sig) → Buf (Elt Bits) ℓ) : Prop :=
  True

def Pre_BchIdeal (m : (ℓ : Loc Cert.BchIdeal.nD Cert.BchIdeal.τ Cert.BchIdeal.sig) → Buf (Elt Ideal) ℓ) : Prop :=
  True

def Pre_BchRefIdeal (m : (ℓ : Loc Cert.BchRefIdeal.nD Cert.BchRefIdeal.τ Cert.BchRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_ConvP (m : (ℓ : Loc Cert.ConvP.nD Cert.ConvP.τ Cert.ConvP.sig) → Buf (Elt Bits) ℓ) : Prop :=
  True

def Pre_ConvPIdeal (m : (ℓ : Loc Cert.ConvPIdeal.nD Cert.ConvPIdeal.τ Cert.ConvPIdeal.sig) → Buf (Elt Ideal) ℓ) : Prop :=
  True

def Pre_ConvPRefIdeal (m : (ℓ : Loc Cert.ConvPRefIdeal.nD Cert.ConvPRefIdeal.τ Cert.ConvPRefIdeal.sig) → Buf (Elt Ideal) ℓ) : Prop :=
  True

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_inputs [hPre_finite_inputs : Cert.Pre_finite_inputs.Facts] (m : (ℓ : Loc Cert.AttnIdeal.nD Cert.AttnIdeal.τ Cert.AttnIdeal.sig) → Buf (Elt Ideal) ℓ) : Prop :=
  ∀ c : Dev Cert.AttnIdeal.nD,
    (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_inputs [hPre_finite_inputs : Cert.Pre_finite_inputs.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_AttnS (m : (ℓ : Loc Cert.AttnS.nD Cert.AttnS.τ Cert.AttnS.sig) → Buf (Elt Bits) ℓ) : Prop :=
  True

def Pre_AttnSIdeal (m : (ℓ : Loc Cert.AttnSIdeal.nD Cert.AttnSIdeal.τ Cert.AttnSIdeal.sig) → Buf (Elt Ideal) ℓ) : Prop :=
  True

def Pre_AttnSIdeal_finite_sample [hPre_finite_sample : Cert.Pre_finite_sample.Facts] (m : (ℓ : Loc Cert.AttnSIdeal.nD Cert.AttnSIdeal.τ Cert.AttnSIdeal.sig) → Buf (Elt Ideal) ℓ) : Prop :=
  ∀ c : Dev Cert.AttnSIdeal.nD,
    (Cert.Pre_finite_sample.fn (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2)) (m ((c.tc : Thread Cert.AttnSIdeal.nD Cert.AttnSIdeal.τ).loc Cert.AttnSIdeal.main_arg3)) (m ((c.tc : Thread Cert.AttnSIdeal.nD Cert.AttnSIdeal.τ).loc Cert.AttnSIdeal.main_arg4))) = (fun _ => 1#1)

def Pre_AttnSRefIdeal (m : (ℓ : Loc Cert.AttnSRefIdeal.nD Cert.AttnSRefIdeal.τ Cert.AttnSRefIdeal.sig) → Buf (Elt Ideal) ℓ) : Prop :=
  True

def Pre_AttnSRefIdeal_finite_sample [hPre_finite_sample : Cert.Pre_finite_sample.Facts] (m : (ℓ : Loc Cert.AttnSRefIdeal.nD Cert.AttnSRefIdeal.τ Cert.AttnSRefIdeal.sig) → Buf (Elt Ideal) ℓ) : Prop :=
  ∀ c : Dev Cert.AttnSRefIdeal.nD,
    (Cert.Pre_finite_sample.fn (F := Ideal) (m ((c.tc : Thread Cert.AttnSRefIdeal.nD Cert.AttnSRefIdeal.τ).loc Cert.AttnSRefIdeal.main_arg0)) (m ((c.tc : Thread Cert.AttnSRefIdeal.nD Cert.AttnSRefIdeal.τ).loc Cert.AttnSRefIdeal.main_arg1)) (m ((c.tc : Thread Cert.AttnSRefIdeal.nD Cert.AttnSRefIdeal.τ).loc Cert.AttnSRefIdeal.main_arg2)) (m ((c.tc : Thread Cert.AttnSRefIdeal.nD Cert.AttnSRefIdeal.τ).loc Cert.AttnSRefIdeal.main_arg3)) (m ((c.tc : Thread Cert.AttnSRefIdeal.nD Cert.AttnSRefIdeal.τ).loc Cert.AttnSRefIdeal.main_arg4))) = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasIdeal_known_buckets [hPre_known_buckets : Cert.Pre_known_buckets.Facts] (m : (ℓ : Loc Cert.BiasIdeal.nD Cert.BiasIdeal.τ Cert.BiasIdeal.sig) → Buf (Elt Ideal) ℓ) : Prop :=
  ∀ c : Dev Cert.BiasIdeal.nD,
    (Cert.Pre_known_buckets.fn (F := Ideal) (m ((c.tc : Thread Cert.BiasIdeal.nD Cert.BiasIdeal.τ).loc Cert.BiasIdeal.main_arg0)) (m ((c.tc : Thread Cert.BiasIdeal.nD Cert.BiasIdeal.τ).loc Cert.BiasIdeal.main_arg1))) = (fun _ => 1#1)

def Pre_BiasRefIdeal (m : (ℓ : Loc Cert.BiasRefIdeal.nD Cert.BiasRefIdeal.τ Cert.BiasRefIdeal.sig) → Buf (Elt Ideal) ℓ) : Prop :=
  True

def Pre_BiasRefIdeal_known_buckets [hPre_known_buckets : Cert.Pre_known_buckets.Facts] (m : (ℓ : Loc Cert.BiasRefIdeal.nD Cert.BiasRefIdeal.τ Cert.BiasRefIdeal.sig) → Buf (Elt Ideal) ℓ) : Prop :=
  ∀ c : Dev Cert.BiasRefIdeal.nD,
    (Cert.Pre_known_buckets.fn (F := Ideal) (m ((c.tc : Thread Cert.BiasRefIdeal.nD Cert.BiasRefIdeal.τ).loc Cert.BiasRefIdeal.main_arg0)) (m ((c.tc : Thread Cert.BiasRefIdeal.nD Cert.BiasRefIdeal.τ).loc Cert.BiasRefIdeal.main_arg1))) = (fun _ => 1#1)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Bch [hBch : Cert.Bch.Facts] : Prop :=
  ∀ (m : (ℓ : Loc Cert.Bch.nD Cert.Bch.τ Cert.Bch.sig) → Buf (Elt Bits) ℓ) (g : Dev Cert.Bch.nD → PrngReg), Pre_Bch m →
    θ_run (Cert.Bch.defs (F := Bits)) (onTc (τ := Cert.Bch.τ) (Cert.Bch.main (F := Bits))) ⟨m, fun _ => 0, g⟩ (fun r => (∀ c : Dev Cert.Bch.nD,
      r.2.mem ((c.tc : Thread Cert.Bch.nD Cert.Bch.τ).loc Cert.Bch.main_arg0) = m ((c.tc : Thread Cert.Bch.nD Cert.Bch.τ).loc Cert.Bch.main_arg0)
      ∧ r.2.mem ((c.tc : Thread Cert.Bch.nD Cert.Bch.τ).loc Cert.Bch.main_arg1) = m ((c.tc : Thread Cert.Bch.nD Cert.Bch.τ).loc Cert.Bch.main_arg1)
      ∧ r.2.mem ((c.tc : Thread Cert.Bch.nD Cert.Bch.τ).loc Cert.Bch.main_arg2) = m ((c.tc : Thread Cert.Bch.nD Cert.Bch.τ).loc Cert.Bch.main_arg2))
      ∧ r.2.sem = fun _ => 0)

def quiescent_BchIdeal [hBchIdeal : Cert.BchIdeal.Facts] : Prop :=
  ∀ (m : (ℓ : Loc Cert.BchIdeal.nD Cert.BchIdeal.τ Cert.BchIdeal.sig) → Buf (Elt Ideal) ℓ) (g : Dev Cert.BchIdeal.nD → PrngReg), Pre_BchIdeal m →
    θ_run (Cert.BchIdeal.defs (F := Ideal)) (onTc (τ := Cert.BchIdeal.τ) (Cert.BchIdeal.main (F := Ideal))) ⟨m, fun _ => 0, g⟩ (fun r => (∀ c : Dev Cert.BchIdeal.nD,
      r.2.mem ((c.tc : Thread Cert.BchIdeal.nD Cert.BchIdeal.τ).loc Cert.BchIdeal.main_arg0) = m ((c.tc : Thread Cert.BchIdeal.nD Cert.BchIdeal.τ).loc Cert.BchIdeal.main_arg0)
      ∧ r.2.mem ((c.tc : Thread Cert.BchIdeal.nD Cert.BchIdeal.τ).loc Cert.BchIdeal.main_arg1) = m ((c.tc : Thread Cert.BchIdeal.nD Cert.BchIdeal.τ).loc Cert.BchIdeal.main_arg1)
      ∧ r.2.mem ((c.tc : Thread Cert.BchIdeal.nD Cert.BchIdeal.τ).loc Cert.BchIdeal.main_arg2) = m ((c.tc : Thread Cert.BchIdeal.nD Cert.BchIdeal.τ).loc Cert.BchIdeal.main_arg2))
      ∧ r.2.sem = fun _ => 0)

def quiescent_BchRefIdeal [hBchRefIdeal : Cert.BchRefIdeal.Facts] : Prop :=
  ∀ (m : (ℓ : Loc Cert.BchRefIdeal.nD Cert.BchRefIdeal.τ Cert.BchRefIdeal.sig) → Buf (Elt Ideal) ℓ) (g : Dev Cert.BchRefIdeal.nD → PrngReg), Pre_BchRefIdeal m →
    θ_run (Cert.BchRefIdeal.defs (F := Ideal)) (onTc (τ := Cert.BchRefIdeal.τ) (Cert.BchRefIdeal.main (F := Ideal))) ⟨m, fun _ => 0, g⟩ (fun r => (∀ c : Dev Cert.BchRefIdeal.nD,
      r.2.mem ((c.tc : Thread Cert.BchRefIdeal.nD Cert.BchRefIdeal.τ).loc Cert.BchRefIdeal.main_arg0) = m ((c.tc : Thread Cert.BchRefIdeal.nD Cert.BchRefIdeal.τ).loc Cert.BchRefIdeal.main_arg0)
      ∧ r.2.mem ((c.tc : Thread Cert.BchRefIdeal.nD Cert.BchRefIdeal.τ).loc Cert.BchRefIdeal.main_arg1) = m ((c.tc : Thread Cert.BchRefIdeal.nD Cert.BchRefIdeal.τ).loc Cert.BchRefIdeal.main_arg1)
      ∧ r.2.mem ((c.tc : Thread Cert.BchRefIdeal.nD Cert.BchRefIdeal.τ).loc Cert.BchRefIdeal.main_arg2) = m ((c.tc : Thread Cert.BchRefIdeal.nD Cert.BchRefIdeal.τ).loc Cert.BchRefIdeal.main_arg2))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2))
      ∧ r.2.sem = fun _ => 0)

def quiescent_ConvP [hConvP : Cert.ConvP.Facts] : Prop :=
  ∀ (m : (ℓ : Loc Cert.ConvP.nD Cert.ConvP.τ Cert.ConvP.sig) → Buf (Elt Bits) ℓ) (g : Dev Cert.ConvP.nD → PrngReg), Pre_ConvP m →
    θ_run (Cert.ConvP.defs (F := Bits)) (onTc (τ := Cert.ConvP.τ) (Cert.ConvP.main (F := Bits))) ⟨m, fun _ => 0, g⟩ (fun r => (∀ c : Dev Cert.ConvP.nD,
      r.2.mem ((c.tc : Thread Cert.ConvP.nD Cert.ConvP.τ).loc Cert.ConvP.main_arg0) = m ((c.tc : Thread Cert.ConvP.nD Cert.ConvP.τ).loc Cert.ConvP.main_arg0)
      ∧ r.2.mem ((c.tc : Thread Cert.ConvP.nD Cert.ConvP.τ).loc Cert.ConvP.main_arg1) = m ((c.tc : Thread Cert.ConvP.nD Cert.ConvP.τ).loc Cert.ConvP.main_arg1)
      ∧ r.2.mem ((c.tc : Thread Cert.ConvP.nD Cert.ConvP.τ).loc Cert.ConvP.main_arg2) = m ((c.tc : Thread Cert.ConvP.nD Cert.ConvP.τ).loc Cert.ConvP.main_arg2)
      ∧ r.2.mem ((c.tc : Thread Cert.ConvP.nD Cert.ConvP.τ).loc Cert.ConvP.main_arg3) = m ((c.tc : Thread Cert.ConvP.nD Cert.ConvP.τ).loc Cert.ConvP.main_arg3))
      ∧ r.2.sem = fun _ => 0)

def quiescent_ConvPIdeal [hConvPIdeal : Cert.ConvPIdeal.Facts] : Prop :=
  ∀ (m : (ℓ : Loc Cert.ConvPIdeal.nD Cert.ConvPIdeal.τ Cert.ConvPIdeal.sig) → Buf (Elt Ideal) ℓ) (g : Dev Cert.ConvPIdeal.nD → PrngReg), Pre_ConvPIdeal m →
    θ_run (Cert.ConvPIdeal.defs (F := Ideal)) (onTc (τ := Cert.ConvPIdeal.τ) (Cert.ConvPIdeal.main (F := Ideal))) ⟨m, fun _ => 0, g⟩ (fun r => (∀ c : Dev Cert.ConvPIdeal.nD,
      r.2.mem ((c.tc : Thread Cert.ConvPIdeal.nD Cert.ConvPIdeal.τ).loc Cert.ConvPIdeal.main_arg0) = m ((c.tc : Thread Cert.ConvPIdeal.nD Cert.ConvPIdeal.τ).loc Cert.ConvPIdeal.main_arg0)
      ∧ r.2.mem ((c.tc : Thread Cert.ConvPIdeal.nD Cert.ConvPIdeal.τ).loc Cert.ConvPIdeal.main_arg1) = m ((c.tc : Thread Cert.ConvPIdeal.nD Cert.ConvPIdeal.τ).loc Cert.ConvPIdeal.main_arg1)
      ∧ r.2.mem ((c.tc : Thread Cert.ConvPIdeal.nD Cert.ConvPIdeal.τ).loc Cert.ConvPIdeal.main_arg2) = m ((c.tc : Thread Cert.ConvPIdeal.nD Cert.ConvPIdeal.τ).loc Cert.ConvPIdeal.main_arg2)
      ∧ r.2.mem ((c.tc : Thread Cert.ConvPIdeal.nD Cert.ConvPIdeal.τ).loc Cert.ConvPIdeal.main_arg3) = m ((c.tc : Thread Cert.ConvPIdeal.nD Cert.ConvPIdeal.τ).loc Cert.ConvPIdeal.main_arg3))
      ∧ r.2.sem = fun _ => 0)

def quiescent_ConvPRefIdeal [hConvPRefIdeal : Cert.ConvPRefIdeal.Facts] : Prop :=
  ∀ (m : (ℓ : Loc Cert.ConvPRefIdeal.nD Cert.ConvPRefIdeal.τ Cert.ConvPRefIdeal.sig) → Buf (Elt Ideal) ℓ) (g : Dev Cert.ConvPRefIdeal.nD → PrngReg), Pre_ConvPRefIdeal m →
    θ_run (Cert.ConvPRefIdeal.defs (F := Ideal)) (onTc (τ := Cert.ConvPRefIdeal.τ) (Cert.ConvPRefIdeal.main (F := Ideal))) ⟨m, fun _ => 0, g⟩ (fun r => (∀ c : Dev Cert.ConvPRefIdeal.nD,
      r.2.mem ((c.tc : Thread Cert.ConvPRefIdeal.nD Cert.ConvPRefIdeal.τ).loc Cert.ConvPRefIdeal.main_arg0) = m ((c.tc : Thread Cert.ConvPRefIdeal.nD Cert.ConvPRefIdeal.τ).loc Cert.ConvPRefIdeal.main_arg0)
      ∧ r.2.mem ((c.tc : Thread Cert.ConvPRefIdeal.nD Cert.ConvPRefIdeal.τ).loc Cert.ConvPRefIdeal.main_arg1) = m ((c.tc : Thread Cert.ConvPRefIdeal.nD Cert.ConvPRefIdeal.τ).loc Cert.ConvPRefIdeal.main_arg1)
      ∧ r.2.mem ((c.tc : Thread Cert.ConvPRefIdeal.nD Cert.ConvPRefIdeal.τ).loc Cert.ConvPRefIdeal.main_arg2) = m ((c.tc : Thread Cert.ConvPRefIdeal.nD Cert.ConvPRefIdeal.τ).loc Cert.ConvPRefIdeal.main_arg2)
      ∧ r.2.mem ((c.tc : Thread Cert.ConvPRefIdeal.nD Cert.ConvPRefIdeal.τ).loc Cert.ConvPRefIdeal.main_arg3) = m ((c.tc : Thread Cert.ConvPRefIdeal.nD Cert.ConvPRefIdeal.τ).loc Cert.ConvPRefIdeal.main_arg3))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2)
      ∧ r.2.mem ((c.tc : Thread Cert.ConvSRefIdeal.nD Cert.ConvSRefIdeal.τ).loc Cert.ConvSRefIdeal.main_arg3) = m ((c.tc : Thread Cert.ConvSRefIdeal.nD Cert.ConvSRefIdeal.τ).loc Cert.ConvSRefIdeal.main_arg3)
      ∧ r.2.mem ((c.tc : Thread Cert.ConvSRefIdeal.nD Cert.ConvSRefIdeal.τ).loc Cert.ConvSRefIdeal.main_arg4) = m ((c.tc : Thread Cert.ConvSRefIdeal.nD Cert.ConvSRefIdeal.τ).loc Cert.ConvSRefIdeal.main_arg4))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_inputs [hAttnIdeal : Cert.AttnIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_inputs m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_inputs [hAttnRefIdeal : Cert.AttnRefIdeal.Facts] [hPre_finite_inputs : Cert.Pre_finite_inputs.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_inputs m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnS [hAttnS : Cert.AttnS.Facts] : Prop :=
  ∀ (m : (ℓ : Loc Cert.AttnS.nD Cert.AttnS.τ Cert.AttnS.sig) → Buf (Elt Bits) ℓ) (g : Dev Cert.AttnS.nD → PrngReg), Pre_AttnS m →
    θ_run (Cert.AttnS.defs (F := Bits)) (onTc (τ := Cert.AttnS.τ) (Cert.AttnS.main (F := Bits))) ⟨m, fun _ => 0, g⟩ (fun r => (∀ c : Dev Cert.AttnS.nD,
      r.2.mem ((c.tc : Thread Cert.AttnS.nD Cert.AttnS.τ).loc Cert.AttnS.main_arg0) = m ((c.tc : Thread Cert.AttnS.nD Cert.AttnS.τ).loc Cert.AttnS.main_arg0)
      ∧ r.2.mem ((c.tc : Thread Cert.AttnS.nD Cert.AttnS.τ).loc Cert.AttnS.main_arg1) = m ((c.tc : Thread Cert.AttnS.nD Cert.AttnS.τ).loc Cert.AttnS.main_arg1)
      ∧ r.2.mem ((c.tc : Thread Cert.AttnS.nD Cert.AttnS.τ).loc Cert.AttnS.main_arg2) = m ((c.tc : Thread Cert.AttnS.nD Cert.AttnS.τ).loc Cert.AttnS.main_arg2)
      ∧ r.2.mem ((c.tc : Thread Cert.AttnS.nD Cert.AttnS.τ).loc Cert.AttnS.main_arg3) = m ((c.tc : Thread Cert.AttnS.nD Cert.AttnS.τ).loc Cert.AttnS.main_arg3)
      ∧ r.2.mem ((c.tc : Thread Cert.AttnS.nD Cert.AttnS.τ).loc Cert.AttnS.main_arg4) = m ((c.tc : Thread Cert.AttnS.nD Cert.AttnS.τ).loc Cert.AttnS.main_arg4))
      ∧ r.2.sem = fun _ => 0)

def quiescent_AttnSIdeal [hAttnSIdeal : Cert.AttnSIdeal.Facts] : Prop :=
  ∀ (m : (ℓ : Loc Cert.AttnSIdeal.nD Cert.AttnSIdeal.τ Cert.AttnSIdeal.sig) → Buf (Elt Ideal) ℓ) (g : Dev Cert.AttnSIdeal.nD → PrngReg), Pre_AttnSIdeal m →
    θ_run (Cert.AttnSIdeal.defs (F := Ideal)) (onTc (τ := Cert.AttnSIdeal.τ) (Cert.AttnSIdeal.main (F := Ideal))) ⟨m, fun _ => 0, g⟩ (fun r => (∀ c : Dev Cert.AttnSIdeal.nD,
      r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
      ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
      ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
      ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
      ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4))
      ∧ r.2.sem = fun _ => 0)

def quiescent_AttnSIdeal_pre_finite_sample [hAttnSIdeal : Cert.AttnSIdeal.Facts] [hPre_finite_sample : Cert.Pre_finite_sample.Facts] : Prop :=
  ∀ (m : (ℓ : Loc Cert.AttnSIdeal.nD Cert.AttnSIdeal.τ Cert.AttnSIdeal.sig) → Buf (Elt Ideal) ℓ) (g : Dev Cert.AttnSIdeal.nD → PrngReg), Pre_AttnSIdeal_finite_sample m →
    θ_run (Cert.AttnSIdeal.defs (F := Ideal)) (onTc (τ := Cert.AttnSIdeal.τ) (Cert.AttnSIdeal.main (F := Ideal))) ⟨m, fun _ => 0, g⟩ (fun r => (∀ c : Dev Cert.AttnSIdeal.nD,
      r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
      ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
      ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
      ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
      ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4))
      ∧ r.2.sem = fun _ => 0)

def quiescent_AttnSRefIdeal [hAttnSRefIdeal : Cert.AttnSRefIdeal.Facts] : Prop :=
  ∀ (m : (ℓ : Loc Cert.AttnSRefIdeal.nD Cert.AttnSRefIdeal.τ Cert.AttnSRefIdeal.sig) → Buf (Elt Ideal) ℓ) (g : Dev Cert.AttnSRefIdeal.nD → PrngReg), Pre_AttnSRefIdeal m →
    θ_run (Cert.AttnSRefIdeal.defs (F := Ideal)) (onTc (τ := Cert.AttnSRefIdeal.τ) (Cert.AttnSRefIdeal.main (F := Ideal))) ⟨m, fun _ => 0, g⟩ (fun r => (∀ c : Dev Cert.AttnSRefIdeal.nD,
      r.2.mem ((c.tc : Thread Cert.AttnSRefIdeal.nD Cert.AttnSRefIdeal.τ).loc Cert.AttnSRefIdeal.main_arg0) = m ((c.tc : Thread Cert.AttnSRefIdeal.nD Cert.AttnSRefIdeal.τ).loc Cert.AttnSRefIdeal.main_arg0)
      ∧ r.2.mem ((c.tc : Thread Cert.AttnSRefIdeal.nD Cert.AttnSRefIdeal.τ).loc Cert.AttnSRefIdeal.main_arg1) = m ((c.tc : Thread Cert.AttnSRefIdeal.nD Cert.AttnSRefIdeal.τ).loc Cert.AttnSRefIdeal.main_arg1)
      ∧ r.2.mem ((c.tc : Thread Cert.AttnSRefIdeal.nD Cert.AttnSRefIdeal.τ).loc Cert.AttnSRefIdeal.main_arg2) = m ((c.tc : Thread Cert.AttnSRefIdeal.nD Cert.AttnSRefIdeal.τ).loc Cert.AttnSRefIdeal.main_arg2)
      ∧ r.2.mem ((c.tc : Thread Cert.AttnSRefIdeal.nD Cert.AttnSRefIdeal.τ).loc Cert.AttnSRefIdeal.main_arg3) = m ((c.tc : Thread Cert.AttnSRefIdeal.nD Cert.AttnSRefIdeal.τ).loc Cert.AttnSRefIdeal.main_arg3)
      ∧ r.2.mem ((c.tc : Thread Cert.AttnSRefIdeal.nD Cert.AttnSRefIdeal.τ).loc Cert.AttnSRefIdeal.main_arg4) = m ((c.tc : Thread Cert.AttnSRefIdeal.nD Cert.AttnSRefIdeal.τ).loc Cert.AttnSRefIdeal.main_arg4))
      ∧ r.2.sem = fun _ => 0)

def quiescent_AttnSRefIdeal_pre_finite_sample [hAttnSRefIdeal : Cert.AttnSRefIdeal.Facts] [hPre_finite_sample : Cert.Pre_finite_sample.Facts] : Prop :=
  ∀ (m : (ℓ : Loc Cert.AttnSRefIdeal.nD Cert.AttnSRefIdeal.τ Cert.AttnSRefIdeal.sig) → Buf (Elt Ideal) ℓ) (g : Dev Cert.AttnSRefIdeal.nD → PrngReg), Pre_AttnSRefIdeal_finite_sample m →
    θ_run (Cert.AttnSRefIdeal.defs (F := Ideal)) (onTc (τ := Cert.AttnSRefIdeal.τ) (Cert.AttnSRefIdeal.main (F := Ideal))) ⟨m, fun _ => 0, g⟩ (fun r => (∀ c : Dev Cert.AttnSRefIdeal.nD,
      r.2.mem ((c.tc : Thread Cert.AttnSRefIdeal.nD Cert.AttnSRefIdeal.τ).loc Cert.AttnSRefIdeal.main_arg0) = m ((c.tc : Thread Cert.AttnSRefIdeal.nD Cert.AttnSRefIdeal.τ).loc Cert.AttnSRefIdeal.main_arg0)
      ∧ r.2.mem ((c.tc : Thread Cert.AttnSRefIdeal.nD Cert.AttnSRefIdeal.τ).loc Cert.AttnSRefIdeal.main_arg1) = m ((c.tc : Thread Cert.AttnSRefIdeal.nD Cert.AttnSRefIdeal.τ).loc Cert.AttnSRefIdeal.main_arg1)
      ∧ r.2.mem ((c.tc : Thread Cert.AttnSRefIdeal.nD Cert.AttnSRefIdeal.τ).loc Cert.AttnSRefIdeal.main_arg2) = m ((c.tc : Thread Cert.AttnSRefIdeal.nD Cert.AttnSRefIdeal.τ).loc Cert.AttnSRefIdeal.main_arg2)
      ∧ r.2.mem ((c.tc : Thread Cert.AttnSRefIdeal.nD Cert.AttnSRefIdeal.τ).loc Cert.AttnSRefIdeal.main_arg3) = m ((c.tc : Thread Cert.AttnSRefIdeal.nD Cert.AttnSRefIdeal.τ).loc Cert.AttnSRefIdeal.main_arg3)
      ∧ r.2.mem ((c.tc : Thread Cert.AttnSRefIdeal.nD Cert.AttnSRefIdeal.τ).loc Cert.AttnSRefIdeal.main_arg4) = m ((c.tc : Thread Cert.AttnSRefIdeal.nD Cert.AttnSRefIdeal.τ).loc Cert.AttnSRefIdeal.main_arg4))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ r.2.sem = fun _ => 0)

def quiescent_BiasIdeal_pre_known_buckets [hBiasIdeal : Cert.BiasIdeal.Facts] [hPre_known_buckets : Cert.Pre_known_buckets.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal_known_buckets m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1))
      ∧ r.2.sem = fun _ => 0)

def quiescent_BiasRefIdeal_pre_known_buckets [hBiasRefIdeal : Cert.BiasRefIdeal.Facts] [hPre_known_buckets : Cert.Pre_known_buckets.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal_known_buckets m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1))
      ∧ r.2.sem = fun _ => 0)

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v13) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Bch_BchIdeal : Prop :=
  True

def algebraic_BchIdeal_BchRefIdeal [hBchIdeal : Cert.BchIdeal.Facts] [hBchRefIdeal : Cert.BchRefIdeal.Facts] : Prop :=
  ∀ (m : (ℓ : Loc Cert.BchIdeal.nD Cert.BchIdeal.τ Cert.BchIdeal.sig) → Buf (Elt Ideal) ℓ) (g : Dev Cert.BchIdeal.nD → PrngReg)
    (m' : (ℓ : Loc Cert.BchRefIdeal.nD Cert.BchRefIdeal.τ Cert.BchRefIdeal.sig) → Buf (Elt Ideal) ℓ) (g' : Dev Cert.BchRefIdeal.nD → PrngReg), Pre_BchIdeal m →
    (∀ c : Dev Cert.BchIdeal.nD,
      m' ((c.tc : Thread Cert.BchRefIdeal.nD Cert.BchRefIdeal.τ).loc Cert.BchRefIdeal.main_arg0) = m ((c.tc : Thread Cert.BchIdeal.nD Cert.BchIdeal.τ).loc Cert.BchIdeal.main_arg0)
      ∧ m' ((c.tc : Thread Cert.BchRefIdeal.nD Cert.BchRefIdeal.τ).loc Cert.BchRefIdeal.main_arg1) = m ((c.tc : Thread Cert.BchIdeal.nD Cert.BchIdeal.τ).loc Cert.BchIdeal.main_arg1)
      ∧ m' ((c.tc : Thread Cert.BchRefIdeal.nD Cert.BchRefIdeal.τ).loc Cert.BchRefIdeal.main_arg2) = m ((c.tc : Thread Cert.BchIdeal.nD Cert.BchIdeal.τ).loc Cert.BchIdeal.main_arg2)) →
    ∃ (v0 : (c : Dev Cert.BchIdeal.nD) → Buf (Elt Ideal) ((c.tc : Thread Cert.BchIdeal.nD Cert.BchIdeal.τ).loc Cert.BchIdeal.main_v2)),
      θ_run (Cert.BchIdeal.defs (F := Ideal)) (onTc (τ := Cert.BchIdeal.τ) (Cert.BchIdeal.main (F := Ideal))) ⟨m, fun _ => 0, g⟩ (fun r => ∀ c : Dev Cert.BchIdeal.nD,
          r.2.mem ((c.tc : Thread Cert.BchIdeal.nD Cert.BchIdeal.τ).loc Cert.BchIdeal.main_v2) = v0 c
          ∧ r.2.mem ((c.tc : Thread Cert.BchIdeal.nD Cert.BchIdeal.τ).loc Cert.BchIdeal.main_arg0) = m ((c.tc : Thread Cert.BchIdeal.nD Cert.BchIdeal.τ).loc Cert.BchIdeal.main_arg0)
          ∧ r.2.mem ((c.tc : Thread Cert.BchIdeal.nD Cert.BchIdeal.τ).loc Cert.BchIdeal.main_arg1) = m ((c.tc : Thread Cert.BchIdeal.nD Cert.BchIdeal.τ).loc Cert.BchIdeal.main_arg1)
          ∧ r.2.mem ((c.tc : Thread Cert.BchIdeal.nD Cert.BchIdeal.τ).loc Cert.BchIdeal.main_arg2) = m ((c.tc : Thread Cert.BchIdeal.nD Cert.BchIdeal.τ).loc Cert.BchIdeal.main_arg2))
      ∧ θ_run (Cert.BchRefIdeal.defs (F := Ideal)) (onTc (τ := Cert.BchRefIdeal.τ) (Cert.BchRefIdeal.main (F := Ideal))) ⟨m', fun _ => 0, g'⟩ (fun r => ∀ c : Dev Cert.BchRefIdeal.nD,
          r.2.mem ((c.tc : Thread Cert.BchRefIdeal.nD Cert.BchRefIdeal.τ).loc Cert.BchRefIdeal.main_v13) = v0 c
          ∧ r.2.mem ((c.tc : Thread Cert.BchRefIdeal.nD Cert.BchRefIdeal.τ).loc Cert.BchRefIdeal.main_arg0) = m' ((c.tc : Thread Cert.BchRefIdeal.nD Cert.BchRefIdeal.τ).loc Cert.BchRefIdeal.main_arg0)
          ∧ r.2.mem ((c.tc : Thread Cert.BchRefIdeal.nD Cert.BchRefIdeal.τ).loc Cert.BchRefIdeal.main_arg1) = m' ((c.tc : Thread Cert.BchRefIdeal.nD Cert.BchRefIdeal.τ).loc Cert.BchRefIdeal.main_arg1)
          ∧ r.2.mem ((c.tc : Thread Cert.BchRefIdeal.nD Cert.BchRefIdeal.τ).loc Cert.BchRefIdeal.main_arg2) = m' ((c.tc : Thread Cert.BchRefIdeal.nD Cert.BchRefIdeal.τ).loc Cert.BchRefIdeal.main_arg2))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)
      ∧ m' ((c.tc : Thread Cert.WoRefIdeal.nD Cert.WoRefIdeal.τ).loc Cert.WoRefIdeal.main_arg2) = m ((c.tc : Thread Cert.WoIdeal.nD Cert.WoIdeal.τ).loc Cert.WoIdeal.main_arg2)) →
    ∃ (v0 : (c : Dev Cert.WoIdeal.nD) → Buf (Elt Ideal) ((c.tc : Thread Cert.WoIdeal.nD Cert.WoIdeal.τ).loc Cert.WoIdeal.main_v1)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v1) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v2) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2))

def preserves_ConvP_ConvPIdeal : Prop :=
  True

def algebraic_ConvPIdeal_ConvPRefIdeal [hConvPIdeal : Cert.ConvPIdeal.Facts] [hConvPRefIdeal : Cert.ConvPRefIdeal.Facts] : Prop :=
  ∀ (m : (ℓ : Loc Cert.ConvPIdeal.nD Cert.ConvPIdeal.τ Cert.ConvPIdeal.sig) → Buf (Elt Ideal) ℓ) (g : Dev Cert.ConvPIdeal.nD → PrngReg)
    (m' : (ℓ : Loc Cert.ConvPRefIdeal.nD Cert.ConvPRefIdeal.τ Cert.ConvPRefIdeal.sig) → Buf (Elt Ideal) ℓ) (g' : Dev Cert.ConvPRefIdeal.nD → PrngReg), Pre_ConvPIdeal m →
    (∀ c : Dev Cert.ConvPIdeal.nD,
      m' ((c.tc : Thread Cert.ConvPRefIdeal.nD Cert.ConvPRefIdeal.τ).loc Cert.ConvPRefIdeal.main_arg0) = m ((c.tc : Thread Cert.ConvPIdeal.nD Cert.ConvPIdeal.τ).loc Cert.ConvPIdeal.main_arg0)
      ∧ m' ((c.tc : Thread Cert.ConvPRefIdeal.nD Cert.ConvPRefIdeal.τ).loc Cert.ConvPRefIdeal.main_arg1) = m ((c.tc : Thread Cert.ConvPIdeal.nD Cert.ConvPIdeal.τ).loc Cert.ConvPIdeal.main_arg1)
      ∧ m' ((c.tc : Thread Cert.ConvPRefIdeal.nD Cert.ConvPRefIdeal.τ).loc Cert.ConvPRefIdeal.main_arg2) = m ((c.tc : Thread Cert.ConvPIdeal.nD Cert.ConvPIdeal.τ).loc Cert.ConvPIdeal.main_arg2)
      ∧ m' ((c.tc : Thread Cert.ConvPRefIdeal.nD Cert.ConvPRefIdeal.τ).loc Cert.ConvPRefIdeal.main_arg3) = m ((c.tc : Thread Cert.ConvPIdeal.nD Cert.ConvPIdeal.τ).loc Cert.ConvPIdeal.main_arg3)) →
    ∃ (v0 : (c : Dev Cert.ConvPIdeal.nD) → Buf (Elt Ideal) ((c.tc : Thread Cert.ConvPIdeal.nD Cert.ConvPIdeal.τ).loc Cert.ConvPIdeal.main_v1_0)) (v1 : (c : Dev Cert.ConvPIdeal.nD) → Buf (Elt Ideal) ((c.tc : Thread Cert.ConvPIdeal.nD Cert.ConvPIdeal.τ).loc Cert.ConvPIdeal.main_v1_1)),
      θ_run (Cert.ConvPIdeal.defs (F := Ideal)) (onTc (τ := Cert.ConvPIdeal.τ) (Cert.ConvPIdeal.main (F := Ideal))) ⟨m, fun _ => 0, g⟩ (fun r => ∀ c : Dev Cert.ConvPIdeal.nD,
          r.2.mem ((c.tc : Thread Cert.ConvPIdeal.nD Cert.ConvPIdeal.τ).loc Cert.ConvPIdeal.main_v1_0) = v0 c
          ∧ r.2.mem ((c.tc : Thread Cert.ConvPIdeal.nD Cert.ConvPIdeal.τ).loc Cert.ConvPIdeal.main_v1_1) = v1 c
          ∧ r.2.mem ((c.tc : Thread Cert.ConvPIdeal.nD Cert.ConvPIdeal.τ).loc Cert.ConvPIdeal.main_arg0) = m ((c.tc : Thread Cert.ConvPIdeal.nD Cert.ConvPIdeal.τ).loc Cert.ConvPIdeal.main_arg0)
          ∧ r.2.mem ((c.tc : Thread Cert.ConvPIdeal.nD Cert.ConvPIdeal.τ).loc Cert.ConvPIdeal.main_arg1) = m ((c.tc : Thread Cert.ConvPIdeal.nD Cert.ConvPIdeal.τ).loc Cert.ConvPIdeal.main_arg1)
          ∧ r.2.mem ((c.tc : Thread Cert.ConvPIdeal.nD Cert.ConvPIdeal.τ).loc Cert.ConvPIdeal.main_arg2) = m ((c.tc : Thread Cert.ConvPIdeal.nD Cert.ConvPIdeal.τ).loc Cert.ConvPIdeal.main_arg2)
          ∧ r.2.mem ((c.tc : Thread Cert.ConvPIdeal.nD Cert.ConvPIdeal.τ).loc Cert.ConvPIdeal.main_arg3) = m ((c.tc : Thread Cert.ConvPIdeal.nD Cert.ConvPIdeal.τ).loc Cert.ConvPIdeal.main_arg3))
      ∧ θ_run (Cert.ConvPRefIdeal.defs (F := Ideal)) (onTc (τ := Cert.ConvPRefIdeal.τ) (Cert.ConvPRefIdeal.main (F := Ideal))) ⟨m', fun _ => 0, g'⟩ (fun r => ∀ c : Dev Cert.ConvPRefIdeal.nD,
          r.2.mem ((c.tc : Thread Cert.ConvPRefIdeal.nD Cert.ConvPRefIdeal.τ).loc Cert.ConvPRefIdeal.main_v38) = v0 c
          ∧ r.2.mem ((c.tc : Thread Cert.ConvPRefIdeal.nD Cert.ConvPRefIdeal.τ).loc Cert.ConvPRefIdeal.main_v39) = v1 c
          ∧ r.2.mem ((c.tc : Thread Cert.ConvPRefIdeal.nD Cert.ConvPRefIdeal.τ).loc Cert.ConvPRefIdeal.main_arg0) = m' ((c.tc : Thread Cert.ConvPRefIdeal.nD Cert.ConvPRefIdeal.τ).loc Cert.ConvPRefIdeal.main_arg0)
          ∧ r.2.mem ((c.tc : Thread Cert.ConvPRefIdeal.nD Cert.ConvPRefIdeal.τ).loc Cert.ConvPRefIdeal.main_arg1) = m' ((c.tc : Thread Cert.ConvPRefIdeal.nD Cert.ConvPRefIdeal.τ).loc Cert.ConvPRefIdeal.main_arg1)
          ∧ r.2.mem ((c.tc : Thread Cert.ConvPRefIdeal.nD Cert.ConvPRefIdeal.τ).loc Cert.ConvPRefIdeal.main_arg2) = m' ((c.tc : Thread Cert.ConvPRefIdeal.nD Cert.ConvPRefIdeal.τ).loc Cert.ConvPRefIdeal.main_arg2)
          ∧ r.2.mem ((c.tc : Thread Cert.ConvPRefIdeal.nD Cert.ConvPRefIdeal.τ).loc Cert.ConvPRefIdeal.main_arg3) = m' ((c.tc : Thread Cert.ConvPRefIdeal.nD Cert.ConvPRefIdeal.τ).loc Cert.ConvPRefIdeal.main_arg3))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)
      ∧ m' ((c.tc : Thread Cert.ConvSRefIdeal.nD Cert.ConvSRefIdeal.τ).loc Cert.ConvSRefIdeal.main_arg3) = m ((c.tc : Thread Cert.ConvSIdeal.nD Cert.ConvSIdeal.τ).loc Cert.ConvSIdeal.main_arg3)
      ∧ m' ((c.tc : Thread Cert.ConvSRefIdeal.nD Cert.ConvSRefIdeal.τ).loc Cert.ConvSRefIdeal.main_arg4) = m ((c.tc : Thread Cert.ConvSIdeal.nD Cert.ConvSIdeal.τ).loc Cert.ConvSIdeal.main_arg4)) →
    ∃ (v0 : (c : Dev Cert.ConvSIdeal.nD) → Buf (Elt Ideal) ((c.tc : Thread Cert.ConvSIdeal.nD Cert.ConvSIdeal.τ).loc Cert.ConvSIdeal.main_v3_0)) (v1 : (c : Dev Cert.ConvSIdeal.nD) → Buf (Elt Ideal) ((c.tc : Thread Cert.ConvSIdeal.nD Cert.ConvSIdeal.τ).loc Cert.ConvSIdeal.main_v3_1)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v3_0) = v0 c
          ∧ r.2.mem ((c.tc : Thread Cert.ConvSIdeal.nD Cert.ConvSIdeal.τ).loc Cert.ConvSIdeal.main_v3_1) = v1 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v36) = v0 c
          ∧ r.2.mem ((c.tc : Thread Cert.ConvSRefIdeal.nD Cert.ConvSRefIdeal.τ).loc Cert.ConvSRefIdeal.main_v37) = v1 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2)
          ∧ r.2.mem ((c.tc : Thread Cert.ConvSRefIdeal.nD Cert.ConvSRefIdeal.τ).loc Cert.ConvSRefIdeal.main_arg3) = m' ((c.tc : Thread Cert.ConvSRefIdeal.nD Cert.ConvSRefIdeal.τ).loc Cert.ConvSRefIdeal.main_arg3)
          ∧ r.2.mem ((c.tc : Thread Cert.ConvSRefIdeal.nD Cert.ConvSRefIdeal.τ).loc Cert.ConvSRefIdeal.main_arg4) = m' ((c.tc : Thread Cert.ConvSRefIdeal.nD Cert.ConvSRefIdeal.τ).loc Cert.ConvSRefIdeal.main_arg4))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)) →
    ∃ (v0 : (c : Dev Cert.FinIdeal.nD) → Buf (Elt Ideal) ((c.tc : Thread Cert.FinIdeal.nD Cert.FinIdeal.τ).loc Cert.FinIdeal.main_v1)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v1) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v12) = v0 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1))

def preserves_Attn_AttnIdeal : Prop :=
  True

def algebraic_AttnIdeal_AttnRefIdeal_pre_finite_inputs [hAttnIdeal : Cert.AttnIdeal.Facts] [hAttnRefIdeal : Cert.AttnRefIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_inputs m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v17)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v17) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v85) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_AttnS_AttnSIdeal : Prop :=
  True

def algebraic_AttnSIdeal_AttnSRefIdeal_pre_finite_sample [hAttnSIdeal : Cert.AttnSIdeal.Facts] [hAttnSRefIdeal : Cert.AttnSRefIdeal.Facts] [hPre_finite_sample : Cert.Pre_finite_sample.Facts] : Prop :=
  ∀ (m : (ℓ : Loc Cert.AttnSIdeal.nD Cert.AttnSIdeal.τ Cert.AttnSIdeal.sig) → Buf (Elt Ideal) ℓ) (g : Dev Cert.AttnSIdeal.nD → PrngReg)
    (m' : (ℓ : Loc Cert.AttnSRefIdeal.nD Cert.AttnSRefIdeal.τ Cert.AttnSRefIdeal.sig) → Buf (Elt Ideal) ℓ) (g' : Dev Cert.AttnSRefIdeal.nD → PrngReg), Pre_AttnSIdeal_finite_sample m →
    (∀ c : Dev Cert.AttnSIdeal.nD,
      m' ((c.tc : Thread Cert.AttnSRefIdeal.nD Cert.AttnSRefIdeal.τ).loc Cert.AttnSRefIdeal.main_arg0) = m ((c.tc : Thread Cert.AttnSIdeal.nD Cert.AttnSIdeal.τ).loc Cert.AttnSIdeal.main_arg0)
      ∧ m' ((c.tc : Thread Cert.AttnSRefIdeal.nD Cert.AttnSRefIdeal.τ).loc Cert.AttnSRefIdeal.main_arg1) = m ((c.tc : Thread Cert.AttnSIdeal.nD Cert.AttnSIdeal.τ).loc Cert.AttnSIdeal.main_arg1)
      ∧ m' ((c.tc : Thread Cert.AttnSRefIdeal.nD Cert.AttnSRefIdeal.τ).loc Cert.AttnSRefIdeal.main_arg2) = m ((c.tc : Thread Cert.AttnSIdeal.nD Cert.AttnSIdeal.τ).loc Cert.AttnSIdeal.main_arg2)
      ∧ m' ((c.tc : Thread Cert.AttnSRefIdeal.nD Cert.AttnSRefIdeal.τ).loc Cert.AttnSRefIdeal.main_arg3) = m ((c.tc : Thread Cert.AttnSIdeal.nD Cert.AttnSIdeal.τ).loc Cert.AttnSIdeal.main_arg3)
      ∧ m' ((c.tc : Thread Cert.AttnSRefIdeal.nD Cert.AttnSRefIdeal.τ).loc Cert.AttnSRefIdeal.main_arg4) = m ((c.tc : Thread Cert.AttnSIdeal.nD Cert.AttnSIdeal.τ).loc Cert.AttnSIdeal.main_arg4)) →
    ∃ (v0 : (c : Dev Cert.AttnSIdeal.nD) → Buf (Elt Ideal) ((c.tc : Thread Cert.AttnSIdeal.nD Cert.AttnSIdeal.τ).loc Cert.AttnSIdeal.main_v39)),
      θ_run (Cert.AttnSIdeal.defs (F := Ideal)) (onTc (τ := Cert.AttnSIdeal.τ) (Cert.AttnSIdeal.main (F := Ideal))) ⟨m, fun _ => 0, g⟩ (fun r => ∀ c : Dev Cert.AttnSIdeal.nD,
          r.2.mem ((c.tc : Thread Cert.AttnSIdeal.nD Cert.AttnSIdeal.τ).loc Cert.AttnSIdeal.main_v39) = v0 c
          ∧ r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
          ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
          ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
          ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
          ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4))
      ∧ θ_run (Cert.AttnSRefIdeal.defs (F := Ideal)) (onTc (τ := Cert.AttnSRefIdeal.τ) (Cert.AttnSRefIdeal.main (F := Ideal))) ⟨m', fun _ => 0, g'⟩ (fun r => ∀ c : Dev Cert.AttnSRefIdeal.nD,
          r.2.mem ((c.tc : Thread Cert.AttnSRefIdeal.nD Cert.AttnSRefIdeal.τ).loc Cert.AttnSRefIdeal.main_v63) = v0 c
          ∧ r.2.mem ((c.tc : Thread Cert.AttnSRefIdeal.nD Cert.AttnSRefIdeal.τ).loc Cert.AttnSRefIdeal.main_arg0) = m' ((c.tc : Thread Cert.AttnSRefIdeal.nD Cert.AttnSRefIdeal.τ).loc Cert.AttnSRefIdeal.main_arg0)
          ∧ r.2.mem ((c.tc : Thread Cert.AttnSRefIdeal.nD Cert.AttnSRefIdeal.τ).loc Cert.AttnSRefIdeal.main_arg1) = m' ((c.tc : Thread Cert.AttnSRefIdeal.nD Cert.AttnSRefIdeal.τ).loc Cert.AttnSRefIdeal.main_arg1)
          ∧ r.2.mem ((c.tc : Thread Cert.AttnSRefIdeal.nD Cert.AttnSRefIdeal.τ).loc Cert.AttnSRefIdeal.main_arg2) = m' ((c.tc : Thread Cert.AttnSRefIdeal.nD Cert.AttnSRefIdeal.τ).loc Cert.AttnSRefIdeal.main_arg2)
          ∧ r.2.mem ((c.tc : Thread Cert.AttnSRefIdeal.nD Cert.AttnSRefIdeal.τ).loc Cert.AttnSRefIdeal.main_arg3) = m' ((c.tc : Thread Cert.AttnSRefIdeal.nD Cert.AttnSRefIdeal.τ).loc Cert.AttnSRefIdeal.main_arg3)
          ∧ r.2.mem ((c.tc : Thread Cert.AttnSRefIdeal.nD Cert.AttnSRefIdeal.τ).loc Cert.AttnSRefIdeal.main_arg4) = m' ((c.tc : Thread Cert.AttnSRefIdeal.nD Cert.AttnSRefIdeal.τ).loc Cert.AttnSRefIdeal.main_arg4))

def preserves_Bias_BiasIdeal : Prop :=
  True

def algebraic_BiasIdeal_BiasRefIdeal_pre_known_buckets [hBiasIdeal : Cert.BiasIdeal.Facts] [hBiasRefIdeal : Cert.BiasRefIdeal.Facts] [hPre_known_buckets : Cert.Pre_known_buckets.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal_known_buckets m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)
      ∧ m' ((c.tc : Thread Cert.BiasRefIdeal.nD Cert.BiasRefIdeal.τ).loc Cert.BiasRefIdeal.main_arg1) = m ((c.tc : Thread Cert.BiasIdeal.nD Cert.BiasIdeal.τ).loc Cert.BiasIdeal.main_arg1)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
          ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v5) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0)
          ∧ r.2.mem ((c.tc : Thread Cert.BiasRefIdeal.nD Cert.BiasRefIdeal.τ).loc Cert.BiasRefIdeal.main_arg1) = m' ((c.tc : Thread Cert.BiasRefIdeal.nD Cert.BiasRefIdeal.τ).loc Cert.BiasRefIdeal.main_arg1))

def Claim : Prop :=
  ∃ (hQkv : Cert.Qkv.Facts) (hQkvIdeal : Cert.QkvIdeal.Facts) (hQkvRefIdeal : Cert.QkvRefIdeal.Facts) (hBch : Cert.Bch.Facts) (hBchIdeal : Cert.BchIdeal.Facts) (hBchRefIdeal : Cert.BchRefIdeal.Facts) (hWo : Cert.Wo.Facts) (hWoIdeal : Cert.WoIdeal.Facts) (hWoRefIdeal : Cert.WoRefIdeal.Facts) (hConvP : Cert.ConvP.Facts) (hConvPIdeal : Cert.ConvPIdeal.Facts) (hConvPRefIdeal : Cert.ConvPRefIdeal.Facts) (hConvS : Cert.ConvS.Facts) (hConvSIdeal : Cert.ConvSIdeal.Facts) (hConvSRefIdeal : Cert.ConvSRefIdeal.Facts) (hFin : Cert.Fin.Facts) (hFinIdeal : Cert.FinIdeal.Facts) (hFinRefIdeal : Cert.FinRefIdeal.Facts) (hAttn : Cert.Attn.Facts) (hAttnIdeal : Cert.AttnIdeal.Facts) (hAttnRefIdeal : Cert.AttnRefIdeal.Facts) (hAttnS : Cert.AttnS.Facts) (hAttnSIdeal : Cert.AttnSIdeal.Facts) (hAttnSRefIdeal : Cert.AttnSRefIdeal.Facts) (hBias : Cert.Bias.Facts) (hBiasIdeal : Cert.BiasIdeal.Facts) (hBiasRefIdeal : Cert.BiasRefIdeal.Facts) (hPre_finite_inputs : Cert.Pre_finite_inputs.Facts) (hPre_finite_sample : Cert.Pre_finite_sample.Facts) (hPre_known_buckets : Cert.Pre_known_buckets.Facts),
    quiescent_Qkv (hQkv := hQkv)
    ∧ quiescent_QkvIdeal (hQkvIdeal := hQkvIdeal)
    ∧ quiescent_QkvRefIdeal (hQkvRefIdeal := hQkvRefIdeal)
    ∧ quiescent_Bch (hBch := hBch)
    ∧ quiescent_BchIdeal (hBchIdeal := hBchIdeal)
    ∧ quiescent_BchRefIdeal (hBchRefIdeal := hBchRefIdeal)
    ∧ quiescent_Wo (hWo := hWo)
    ∧ quiescent_WoIdeal (hWoIdeal := hWoIdeal)
    ∧ quiescent_WoRefIdeal (hWoRefIdeal := hWoRefIdeal)
    ∧ quiescent_ConvP (hConvP := hConvP)
    ∧ quiescent_ConvPIdeal (hConvPIdeal := hConvPIdeal)
    ∧ quiescent_ConvPRefIdeal (hConvPRefIdeal := hConvPRefIdeal)
    ∧ quiescent_ConvS (hConvS := hConvS)
    ∧ quiescent_ConvSIdeal (hConvSIdeal := hConvSIdeal)
    ∧ quiescent_ConvSRefIdeal (hConvSRefIdeal := hConvSRefIdeal)
    ∧ quiescent_Fin (hFin := hFin)
    ∧ quiescent_FinIdeal (hFinIdeal := hFinIdeal)
    ∧ quiescent_FinRefIdeal (hFinRefIdeal := hFinRefIdeal)
    ∧ quiescent_Attn (hAttn := hAttn)
    ∧ quiescent_AttnIdeal (hAttnIdeal := hAttnIdeal)
    ∧ quiescent_AttnIdeal_pre_finite_inputs (hAttnIdeal := hAttnIdeal) (hPre_finite_inputs := hPre_finite_inputs)
    ∧ quiescent_AttnRefIdeal (hAttnRefIdeal := hAttnRefIdeal)
    ∧ quiescent_AttnRefIdeal_pre_finite_inputs (hAttnRefIdeal := hAttnRefIdeal) (hPre_finite_inputs := hPre_finite_inputs)
    ∧ quiescent_AttnS (hAttnS := hAttnS)
    ∧ quiescent_AttnSIdeal (hAttnSIdeal := hAttnSIdeal)
    ∧ quiescent_AttnSIdeal_pre_finite_sample (hAttnSIdeal := hAttnSIdeal) (hPre_finite_sample := hPre_finite_sample)
    ∧ quiescent_AttnSRefIdeal (hAttnSRefIdeal := hAttnSRefIdeal)
    ∧ quiescent_AttnSRefIdeal_pre_finite_sample (hAttnSRefIdeal := hAttnSRefIdeal) (hPre_finite_sample := hPre_finite_sample)
    ∧ quiescent_Bias (hBias := hBias)
    ∧ quiescent_BiasIdeal (hBiasIdeal := hBiasIdeal)
    ∧ quiescent_BiasIdeal_pre_known_buckets (hBiasIdeal := hBiasIdeal) (hPre_known_buckets := hPre_known_buckets)
    ∧ quiescent_BiasRefIdeal (hBiasRefIdeal := hBiasRefIdeal)
    ∧ quiescent_BiasRefIdeal_pre_known_buckets (hBiasRefIdeal := hBiasRefIdeal) (hPre_known_buckets := hPre_known_buckets)
    ∧ preserves_Qkv_QkvIdeal
    ∧ algebraic_QkvIdeal_QkvRefIdeal (hQkvIdeal := hQkvIdeal) (hQkvRefIdeal := hQkvRefIdeal)
    ∧ preserves_Bch_BchIdeal
    ∧ algebraic_BchIdeal_BchRefIdeal (hBchIdeal := hBchIdeal) (hBchRefIdeal := hBchRefIdeal)
    ∧ preserves_Wo_WoIdeal
    ∧ algebraic_WoIdeal_WoRefIdeal (hWoIdeal := hWoIdeal) (hWoRefIdeal := hWoRefIdeal)
    ∧ preserves_ConvP_ConvPIdeal
    ∧ algebraic_ConvPIdeal_ConvPRefIdeal (hConvPIdeal := hConvPIdeal) (hConvPRefIdeal := hConvPRefIdeal)
    ∧ preserves_ConvS_ConvSIdeal
    ∧ algebraic_ConvSIdeal_ConvSRefIdeal (hConvSIdeal := hConvSIdeal) (hConvSRefIdeal := hConvSRefIdeal)
    ∧ preserves_Fin_FinIdeal
    ∧ algebraic_FinIdeal_FinRefIdeal (hFinIdeal := hFinIdeal) (hFinRefIdeal := hFinRefIdeal)
    ∧ preserves_Attn_AttnIdeal
    ∧ algebraic_AttnIdeal_AttnRefIdeal_pre_finite_inputs (hAttnIdeal := hAttnIdeal) (hAttnRefIdeal := hAttnRefIdeal) (hPre_finite_inputs := hPre_finite_inputs)
    ∧ preserves_AttnS_AttnSIdeal
    ∧ algebraic_AttnSIdeal_AttnSRefIdeal_pre_finite_sample (hAttnSIdeal := hAttnSIdeal) (hAttnSRefIdeal := hAttnSRefIdeal) (hPre_finite_sample := hPre_finite_sample)
    ∧ preserves_Bias_BiasIdeal
    ∧ algebraic_BiasIdeal_BiasRefIdeal_pre_known_buckets (hBiasIdeal := hBiasIdeal) (hBiasRefIdeal := hBiasRefIdeal) (hPre_known_buckets := hPre_known_buckets)
-- ==== Pre_finite_inputs.lean ====
abbrev S16896x1536 : Shape := ⟨2, ![16896, 1536]⟩
abbrev S16 : Shape := ⟨1, ![16]⟩
abbrev S16x128x256 : Shape := ⟨3, ![16, 128, 256]⟩
abbrev S16896x1280 : Shape := ⟨2, ![16896, 1280]⟩
abbrev S_ : Shape := ⟨0, ![]⟩

class Facts : Prop where
  slices_S16896x1536_S16896x1280_0_0 : S16896x1536.Slices ![0, 0] S16896x1280
  bcast_S_S16896x1280 : S_.BroadcastsInDim S16896x1280 (![] : Fin 0 → Fin S16896x1280.rank)
  reducesTo_S16896x1280_S_d0_1 : S16896x1280.ReducesTo [0, 1] S_
  h_S_ : 0 < S_.numel
  bcast_S_S16 : S_.BroadcastsInDim S16 (![] : Fin 0 → Fin S16.rank)
  reducesTo_S16_S_d0 : S16.ReducesTo [0] S_
  bcast_S_S16x128x256 : S_.BroadcastsInDim S16x128x256 (![] : Fin 0 → Fin S16x128x256.rank)
  reducesTo_S16x128x256_S_d0_1_2 : S16x128x256.ReducesTo [0, 1, 2] S_

variable [Facts]

def fn {F : FTy → Type} [FloatOps F] (main_arg0 : FVec F S16896x1536 .f32) (main_arg1 : FVec F S16 .f32) (main_arg2 : FVec F S16x128x256 .f32) : IVec S_ 1 :=
  let main_v0 : FVec F S16896x1280 .f32 := (extractStridedSlice S16896x1280 ![0, 0] · slices_S16896x1536_S16896x1280_0_0) main_arg0
  let main_v1 : FVec F S16896x1280 .f32 := Host.absf main_v0
  let main_cst : FVec F S_ .f32 := constant S_ .f32 0x7F800000#32
  let main_v2 : FVec F S16896x1280 .f32 := broadcastInDim S16896x1280 ![] bcast_S_S16896x1280 main_cst
  let main_v3 : IVec S16896x1280 1 := cmpf .olt main_v1 main_v2
  let main_c : IVec S_ 1 := constantI S_ 1 1#1
  let main_v4 : IVec S_ 1 := (fun x v => Host.reduce IntOp.andi x v reducesTo_S16896x1280_S_d0_1 h_S_) main_v3 main_c
  let main_v5 : FVec F S16 .f32 := Host.absf main_arg1
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  let main_cst_2 : FVec F S_ .f32 := constant S_ .f32 0x7F800000#32
  let main_v10 : FVec F S16x128x256 .f32 := broadcastInDim S16x128x256 ![] bcast_S_S16x128x256 main_cst_2
  let main_v11 : IVec S16x128x256 1 := cmpf .olt main_arg2 main_v10
  let main_c_3 : IVec S_ 1 := constantI S_ 1 1#1
  let main_v12 : IVec S_ 1 := (fun x v => Host.reduce IntOp.andi x v reducesTo_S16x128x256_S_d0_1_2 h_S_) main_v11 main_c_3
  let main_v13 : IVec S_ 1 := andi main_v9 main_v12
  main_v13
-- ==== Pre_finite_sample.lean ====
abbrev S512x1536 : Shape := ⟨2, ![512, 1536]⟩
abbrev S128x128x4x64 : Shape := ⟨4, ![128, 128, 4, 64]⟩
abbrev S16 : Shape := ⟨1, ![16]⟩
abbrev S16x4x132 : Shape := ⟨3, ![16, 4, 132]⟩
abbrev S512x1280 : Shape := ⟨2, ![512, 1280]⟩
abbrev S_ : Shape := ⟨0, ![]⟩

class Facts : Prop where
  slices_S512x1536_S512x1280_0_0 : S512x1536.Slices ![0, 0] S512x1280
  bcast_S_S512x1280 : S_.BroadcastsInDim S512x1280 (![] : Fin 0 → Fin S512x1280.rank)
  reducesTo_S512x1280_S_d0_1 : S512x1280.ReducesTo [0, 1] S_
  h_S_ : 0 < S_.numel
  bcast_S_S128x128x4x64 : S_.BroadcastsInDim S128x128x4x64 (![] : Fin 0 → Fin S128x128x4x64.rank)
  reducesTo_S128x128x4x64_S_d0_1_2_3 : S128x128x4x64.ReducesTo [0, 1, 2, 3] S_
  bcast_S_S16 : S_.BroadcastsInDim S16 (![] : Fin 0 → Fin S16.rank)
  reducesTo_S16_S_d0 : S16.ReducesTo [0] S_
  bcast_S_S16x4x132 : S_.BroadcastsInDim S16x4x132 (![] : Fin 0 → Fin S16x4x132.rank)
  reducesTo_S16x4x132_S_d0_1_2 : S16x4x132.ReducesTo [0, 1, 2] S_

variable [Facts]

def fn_part1 {F : FTy → Type} [FloatOps F] (main_v14 : IVec S_ 1) (main_v16 : IVec S16x4x132 1) : IVec S_ 1 :=
  let main_c_5 : IVec S_ 1 := constantI S_ 1 1#1
  let main_v17 : IVec S_ 1 := (fun x v => Host.reduce IntOp.andi x v reducesTo_S16x4x132_S_d0_1_2 h_S_) main_v16 main_c_5
  let main_v18 : IVec S_ 1 := andi main_v14 main_v17
  main_v18

def fn {F : FTy → Type} [FloatOps F] (main_arg0 : FVec F S512x1536 .f32) (main_arg1 : FVec F S128x128x4x64 .f32) (main_arg2 : FVec F S128x128x4x64 .f32) (main_arg3 : FVec F S16 .f32) (main_arg4 : FVec F S16x4x132 .f32) : IVec S_ 1 :=
  let main_v0 : FVec F S512x1280 .f32 := (extractStridedSlice S512x1280 ![0, 0] · slices_S512x1536_S512x1280_0_0) main_arg0
  let main_v1 : FVec F S512x1280 .f32 := Host.absf main_v0
  let main_cst : FVec F S_ .f32 := constant S_ .f32 0x7F800000#32
  let main_v2 : FVec F S512x1280 .f32 := broadcastInDim S512x1280 ![] bcast_S_S512x1280 main_cst
  let main_v3 : IVec S512x1280 1 := cmpf .olt main_v1 main_v2
  let main_c : IVec S_ 1 := constantI S_ 1 1#1
  let main_v4 : IVec S_ 1 := (fun x v => Host.reduce IntOp.andi x v reducesTo_S512x1280_S_d0_1 h_S_) main_v3 main_c
  let main_v5 : FVec F S128x128x4x64 .f32 := Host.absf main_arg1
  let main_cst_0 : FVec F S_ .f32 := constant S_ .f32 0x7F800000#32
  let main_v6 : FVec F S128x128x4x64 .f32 := broadcastInDim S128x128x4x64 ![] bcast_S_S128x128x4x64 main_cst_0
  let main_v7 : IVec S128x128x4x64 1 := cmpf .olt main_v5 main_v6
  let main_c_1 : IVec S_ 1 := constantI S_ 1 1#1
  let main_v8 : IVec S_ 1 := (fun x v => Host.reduce IntOp.andi x v reducesTo_S128x128x4x64_S_d0_1_2_3 h_S_) main_v7 main_c_1
  let main_v9 : IVec S_ 1 := andi main_v4 main_v8
  let main_v10 : FVec F S16 .f32 := Host.absf main_arg3
  let main_cst_2 : FVec F S_ .f32 := constant S_ .f32 0x7F800000#32
  let main_v11 : FVec F S16 .f32 := broadcastInDim S16 ![] bcast_S_S16 main_cst_2
  let main_v12 : IVec S16 1 := cmpf .olt main_v10 main_v11
  let main_c_3 : IVec S_ 1 := constantI S_ 1 1#1
  let main_v13 : IVec S_ 1 := (fun x v => Host.reduce IntOp.andi x v reducesTo_S16_S_d0 h_S_) main_v12 main_c_3
  let main_v14 : IVec S_ 1 := andi main_v9 main_v13
  let main_cst_4 : FVec F S_ .f32 := constant S_ .f32 0x7F800000#32
  let main_v15 : FVec F S16x4x132 .f32 := broadcastInDim S16x4x132 ![] bcast_S_S16x4x132 main_cst_4
  let main_v16 : IVec S16x4x132 1 := cmpf .olt main_arg4 main_v15
  fn_part1 (F := F) main_v14 main_v16
-- ==== Pre_known_buckets.lean ====
abbrev S32x16 : Shape := ⟨2, ![32, 16]⟩
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S32x16 .f32) (main_arg1 : IVec S256x256 32) : IVec S_ 1 :=
  let main_c : IVec S_ 32 := constantI S_ 32 32#32
  let main_v0 : IVec S256x256 32 := broadcastInDim S256x256 ![] bcast_S_S256x256 main_c
  let main_v1 : IVec S256x256 1 := cmpi .slt main_arg1 main_v0
  let main_c_0 : IVec S_ 1 := constantI S_ 1 1#1
  let main_v2 : IVec S_ 1 := (fun x v => Host.reduce IntOp.andi x v reducesTo_S256x256_S_d0_1 h_S_) main_v1 main_c_0
  main_v2
-- ==== Qkv.lean ====
abbrev S16896x1024 : Shape := ⟨2, ![16896, 1024]⟩
abbrev S1024 : Shape := ⟨1, ![1024]⟩
abbrev S1024x1536 : Shape := ⟨2, ![1024, 1536]⟩
abbrev S1x1024 : Shape := ⟨2, ![1, 1024]⟩
abbrev S16896x1536 : Shape := ⟨2, ![16896, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x1536, .f32⟩
  | .hbm, ⟨3, _⟩ => ⟨S1024x1536, .bf16⟩
  | .hbm, ⟨4, _⟩ => ⟨S1x1024, .f32⟩
  | .hbm, ⟨5, _⟩ => ⟨S16896x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QkvRefIdeal.lean ====
abbrev S16896x1024 : Shape := ⟨2, ![16896, 1024]⟩
abbrev S1024 : Shape := ⟨1, ![1024]⟩
abbrev S1024x1536 : Shape := ⟨2, ![1024, 1536]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x1536 : Shape := ⟨2, ![16896, 1536]⟩

abbrev nBuf : Space → Nat
  | .hbm => 20
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x1536, .f32⟩
  | .hbm, ⟨3, _⟩ => ⟨S16896x1024, .f32⟩
  | .hbm, ⟨4, _⟩ => ⟨S_, .f32⟩
  | .hbm, ⟨5, _⟩ => ⟨S16896, .f32⟩
  | .hbm, ⟨6, _⟩ => ⟨S16896x1, .f32⟩
  | .hbm, ⟨7, _⟩ => ⟨S_, .f32⟩
  | .hbm, ⟨8, _⟩ => ⟨S16896x1, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S16896x1, .f32⟩
  | .hbm, ⟨14, _⟩ => ⟨S16896x1024, .f32⟩
  | .hbm, ⟨15, _⟩ => ⟨S16896x1024, .f32⟩
  | .hbm, ⟨16, _⟩ => ⟨S1x1024, .f32⟩
  | .hbm, ⟨17, _⟩ => ⟨S16896x1024, .f32⟩
  | .hbm, ⟨18, _⟩ => ⟨S16896x1024, .f32⟩
  | .hbm, ⟨19, _⟩ => ⟨S16896x1536, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Bch.lean ====
abbrev S16896x1024 : Shape := ⟨2, ![16896, 1024]⟩
abbrev S1024 : Shape := ⟨1, ![1024]⟩
abbrev S1024x3072 : Shape := ⟨2, ![1024, 3072]⟩
abbrev S1x1024 : Shape := ⟨2, ![1, 1024]⟩
abbrev S16896x3072 : Shape := ⟨2, ![16896, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S16896x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== BchRefIdeal.lean ====
abbrev S16896x1024 : Shape := ⟨2, ![16896, 1024]⟩
abbrev S1024 : Shape := ⟨1, ![1024]⟩
abbrev S1024x3072 : Shape := ⟨2, ![1024, 3072]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x3072 : Shape := ⟨2, ![16896, 3072]⟩

abbrev nBuf : Space → Nat
  | .hbm => 20
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x3072, .f32⟩
  | .hbm, ⟨3, _⟩ => ⟨S16896x1024, .f32⟩
  | .hbm, ⟨4, _⟩ => ⟨S_, .f32⟩
  | .hbm, ⟨5, _⟩ => ⟨S16896, .f32⟩
  | .hbm, ⟨6, _⟩ => ⟨S16896x1, .f32⟩
  | .hbm, ⟨7, _⟩ => ⟨S_, .f32⟩
  | .hbm, ⟨8, _⟩ => ⟨S16896x1, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S16896x1, .f32⟩
  | .hbm, ⟨14, _⟩ => ⟨S16896x1024, .f32⟩
  | .hbm, ⟨15, _⟩ => ⟨S16896x1024, .f32⟩
  | .hbm, ⟨16, _⟩ => ⟨S1x1024, .f32⟩
  | .hbm, ⟨17, _⟩ => ⟨S16896x1024, .f32⟩
  | .hbm, ⟨18, _⟩ => ⟨S16896x1024, .f32⟩
  | .hbm, ⟨19, _⟩ => ⟨S16896x3072, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Wo.lean ====
abbrev S16896x1024 : Shape := ⟨2, ![16896, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16896x1024, .bf16⟩
  | .hbm, ⟨1, _⟩ => ⟨S1024x1024, .f32⟩
  | .hbm, ⟨2, _⟩ => ⟨S16896x1024, .f32⟩
  | .hbm, ⟨3, _⟩ => ⟨S1024x1024, .bf16⟩
  | .hbm, ⟨4, _⟩ => ⟨S16896x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== WoRefIdeal.lean ====
abbrev S16896x1024 : Shape := ⟨2, ![16896, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S1024x1024, .f32⟩
  | .hbm, ⟨2, _⟩ => ⟨S16896x1024, .f32⟩
  | .hbm, ⟨3, _⟩ => ⟨S16896x1024, .f32⟩
  | .hbm, ⟨4, _⟩ => ⟨S16896x1024, .f32⟩
  | .hbm, ⟨5, _⟩ => ⟨S16896x1024, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ConvP.lean ====
abbrev S16896x3072 : Shape := ⟨2, ![16896, 3072]⟩
abbrev S3x1024 : Shape := ⟨2, ![3, 1024]⟩
abbrev S1024x1024 : Shape := ⟨2, ![1024, 1024]⟩
abbrev S16896x1024 : Shape := ⟨2, ![16896, 1024]⟩
abbrev S16384x1024 : Shape := ⟨2, ![16384, 1024]⟩
abbrev S256x1024 : Shape := ⟨2, ![256, 1024]⟩
abbrev S512x3072 : Shape := ⟨2, ![512, 3072]⟩
abbrev S512x1024 : Shape := ⟨2, ![512, 1024]⟩
abbrev S8x1024 : Shape := ⟨2, ![8, 1024]⟩
abbrev S520x1024 : Shape := ⟨2, ![520, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S16896x3072, .f32⟩
  | .hbm, ⟨1, _⟩ => ⟨S3x1024, .f32⟩
  | .hbm, ⟨2, _⟩ => ⟨S1024x1024, .f32⟩
  | .hbm, ⟨3, _⟩ => ⟨S16896x1024, .f32⟩
  | .hbm, ⟨4, _⟩ => ⟨S1024x1024, .bf16⟩
  | .hbm, ⟨5, _⟩ => ⟨S16384x1024, .f32⟩
  | .hbm, ⟨6, _⟩ => ⟨S256x1024, .f32⟩
  | .local _ .vmem, ⟨0, _⟩ => ⟨S512x3072, .f32⟩
  | .local _ .vmem, ⟨1, _⟩ => ⟨S512x3072, .f32⟩
  | .local _ .vmem, ⟨2, _⟩ => ⟨S3x1024, .f32⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S8x1024, .f32⟩
  | .local _ .vmem, ⟨10, _⟩ => ⟨S520x1024, .f32⟩
  | _, _ => ⟨S16896x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvPRefIdeal.lean ====
abbrev S16896x3072 : Shape := ⟨2, ![16896, 3072]⟩
abbrev S3x1024 : Shape := ⟨2, ![3, 1024]⟩
abbrev S1024x1024 : Shape := ⟨2, ![1024, 1024]⟩
abbrev S16896x1024 : Shape := ⟨2, ![16896, 1024]⟩
abbrev S_ : Shape := ⟨0, ![]⟩
abbrev S4x2x1024 : Shape := ⟨3, ![4, 2, 1024]⟩
abbrev S16384x3072 : Shape := ⟨2, ![16384, 3072]⟩
abbrev S4x4096x3072 : Shape := ⟨3, ![4, 4096, 3072]⟩
abbrev S4x4096x1024 : Shape := ⟨3, ![4, 4096, 1024]⟩
abbrev S4x4098x1024 : Shape := ⟨3, ![4, 4098, 1024]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩
abbrev S4x8x512x1024 : Shape := ⟨4, ![4, 8, 512, 1024]⟩
abbrev S4x8x8x1024 : Shape := ⟨4, ![4, 8, 8, 1024]⟩
abbrev S256x1024 : Shape := ⟨2, ![256, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16896x3072, .f32⟩
  | .hbm, ⟨1, _⟩ => ⟨S3x1024, .f32⟩
  | .hbm, ⟨2, _⟩ => ⟨S1024x1024, .f32⟩
  | .hbm, ⟨3, _⟩ => ⟨S16896x1024, .f32⟩
  | .hbm, ⟨4, _⟩ => ⟨S_, .f32⟩
  | .hbm, ⟨5, _⟩ => ⟨S4x2x1024, .f32⟩
  | .hbm, ⟨6, _⟩ => ⟨S16384x3072, .f32⟩
  | .hbm, ⟨7, _⟩ => ⟨S4x4096x3072, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4098x1024, .f32⟩
  | .hbm, ⟨13, _⟩ => ⟨S1x1024, .f32⟩
  | .hbm, ⟨14, _⟩ => ⟨S1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S4x4096x1024, .f32⟩
  | .hbm, ⟨21, _⟩ => ⟨S4x4096x1024, .f32⟩
  | .hbm, ⟨22, _⟩ => ⟨S1x1024, .f32⟩
  | .hbm, ⟨23, _⟩ => ⟨S1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S1x1024, .f32⟩
  | .hbm, ⟨30, _⟩ => ⟨S1024, .f32⟩
  | .hbm, ⟨31, _⟩ => ⟨S4x4096x1024, .f32⟩
  | .hbm, ⟨32, _⟩ => ⟨S1x1x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S16384x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x8x512x1024, .f32⟩
  | .hbm, ⟨43, _⟩ => ⟨S4x8x8x1024, .f32⟩
  | .hbm, ⟨44, _⟩ => ⟨S16384x1024, .f32⟩
  | .hbm, ⟨45, _⟩ => ⟨S256x1024, .f32⟩
  | _, _ => ⟨S16896x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== ConvS.lean ====
abbrev S512x3072 : Shape := ⟨2, ![512, 3072]⟩
abbrev S128x2x1024 : Shape := ⟨3, ![128, 2, 1024]⟩
abbrev S3x1024 : Shape := ⟨2, ![3, 1024]⟩
abbrev S1024x1024 : Shape := ⟨2, ![1024, 1024]⟩
abbrev S512x1024 : Shape := ⟨2, ![512, 1024]⟩
abbrev S2x128x1024 : Shape := ⟨3, ![2, 128, 1024]⟩
abbrev S256x1024 : Shape := ⟨2, ![256, 1024]⟩
abbrev S128x1024 : Shape := ⟨2, ![128, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S512x3072, .f32⟩
  | .hbm, ⟨1, _⟩ => ⟨S128x2x1024, .f32⟩
  | .hbm, ⟨2, _⟩ => ⟨S3x1024, .f32⟩
  | .hbm, ⟨3, _⟩ => ⟨S1024x1024, .f32⟩
  | .hbm, ⟨4, _⟩ => ⟨S512x1024, .f32⟩
  | .hbm, ⟨5, _⟩ => ⟨S2x128x1024, .f32⟩
  | .hbm, ⟨6, _⟩ => ⟨S256x1024, .f32⟩
  | .hbm, ⟨7, _⟩ => ⟨S1024x1024, .bf16⟩
  | .hbm, ⟨8, _⟩ => ⟨S512x1024, .f32⟩
  | .hbm, ⟨9, _⟩ => ⟨S512x1024, .f32⟩
  | .local _ .vmem, ⟨0, _⟩ => ⟨S512x3072, .f32⟩
  | .local _ .vmem, ⟨1, _⟩ => ⟨S256x1024, .f32⟩
  | .local _ .vmem, ⟨2, _⟩ => ⟨S3x1024, .f32⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S512x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ConvSRefIdeal.lean ====
abbrev S512x3072 : Shape := ⟨2, ![512, 3072]⟩
abbrev S128x2x1024 : Shape := ⟨3, ![128, 2, 1024]⟩
abbrev S3x1024 : Shape := ⟨2, ![3, 1024]⟩
abbrev S1024x1024 : Shape := ⟨2, ![1024, 1024]⟩
abbrev S512x1024 : Shape := ⟨2, ![512, 1024]⟩
abbrev S4x128x3072 : Shape := ⟨3, ![4, 128, 3072]⟩
abbrev S128x4x3072 : Shape := ⟨3, ![128, 4, 3072]⟩
abbrev S128x4x1024 : Shape := ⟨3, ![128, 4, 1024]⟩
abbrev S128x6x1024 : Shape := ⟨3, ![128, 6, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S4x128x1024 : Shape := ⟨3, ![4, 128, 1024]⟩

abbrev nBuf : Space → Nat
  | .hbm => 44
  | .vmem => 0
  | .smem => 0
  | _ => 0

abbrev bufTy : (tb : Table) → Fin (tcTables nBuf tb) → BufTy
  | .hbm, ⟨0, _⟩ => ⟨S512x3072, .f32⟩
  | .hbm, ⟨1, _⟩ => ⟨S128x2x1024, .f32⟩
  | .hbm, ⟨2, _⟩ => ⟨S3x1024, .f32⟩
  | .hbm, ⟨3, _⟩ => ⟨S1024x1024, .f32⟩
  | .hbm, ⟨4, _⟩ => ⟨S512x1024, .f32⟩
  | .hbm, ⟨5, _⟩ => ⟨S4x128x3072, .f32⟩
  | .hbm, ⟨6, _⟩ => ⟨S128x4x3072, .f32⟩
  | .hbm, ⟨7, _⟩ => ⟨S128x4x1024, .f32⟩
  | .hbm, ⟨8, _⟩ => ⟨S128x4x1024, .f32⟩
  | .hbm, ⟨9, _⟩ => ⟨S128x4x1024, .f32⟩
  | .hbm, ⟨10, _⟩ => ⟨S128x4x1024, .f32⟩
  | .hbm, ⟨11, _⟩ => ⟨S128x6x1024, .f32⟩
  | .hbm, ⟨12, _⟩ => ⟨S1x1024, .f32⟩
  | .hbm, ⟨13, _⟩ => ⟨S1024, .f32⟩
  | .hbm, ⟨14, _⟩ => ⟨S128x4x1024, .f32⟩
  | .hbm, ⟨15, _⟩ => ⟨S1x1x1024, .f32⟩
  | .hbm, ⟨16, _⟩ => ⟨S128x4x1024, .f32⟩
  | .hbm, ⟨17, _⟩ => ⟨S128x4x1024, .f32⟩
  | .hbm, ⟨18, _⟩ => ⟨S_, .f32⟩
  | .hbm, ⟨19, _⟩ => ⟨S128x4x1024, .f32⟩
  | .hbm, ⟨20, _⟩ => ⟨S128x4x1024, .f32⟩
  | .hbm, ⟨21, _⟩ => ⟨S1x1024, .f32⟩
  | .hbm, ⟨22, _⟩ => ⟨S1024, .f32⟩
  | .hbm, ⟨23, _⟩ => ⟨S128x4x1024, .f32⟩
  | .hbm, ⟨24, _⟩ => ⟨S1x1x1024, .f32⟩
  | .hbm, ⟨25, _⟩ => ⟨S128x4x1024, .f32⟩
  | .hbm, ⟨26, _⟩ => ⟨S128x4x1024, .f32⟩
  | .hbm, ⟨27, _⟩ => ⟨S128x4x1024, .f32⟩
  | .hbm, ⟨28, _⟩ => ⟨S1x1024, .f32⟩
  | .hbm, ⟨29, _⟩ => ⟨S1024, .f32⟩
  | .hbm, ⟨30, _⟩ => ⟨S128x4x1024, .f32⟩
  | .hbm, ⟨31, _⟩ => ⟨S1x1x1024, .f32⟩
  | .hbm, ⟨32, _⟩ => ⟨S128x4x1024, .f32⟩
  | .hbm, ⟨33, _⟩ => ⟨S128x4x1024, .f32⟩
  | .hbm, ⟨34, _⟩ => ⟨S128x4x1024, .f32⟩
  | .hbm, ⟨35, _⟩ => ⟨S128x4x1024, .f32⟩
  | .hbm, ⟨36, _⟩ => ⟨S128x4x1024, .f32⟩
  | .hbm, ⟨37, _⟩ => ⟨S4x128x1024, .f32⟩
  | .hbm, ⟨38, _⟩ => ⟨S4x128x1024, .f32⟩
  | .hbm, ⟨39, _⟩ => ⟨S4x128x1024, .f32⟩
  | .hbm, ⟨40, _⟩ => ⟨S128x4x1024, .f32⟩
  | .hbm, ⟨41, _⟩ => ⟨S4x128x1024, .f32⟩
  | .hbm, ⟨42, _⟩ => ⟨S512x1024, .f32⟩
  | .hbm, ⟨43, _⟩ => ⟨S512x1024, .f32⟩
  | _, _ => ⟨S512x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== Fin.lean ====
abbrev S16896x1024 : Shape := ⟨2, ![16896, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1x1024, .f32⟩
  | .hbm, ⟨3, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinRefIdeal.lean ====
abbrev S16896x1024 : Shape := ⟨2, ![16896, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S16896x1024, .f32⟩
  | .hbm, ⟨3, _⟩ => ⟨S_, .f32⟩
  | .hbm, ⟨4, _⟩ => ⟨S16896, .f32⟩
  | .hbm, ⟨5, _⟩ => ⟨S16896x1, .f32⟩
  | .hbm, ⟨6, _⟩ => ⟨S_, .f32⟩
  | .hbm, ⟨7, _⟩ => ⟨S16896x1, .f32⟩
  | .hbm, ⟨8, _⟩ => ⟨S16896x1, .f32⟩
  | .hbm, ⟨9, _⟩ => ⟨S_, .f32⟩
  | .hbm, ⟨10, _⟩ => ⟨S16896x1, .f32⟩
  | .hbm, ⟨11, _⟩ => ⟨S16896x1, .f32⟩
  | .hbm, ⟨12, _⟩ => ⟨S16896x1, .f32⟩
  | .hbm, ⟨13, _⟩ => ⟨S16896x1024, .f32⟩
  | .hbm, ⟨14, _⟩ => ⟨S16896x1024, .f32⟩
  | .hbm, ⟨15, _⟩ => ⟨S1x1024, .f32⟩
  | .hbm, ⟨16, _⟩ => ⟨S16896x1024, .f32⟩
  | .hbm, ⟨17, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Attn.lean ====
abbrev S16896x1536 : Shape := ⟨2, ![16896, 1536]⟩
abbrev S16 : Shape := ⟨1, ![16]⟩
abbrev S16x128x256 : Shape := ⟨3, ![16, 128, 256]⟩
abbrev S128x256 : Shape := ⟨2, ![128, 256]⟩
abbrev S_ : Shape := ⟨0, ![]⟩
abbrev S1x128x256 : Shape := ⟨3, ![1, 128, 256]⟩
abbrev S16x256x256 : Shape := ⟨3, ![16, 256, 256]⟩
abbrev S16384x1024 : Shape := ⟨2, ![16384, 1024]⟩
abbrev S128x1024 : Shape := ⟨2, ![128, 1024]⟩
abbrev S128x64 : Shape := ⟨2, ![128, 64]⟩
abbrev S512x64 : Shape := ⟨2, ![512, 64]⟩
abbrev S512x256 : Shape := ⟨2, ![512, 256]⟩
abbrev S1 : Shape := ⟨1, ![1]⟩
abbrev S128x1 : Shape := ⟨2, ![128, 1]⟩
abbrev S512x1 : Shape := ⟨2, ![512, 1]⟩
abbrev S512x128 : Shape := ⟨2, ![512, 128]⟩
abbrev S512 : Shape := ⟨1, ![512]⟩

abbrev nBuf : Space → Nat
  | .hbm => 33
  | .vmem => 14
  | .smem => 1
  | _ => 0

abbrev bufTy : (tb : Table) → Fin (tcTables nBuf tb) → BufTy
  | .hbm, ⟨0, _⟩ => ⟨S16896x1536, .f32⟩
  | .hbm, ⟨1, _⟩ => ⟨S16, .f32⟩
  | .hbm, ⟨2, _⟩ => ⟨S16x128x256, .f32⟩
  | .hbm, ⟨3, _⟩ => ⟨S128x256, .i32⟩
  | .hbm, ⟨4, _⟩ => ⟨S128x256, .i32⟩
  | .hbm, ⟨5, _⟩ => ⟨S128x256, .i32⟩
  | .hbm, ⟨6, _⟩ => ⟨S_, .i32⟩
  | .hbm, ⟨7, _⟩ => ⟨S128x256, .i32⟩
  | .hbm, ⟨8, _⟩ => ⟨S128x256, .i32⟩
  | .hbm, ⟨9, _⟩ => ⟨S_, .i32⟩
  | .hbm, ⟨10, _⟩ => ⟨S128x256, .i32⟩
  | .hbm, ⟨11, _⟩ => ⟨S128x256, .i1⟩
  | .hbm, ⟨12, _⟩ => ⟨S_, .i32⟩
  | .hbm, ⟨13, _⟩ => ⟨S128x256, .i32⟩
  | .hbm, ⟨14, _⟩ => ⟨S128x256, .i1⟩
  | .hbm, ⟨15, _⟩ => ⟨S128x256, .i1⟩
  | .hbm, ⟨16, _⟩ => ⟨S1x128x256, .i1⟩
  | .hbm, ⟨17, _⟩ => ⟨S_, .f32⟩
  | .hbm, ⟨18, _⟩ => ⟨S_, .f32⟩
  | .hbm, ⟨19, _⟩ => ⟨S16x128x256, .i1⟩
  | .hbm, ⟨20, _⟩ => ⟨S16x128x256, .f32⟩
  | .hbm, ⟨21, _⟩ => ⟨S16x128x256, .f32⟩
  | .hbm, ⟨22, _⟩ => ⟨S_, .i32⟩
  | .hbm, ⟨23, _⟩ => ⟨S128x256, .i32⟩
  | .hbm, ⟨24, _⟩ => ⟨S128x256, .i1⟩
  | .hbm, ⟨25, _⟩ => ⟨S1x128x256, .i1⟩
  | .hbm, ⟨26, _⟩ => ⟨S_, .f32⟩
  | .hbm, ⟨27, _⟩ => ⟨S_, .f32⟩
  | .hbm, ⟨28, _⟩ => ⟨S16x128x256, .i1⟩
  | .hbm, ⟨29, _⟩ => ⟨S16x128x256, .f32⟩
  | .hbm, ⟨30, _⟩ => ⟨S16x128x256, .f32⟩
  | .hbm, ⟨31, _⟩ => ⟨S16x256x256, .f32⟩
  | .hbm, ⟨32, _⟩ => ⟨S16384x1024, .bf16⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S16x128x256, .f32⟩
  | .local _ .vmem, ⟨11, _⟩ => ⟨S16x128x256, .f32⟩
  | .local _ .vmem, ⟨12, _⟩ => ⟨S128x1024, .bf16⟩
  | .local _ .vmem, ⟨13, _⟩ => ⟨S128x1024, .bf16⟩
  | .local _ .smem, ⟨0, _⟩ => ⟨S16, .f32⟩
  | _, _ => ⟨S16896x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![v3.toNat, c5_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnRefIdeal.lean ====
abbrev S16896x1536 : Shape := ⟨2, ![16896, 1536]⟩
abbrev S16 : Shape := ⟨1, ![16]⟩
abbrev S16x128x256 : Shape := ⟨3, ![16, 128, 256]⟩
abbrev S16384x1536 : Shape := ⟨2, ![16384, 1536]⟩
abbrev S4x4096x1536 : Shape := ⟨3, ![4, 4096, 1536]⟩
abbrev S4x4096x1024 : Shape := ⟨3, ![4, 4096, 1024]⟩
abbrev S4x4096x16x64 : Shape := ⟨4, ![4, 4096, 16, 64]⟩
abbrev S4x4096x256 : Shape := ⟨3, ![4, 4096, 256]⟩
abbrev S4x4096x4x64 : Shape := ⟨4, ![4, 4096, 4, 64]⟩
abbrev S_ : Shape := ⟨0, ![]⟩
abbrev S4x128x4x64 : Shape := ⟨4, ![4, 128, 4, 64]⟩
abbrev S4x4224x4x64 : Shape := ⟨4, ![4, 4224, 4, 64]⟩
abbrev S4x32x128x4x64 : Shape := ⟨5, ![4, 32, 128, 4, 64]⟩
abbrev S4x32x256x4x64 : Shape := ⟨5, ![4, 32, 256, 4, 64]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S4x32x128x16x64 : Shape := ⟨5, ![4, 32, 128, 16, 64]⟩
abbrev S4x32x128x4x4x64 : Shape := ⟨6, ![4, 32, 128, 4, 4, 64]⟩
abbrev S4x32x4x256x128x4 : Shape := ⟨6, ![4, 32, 4, 256, 128, 4]⟩
abbrev S4x32x4x4x128x256 : Shape := ⟨6, ![4, 32, 4, 4, 128, 256]⟩
abbrev S4x4x128x256 : Shape := ⟨4, ![4, 4, 128, 256]⟩
abbrev S1x1x4x4x128x256 : Shape := ⟨6, ![1, 1, 4, 4, 128, 256]⟩
abbrev S1x32x1x1x128x256 : Shape := ⟨6, ![1, 32, 1, 1, 128, 256]⟩
abbrev S4x4 : Shape := ⟨2, ![4, 4]⟩
abbrev S4x4x1x1 : Shape := ⟨4, ![4, 4, 1, 1]⟩
abbrev S4x32x4x4x128 : Shape := ⟨5, ![4, 32, 4, 4, 128]⟩
abbrev S4x32x4x4x128x1 : Shape := ⟨6, ![4, 32, 4, 4, 128, 1]⟩
abbrev S1x1x4x4x1x1 : Shape := ⟨6, ![1, 1, 4, 4, 1, 1]⟩
abbrev S4x32x4x64x4x128 : Shape := ⟨6, ![4, 32, 4, 64, 4, 128]⟩
abbrev S4x32x128x1024 : Shape := ⟨4, ![4, 32, 128, 1024]⟩
abbrev S16384x1024 : Shape := ⟨2, ![16384, 1024]⟩

abbrev nBuf : Space → Nat
  | .hbm => 103
  | .vmem => 0
  | .smem => 0
  | _ => 0

abbrev bufTy : (tb : Table) → Fin (tcTables nBuf tb) → BufTy
  | .hbm, ⟨0, _⟩ => ⟨S16896x1536, .f32⟩
  | .hbm, ⟨1, _⟩ => ⟨S16, .f32⟩
  | .hbm, ⟨2, _⟩ => ⟨S16x128x256, .f32⟩
  | .hbm, ⟨3, _⟩ => ⟨S16384x1536, .f32⟩
  | .hbm, ⟨4, _⟩ => ⟨S4x4096x1536, .f32⟩
  | .hbm, ⟨5, _⟩ => ⟨S4x4096x1024, .f32⟩
  | .hbm, ⟨6, _⟩ => ⟨S4x4096x16x64, .f32⟩
  | .hbm, ⟨7, _⟩ => ⟨S4x4096x256, .f32⟩
  | .hbm, ⟨8, _⟩ => ⟨S4x4096x4x64, .f32⟩
  | .hbm, ⟨9, _⟩ => ⟨S4x4096x256, .f32⟩
  | .hbm, ⟨10, _⟩ => ⟨S4x4096x4x64, .f32⟩
  | .hbm, ⟨11, _⟩ => ⟨S_, .f32⟩
  | .hbm, ⟨12, _⟩ => ⟨S4x128x4x64, .f32⟩
  | .hbm, ⟨13, _⟩ => ⟨S4x4224x4x64, .f32⟩
  | .hbm, ⟨14, _⟩ => ⟨S4x4096x4x64, .f32⟩
  | .hbm, ⟨15, _⟩ => ⟨S4x32x128x4x64, .f32⟩
  | .hbm, ⟨16, _⟩ => ⟨S4x32x128x4x64, .f32⟩
  | .hbm, ⟨17, _⟩ => ⟨S4x32x256x4x64, .f32⟩
  | .hbm, ⟨18, _⟩ => ⟨S4x4224x4x64, .f32⟩
  | .hbm, ⟨19, _⟩ => ⟨S4x4096x4x64, .f32⟩
  | .hbm, ⟨20, _⟩ => ⟨S4x32x128x4x64, .f32⟩
  | .hbm, ⟨21, _⟩ => ⟨S4x32x128x4x64, .f32⟩
  | .hbm, ⟨22, _⟩ => ⟨S4x32x256x4x64, .f32⟩
  | .hbm, ⟨23, _⟩ => ⟨S128, .i32⟩
  | .hbm, ⟨24, _⟩ => ⟨S256, .i32⟩
  | .hbm, ⟨25, _⟩ => ⟨S128x1, .i32⟩
  | .hbm, ⟨26, _⟩ => ⟨S1x256, .i32⟩
  | .hbm, ⟨27, _⟩ => ⟨S128x256, .i32⟩
  | .hbm, ⟨28, _⟩ => ⟨S128x256, .i32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i32⟩
  | .hbm, ⟨33, _⟩ => ⟨S32, .i32⟩
  | .hbm, ⟨34, _⟩ => ⟨S32x1, .i32⟩
  | .hbm, ⟨35, _⟩ => ⟨S_, .i32⟩
  | .hbm, ⟨36, _⟩ => ⟨S32x1, .i32⟩
  | .hbm, ⟨37, _⟩ => ⟨S32x1, .i32⟩
  | .hbm, ⟨38, _⟩ => ⟨S_, .i32⟩
  | .hbm, ⟨39, _⟩ => ⟨S32x1, .i32⟩
  | .hbm, ⟨40, _⟩ => ⟨S32x1, .i32⟩
  | .hbm, ⟨41, _⟩ => ⟨S1x256, .i32⟩
  | .hbm, ⟨42, _⟩ => ⟨S32x256, .i32⟩
  | .hbm, ⟨43, _⟩ => ⟨S32x256, .i32⟩
  | .hbm, ⟨44, _⟩ => ⟨S32x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S128x256, .i1⟩
  | .hbm, ⟨52, _⟩ => ⟨S1x128x256, .i1⟩
  | .hbm, ⟨53, _⟩ => ⟨S_, .i32⟩
  | .hbm, ⟨54, _⟩ => ⟨S32x256, .i32⟩
  | .hbm, ⟨55, _⟩ => ⟨S32x256, .i1⟩
  | .hbm, ⟨56, _⟩ => ⟨S32x1x256, .i1⟩
  | .hbm, ⟨57, _⟩ => ⟨S32x128x256, .i1⟩
  | .hbm, ⟨58, _⟩ => ⟨S32x128x256, .i1⟩
  | .hbm, ⟨59, _⟩ => ⟨S32x128x256, .i1⟩
  | .hbm, ⟨60, _⟩ => ⟨S4x32x128x16x64, .f32⟩
  | .hbm, ⟨61, _⟩ => ⟨S4x32x128x4x4x64, .f32⟩
  | .hbm, ⟨62, _⟩ => ⟨S4x32x4x256x128x4, .f32⟩
  | .hbm, ⟨63, _⟩ => ⟨S4x32x4x4x128x256, .f32⟩
  | .hbm, ⟨64, _⟩ => ⟨S_, .f32⟩
  | .hbm, ⟨65, _⟩ => ⟨S4x32x4x4x128x256, .f32⟩
  | .hbm, ⟨66, _⟩ => ⟨S4x32x4x4x128x256, .f32⟩
  | .hbm, ⟨67, _⟩ => ⟨S4x4x128x256, .f32⟩
  | .hbm, ⟨68, _⟩ => ⟨S1x1x4x4x128x256, .f32⟩
  | .hbm, ⟨69, _⟩ => ⟨S4x32x4x4x128x256, .f32⟩
  | .hbm, ⟨70, _⟩ => ⟨S4x32x4x4x128x256, .f32⟩
  | .hbm, ⟨71, _⟩ => ⟨S1x32x1x1x128x256, .i1⟩
  | .hbm, ⟨72, _⟩ => ⟨S_, .f32⟩
  | .hbm, ⟨73, _⟩ => ⟨S_, .f32⟩
  | .hbm, ⟨74, _⟩ => ⟨S4x32x4x4x128x256, .i1⟩
  | .hbm, ⟨75, _⟩ => ⟨S4x32x4x4x128x256, .f32⟩
  | .hbm, ⟨76, _⟩ => ⟨S4x32x4x4x128x256, .f32⟩
  | .hbm, ⟨77, _⟩ => ⟨S4x4, .f32⟩
  | .hbm, ⟨78, _⟩ => ⟨S4x4x1x1, .f32⟩
  | .hbm, ⟨79, _⟩ => ⟨S_, .f32⟩
  | .hbm, ⟨80, _⟩ => ⟨S4x32x4x4x128, .f32⟩
  | .hbm, ⟨81, _⟩ => ⟨S4x32x4x4x128x1, .f32⟩
  | .hbm, ⟨82, _⟩ => ⟨S1x1x4x4x1x1, .f32⟩
  | .hbm, ⟨83, _⟩ => ⟨S4x32x4x4x128x1, .f32⟩
  | .hbm, ⟨84, _⟩ => ⟨S4x32x4x4x128x1, .f32⟩
  | .hbm, ⟨85, _⟩ => ⟨S4x32x4x4x128x256, .f32⟩
  | .hbm, ⟨86, _⟩ => ⟨S4x32x4x4x128x256, .f32⟩
  | .hbm, ⟨87, _⟩ => ⟨S4x32x4x4x128x256, .f32⟩
  | .hbm, ⟨88, _⟩ => ⟨S_, .f32⟩
  | .hbm, ⟨89, _⟩ => ⟨S4x32x4x4x128, .f32⟩
  | .hbm, ⟨90, _⟩ => ⟨S4x32x4x4x128x1, .f32⟩
  | .hbm, ⟨91, _⟩ => ⟨S1x1x4x4x1x1, .f32⟩
  | .hbm, ⟨92, _⟩ => ⟨S4x32x4x4x128x1, .f32⟩
  | .hbm, ⟨93, _⟩ => ⟨S4x32x4x4x128x1, .f32⟩
  | .hbm, ⟨94, _⟩ => ⟨S4x32x4x4x128x1, .f32⟩
  | .hbm, ⟨95, _⟩ => ⟨S4x32x4x4x128x1, .f32⟩
  | .hbm, ⟨96, _⟩ => ⟨S4x32x4x4x128x256, .f32⟩
  | .hbm, ⟨97, _⟩ => ⟨S4x32x4x4x128x256, .f32⟩
  | .hbm, ⟨98, _⟩ => ⟨S4x32x4x64x4x128, .f32⟩
  | .hbm, ⟨99, _⟩ => ⟨S4x32x128x4x4x64, .f32⟩
  | .hbm, ⟨100, _⟩ => ⟨S4x32x128x1024, .f32⟩
  | .hbm, ⟨101, _⟩ => ⟨S16384x1024, .f32⟩
  | .hbm, ⟨102, _⟩ => ⟨S16384x1024, .bf16⟩
  | _, _ => ⟨S16896x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_c : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c_0 : Ref sig .tc := ⟨.hbm, 35, rfl⟩
abbrev main_v30 : Ref sig .tc := ⟨.hbm, 36, rfl⟩
abbrev main_v31 : Ref sig .tc := ⟨.hbm, 37, rfl⟩
abbrev main_c_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_c_2 : Ref sig .tc := ⟨.hbm, 45, rfl⟩
abbrev main_v38 : Ref sig .tc := ⟨.hbm, 46, rfl⟩
abbrev main_v39 : Ref sig .tc := ⟨.hbm, 47, rfl⟩
abbrev main_c_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_c_4 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_5 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_6 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_7 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_8 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== AttnS.lean ====
abbrev S512x1536 : Shape := ⟨2, ![512, 1536]⟩
abbrev S128x128x4x64 : Shape := ⟨4, ![128, 128, 4, 64]⟩
abbrev S16 : Shape := ⟨1, ![16]⟩
abbrev S16x4x132 : Shape := ⟨3, ![16, 4, 132]⟩
abbrev S4x256 : Shape := ⟨2, ![4, 256]⟩
abbrev S_ : Shape := ⟨0, ![]⟩
abbrev S1x4x256 : Shape := ⟨3, ![1, 4, 256]⟩
abbrev S16x4x256 : Shape := ⟨3, ![16, 4, 256]⟩
abbrev S4x4x4x256 : Shape := ⟨4, ![4, 4, 4, 256]⟩
abbrev S4x16x256 : Shape := ⟨3, ![4, 16, 256]⟩
abbrev S4x128x1536 : Shape := ⟨3, ![4, 128, 1536]⟩
abbrev S4x128x1024 : Shape := ⟨3, ![4, 128, 1024]⟩
abbrev S4x128x4x4x64 : Shape := ⟨5, ![4, 128, 4, 4, 64]⟩
abbrev S128x4x4x4x64 : Shape := ⟨5, ![128, 4, 4, 4, 64]⟩
abbrev S128x4x16x64 : Shape := ⟨4, ![128, 4, 16, 64]⟩
abbrev S4x128x256 : Shape := ⟨3, ![4, 128, 256]⟩
abbrev S4x128x4x64 : Shape := ⟨4, ![4, 128, 4, 64]⟩
abbrev S128x4x4x64 : Shape := ⟨4, ![128, 4, 4, 64]⟩
abbrev S128x132x4x64 : Shape := ⟨4, ![128, 132, 4, 64]⟩
abbrev S128x4x132x64 : Shape := ⟨4, ![128, 4, 132, 64]⟩
abbrev S128x4x256x64 : Shape := ⟨4, ![128, 4, 256, 64]⟩
abbrev S4x1x4 : Shape := ⟨3, ![4, 1, 4]⟩
abbrev S4x4x4 : Shape := ⟨3, ![4, 4, 4]⟩
abbrev S4x16x1 : Shape := ⟨3, ![4, 16, 1]⟩
abbrev S8x4x16x64 : Shape := ⟨4, ![8, 4, 16, 64]⟩
abbrev S8x4x256x64 : Shape := ⟨4, ![8, 4, 256, 64]⟩
abbrev S32x16x64 : Shape := ⟨3, ![32, 16, 64]⟩
abbrev S32x256x64 : Shape := ⟨3, ![32, 256, 64]⟩
abbrev S32x16x256 : Shape := ⟨3, ![32, 16, 256]⟩
abbrev S8x4x16x256 : Shape := ⟨4, ![8, 4, 16, 256]⟩
abbrev S1x4x16x256 : Shape := ⟨4, ![1, 4, 16, 256]⟩
abbrev S1x4x16x1 : Shape := ⟨4, ![1, 4, 16, 1]⟩
abbrev S8x4x16 : Shape := ⟨3, ![8, 4, 16]⟩
abbrev S8x4x16x1 : Shape := ⟨4, ![8, 4, 16, 1]⟩

abbrev nBuf : Space → Nat
  | .hbm => 58
  | .vmem => 10
  | .smem => 0
  | _ => 0

abbrev bufTy : (tb : Table) → Fin (tcTables nBuf tb) → BufTy
  | .hbm, ⟨0, _⟩ => ⟨S512x1536, .f32⟩
  | .hbm, ⟨1, _⟩ => ⟨S128x128x4x64, .f32⟩
  | .hbm, ⟨2, _⟩ => ⟨S128x128x4x64, .f32⟩
  | .hbm, ⟨3, _⟩ => ⟨S16, .f32⟩
  | .hbm, ⟨4, _⟩ => ⟨S16x4x132, .f32⟩
  | .hbm, ⟨5, _⟩ => ⟨S4x256, .i32⟩
  | .hbm, ⟨6, _⟩ => ⟨S4x256, .i32⟩
  | .hbm, ⟨7, _⟩ => ⟨S4x256, .i32⟩
  | .hbm, ⟨8, _⟩ => ⟨S_, .i32⟩
  | .hbm, ⟨9, _⟩ => ⟨S4x256, .i32⟩
  | .hbm, ⟨10, _⟩ => ⟨S4x256, .i32⟩
  | .hbm, ⟨11, _⟩ => ⟨S_, .i32⟩
  | .hbm, ⟨12, _⟩ => ⟨S4x256, .i32⟩
  | .hbm, ⟨13, _⟩ => ⟨S4x256, .i1⟩
  | .hbm, ⟨14, _⟩ => ⟨S_, .i32⟩
  | .hbm, ⟨15, _⟩ => ⟨S4x256, .i32⟩
  | .hbm, ⟨16, _⟩ => ⟨S4x256, .i1⟩
  | .hbm, ⟨17, _⟩ => ⟨S4x256, .i1⟩
  | .hbm, ⟨18, _⟩ => ⟨S1x4x256, .i1⟩
  | .hbm, ⟨19, _⟩ => ⟨S_, .i32⟩
  | .hbm, ⟨20, _⟩ => ⟨S_, .f32⟩
  | .hbm, ⟨21, _⟩ => ⟨S16x4x256, .f32⟩
  | .hbm, ⟨22, _⟩ => ⟨S_, .f32⟩
  | .hbm, ⟨23, _⟩ => ⟨S_, .f32⟩
  | .hbm, ⟨24, _⟩ => ⟨S16x4x256, .i1⟩
  | .hbm, ⟨25, _⟩ => ⟨S16x4x256, .f32⟩
  | .hbm, ⟨26, _⟩ => ⟨S16x4x256, .f32⟩
  | .hbm, ⟨27, _⟩ => ⟨S4x4x4x256, .f32⟩
  | .hbm, ⟨28, _⟩ => ⟨S4x4x4x256, .f32⟩
  | .hbm, ⟨29, _⟩ => ⟨S4x16x256, .f32⟩
  | .hbm, ⟨30, _⟩ => ⟨S4x128x1536, .f32⟩
  | .hbm, ⟨31, _⟩ => ⟨S4x128x1024, .f32⟩
  | .hbm, ⟨32, _⟩ => ⟨S4x128x4x4x64, .f32⟩
  | .hbm, ⟨33, _⟩ => ⟨S128x4x4x4x64, .f32⟩
  | .hbm, ⟨34, _⟩ => ⟨S128x4x16x64, .f32⟩
  | .hbm, ⟨35, _⟩ => ⟨S4x128x256, .f32⟩
  | .hbm, ⟨36, _⟩ => ⟨S4x128x4x64, .f32⟩
  | .hbm, ⟨37, _⟩ => ⟨S128x4x4x64, .f32⟩
  | .hbm, ⟨38, _⟩ => ⟨S4x128x256, .f32⟩
  | .hbm, ⟨39, _⟩ => ⟨S4x128x4x64, .f32⟩
  | .hbm, ⟨40, _⟩ => ⟨S128x4x4x64, .f32⟩
  | .hbm, ⟨41, _⟩ => ⟨S128x132x4x64, .f32⟩
  | .hbm, ⟨42, _⟩ => ⟨S128x132x4x64, .f32⟩
  | .hbm, ⟨43, _⟩ => ⟨S128x4x132x64, .f32⟩
  | .hbm, ⟨44, _⟩ => ⟨S_, .i32⟩
  | .hbm, ⟨45, _⟩ => ⟨S_, .f32⟩
  | .hbm, ⟨46, _⟩ => ⟨S128x4x256x64, .f32⟩
  | .hbm, ⟨47, _⟩ => ⟨S128x4x256x64, .bf16⟩
  | .hbm, ⟨48, _⟩ => ⟨S128x4x132x64, .f32⟩
  | .hbm, ⟨49, _⟩ => ⟨S_, .i32⟩
  | .hbm, ⟨50, _⟩ => ⟨S_, .f32⟩
  | .hbm, ⟨51, _⟩ => ⟨S128x4x256x64, .f32⟩
  | .hbm, ⟨52, _⟩ => ⟨S128x4x256x64, .bf16⟩
  | .hbm, ⟨53, _⟩ => ⟨S4x1x4, .f32⟩
  | .hbm, ⟨54, _⟩ => ⟨S4x4x4, .f32⟩
  | .hbm, ⟨55, _⟩ => ⟨S4x16x1, .f32⟩
  | .hbm, ⟨56, _⟩ => ⟨S128x4x16x64, .bf16⟩
  | .hbm, ⟨57, _⟩ => ⟨S128x4x16x64, .f32⟩
  | .local _ .vmem, ⟨0, _⟩ => ⟨S8x4x16x64, .bf16⟩
  | .local _ .vmem, ⟨1, _⟩ => ⟨S8x4x16x64, .bf16⟩
  | .local _ .vmem, ⟨2, _⟩ => ⟨S8x4x256x64, .bf16⟩
  | .local _ .vmem, ⟨3, _⟩ => ⟨S8x4x256x64, .bf16⟩
  | .local _ .vmem, ⟨4, _⟩ => ⟨S8x4x256x64, .bf16⟩
  | .local _ .vmem, ⟨5, _⟩ => ⟨S8x4x256x64, .bf16⟩
  | .local _ .vmem, ⟨6, _⟩ => ⟨S4x16x256, .f32⟩
  | .local _ .vmem, ⟨7, _⟩ => ⟨S4x16x1, .f32⟩
  | .local _ .vmem, ⟨8, _⟩ => ⟨S8x4x16x64, .f32⟩
  | .local _ .vmem, ⟨9, _⟩ => ⟨S8x4x16x64, .f32⟩
  | _, _ => ⟨S512x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_call0_v0 : Ref sig .tc := ⟨.hbm, 20, rfl⟩
abbrev main_v11 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_3 : Ref sig .tc := ⟨.hbm, 44, rfl⟩
abbrev main_call2_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_call3_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x4x16x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x4x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnSRefIdeal.lean ====
abbrev S512x1536 : Shape := ⟨2, ![512, 1536]⟩
abbrev S128x128x4x64 : Shape := ⟨4, ![128, 128, 4, 64]⟩
abbrev S16 : Shape := ⟨1, ![16]⟩
abbrev S16x4x132 : Shape := ⟨3, ![16, 4, 132]⟩
abbrev S4x128x1536 : Shape := ⟨3, ![4, 128, 1536]⟩
abbrev S128x4x1536 : Shape := ⟨3, ![128, 4, 1536]⟩
abbrev S128x4x1024 : Shape := ⟨3, ![128, 4, 1024]⟩
abbrev S128x4x16x64 : Shape := ⟨4, ![128, 4, 16, 64]⟩
abbrev S128x4x256 : Shape := ⟨3, ![128, 4, 256]⟩
abbrev S128x4x4x64 : Shape := ⟨4, ![128, 4, 4, 64]⟩
abbrev S128x132x4x64 : Shape := ⟨4, ![128, 132, 4, 64]⟩
abbrev S4 : Shape := ⟨1, ![4]⟩
abbrev S132 : Shape := ⟨1, ![132]⟩
abbrev S4x1 : Shape := ⟨2, ![4, 1]⟩
abbrev S_ : Shape := ⟨0, ![]⟩
abbrev S1x132 : Shape := ⟨2, ![1, 132]⟩
abbrev S4x132 : Shape := ⟨2, ![4, 132]⟩
abbrev S1x4x132 : Shape := ⟨3, ![1, 4, 132]⟩
abbrev S128x1x4x16x64 : Shape := ⟨5, ![128, 1, 4, 16, 64]⟩
abbrev S128x1x132x4x64 : Shape := ⟨5, ![128, 1, 132, 4, 64]⟩
abbrev S128x1x4x4x4x64 : Shape := ⟨6, ![128, 1, 4, 4, 4, 64]⟩
abbrev S128x1x4x132x4x4 : Shape := ⟨6, ![128, 1, 4, 132, 4, 4]⟩
abbrev S128x1x4x4x4x132 : Shape := ⟨6, ![128, 1, 4, 4, 4, 132]⟩
abbrev S4x4x4x132 : Shape := ⟨4, ![4, 4, 4, 132]⟩
abbrev S1x1x4x4x4x132 : Shape := ⟨6, ![1, 1, 4, 4, 4, 132]⟩
abbrev S1x1x1x1x4x132 : Shape := ⟨6, ![1, 1, 1, 1, 4, 132]⟩
abbrev S4x4 : Shape := ⟨2, ![4, 4]⟩
abbrev S4x4x1x1 : Shape := ⟨4, ![4, 4, 1, 1]⟩
abbrev S128x1x4x4x4 : Shape := ⟨5, ![128, 1, 4, 4, 4]⟩
abbrev S128x1x4x4x4x1 : Shape := ⟨6, ![128, 1, 4, 4, 4, 1]⟩
abbrev S1x1x4x4x1x1 : Shape := ⟨6, ![1, 1, 4, 4, 1, 1]⟩
abbrev S128x1x4x64x4x4 : Shape := ⟨6, ![128, 1, 4, 64, 4, 4]⟩
abbrev S128x1x4x1024 : Shape := ⟨4, ![128, 1, 4, 1024]⟩
abbrev S128x4x4x4x64 : Shape := ⟨5, ![128, 4, 4, 4, 64]⟩

abbrev nBuf : Space → Nat
  | .hbm => 79
  | .vmem => 0
  | .smem => 0
  | _ => 0

abbrev bufTy : (tb : Table) → Fin (tcTables nBuf tb) → BufTy
  | .hbm, ⟨0, _⟩ => ⟨S512x1536, .f32⟩
  | .hbm, ⟨1, _⟩ => ⟨S128x128x4x64, .f32⟩
  | .hbm, ⟨2, _⟩ => ⟨S128x128x4x64, .f32⟩
  | .hbm, ⟨3, _⟩ => ⟨S16, .f32⟩
  | .hbm, ⟨4, _⟩ => ⟨S16x4x132, .f32⟩
  | .hbm, ⟨5, _⟩ => ⟨S4x128x1536, .f32⟩
  | .hbm, ⟨6, _⟩ => ⟨S128x4x1536, .f32⟩
  | .hbm, ⟨7, _⟩ => ⟨S128x4x1024, .f32⟩
  | .hbm, ⟨8, _⟩ => ⟨S128x4x16x64, .f32⟩
  | .hbm, ⟨9, _⟩ => ⟨S128x4x256, .f32⟩
  | .hbm, ⟨10, _⟩ => ⟨S128x4x4x64, .f32⟩
  | .hbm, ⟨11, _⟩ => ⟨S128x4x256, .f32⟩
  | .hbm, ⟨12, _⟩ => ⟨S128x4x4x64, .f32⟩
  | .hbm, ⟨13, _⟩ => ⟨S128x132x4x64, .f32⟩
  | .hbm, ⟨14, _⟩ => ⟨S128x132x4x64, .f32⟩
  | .hbm, ⟨15, _⟩ => ⟨S4, .i32⟩
  | .hbm, ⟨16, _⟩ => ⟨S132, .i32⟩
  | .hbm, ⟨17, _⟩ => ⟨S4x1, .i32⟩
  | .hbm, ⟨18, _⟩ => ⟨S_, .i32⟩
  | .hbm, ⟨19, _⟩ => ⟨S4x1, .i32⟩
  | .hbm, ⟨20, _⟩ => ⟨S4x1, .i32⟩
  | .hbm, ⟨21, _⟩ => ⟨S1x132, .i32⟩
  | .hbm, ⟨22, _⟩ => ⟨S4x132, .i32⟩
  | .hbm, ⟨23, _⟩ => ⟨S4x132, .i32⟩
  | .hbm, ⟨24, _⟩ => ⟨S4x132, .i32⟩
  | .hbm, ⟨25, _⟩ => ⟨S_, .i32⟩
  | .hbm, ⟨26, _⟩ => ⟨S4x132, .i32⟩
  | .hbm, ⟨27, _⟩ => ⟨S4x132, .i1⟩
  | .hbm, ⟨28, _⟩ => ⟨S_, .i32⟩
  | .hbm, ⟨29, _⟩ => ⟨S4x132, .i32⟩
  | .hbm, ⟨30, _⟩ => ⟨S4x132, .i1⟩
  | .hbm, ⟨31, _⟩ => ⟨S4x132, .i1⟩
  | .hbm, ⟨32, _⟩ => ⟨S1x4x132, .i1⟩
  | .hbm, ⟨33, _⟩ => ⟨S128x1x4x16x64, .f32⟩
  | .hbm, ⟨34, _⟩ => ⟨S128x1x132x4x64, .f32⟩
  | .hbm, ⟨35, _⟩ => ⟨S128x1x132x4x64, .f32⟩
  | .hbm, ⟨36, _⟩ => ⟨S128x1x4x4x4x64, .f32⟩
  | .hbm, ⟨37, _⟩ => ⟨S128x1x4x132x4x4, .f32⟩
  | .hbm, ⟨38, _⟩ => ⟨S128x1x4x4x4x132, .f32⟩
  | .hbm, ⟨39, _⟩ => ⟨S_, .f32⟩
  | .hbm, ⟨40, _⟩ => ⟨S128x1x4x4x4x132, .f32⟩
  | .hbm, ⟨41, _⟩ => ⟨S128x1x4x4x4x132, .f32⟩
  | .hbm, ⟨42, _⟩ => ⟨S4x4x4x132, .f32⟩
  | .hbm, ⟨43, _⟩ => ⟨S1x1x4x4x4x132, .f32⟩
  | .hbm, ⟨44, _⟩ => ⟨S128x1x4x4x4x132, .f32⟩
  | .hbm, ⟨45, _⟩ => ⟨S128x1x4x4x4x132, .f32⟩
  | .hbm, ⟨46, _⟩ => ⟨S1x1x1x1x4x132, .i1⟩
  | .hbm, ⟨47, _⟩ => ⟨S_, .f32⟩
  | .hbm, ⟨48, _⟩ => ⟨S_, .f32⟩
  | .hbm, ⟨49, _⟩ => ⟨S128x1x4x4x4x132, .i1⟩
  | .hbm, ⟨50, _⟩ => ⟨S128x1x4x4x4x132, .f32⟩
  | .hbm, ⟨51, _⟩ => ⟨S128x1x4x4x4x132, .f32⟩
  | .hbm, ⟨52, _⟩ => ⟨S4x4, .f32⟩
  | .hbm, ⟨53, _⟩ => ⟨S4x4x1x1, .f32⟩
  | .hbm, ⟨54, _⟩ => ⟨S_, .f32⟩
  | .hbm, ⟨55, _⟩ => ⟨S128x1x4x4x4, .f32⟩
  | .hbm, ⟨56, _⟩ => ⟨S128x1x4x4x4x1, .f32⟩
  | .hbm, ⟨57, _⟩ => ⟨S1x1x4x4x1x1, .f32⟩
  | .hbm, ⟨58, _⟩ => ⟨S128x1x4x4x4x1, .f32⟩
  | .hbm, ⟨59, _⟩ => ⟨S128x1x4x4x4x1, .f32⟩
  | .hbm, ⟨60, _⟩ => ⟨S128x1x4x4x4x132, .f32⟩
  | .hbm, ⟨61, _⟩ => ⟨S128x1x4x4x4x132, .f32⟩
  | .hbm, ⟨62, _⟩ => ⟨S128x1x4x4x4x132, .f32⟩
  | .hbm, ⟨63, _⟩ => ⟨S_, .f32⟩
  | .hbm, ⟨64, _⟩ => ⟨S128x1x4x4x4, .f32⟩
  | .hbm, ⟨65, _⟩ => ⟨S128x1x4x4x4x1, .f32⟩
  | .hbm, ⟨66, _⟩ => ⟨S1x1x4x4x1x1, .f32⟩
  | .hbm, ⟨67, _⟩ => ⟨S128x1x4x4x4x1, .f32⟩
  | .hbm, ⟨68, _⟩ => ⟨S128x1x4x4x4x1, .f32⟩
  | .hbm, ⟨69, _⟩ => ⟨S128x1x4x4x4x1, .f32⟩
  | .hbm, ⟨70, _⟩ => ⟨S128x1x4x4x4x1, .f32⟩
  | .hbm, ⟨71, _⟩ => ⟨S128x1x4x4x4x132, .f32⟩
  | .hbm, ⟨72, _⟩ => ⟨S128x1x4x4x4x132, .f32⟩
  | .hbm, ⟨73, _⟩ => ⟨S128x1x4x64x4x4, .f32⟩
  | .hbm, ⟨74, _⟩ => ⟨S128x1x4x4x4x64, .f32⟩
  | .hbm, ⟨75, _⟩ => ⟨S128x1x4x1024, .f32⟩
  | .hbm, ⟨76, _⟩ => ⟨S128x4x4x4x64, .f32⟩
  | .hbm, ⟨77, _⟩ => ⟨S128x4x4x4x64, .f32⟩
  | .hbm, ⟨78, _⟩ => ⟨S128x4x16x64, .f32⟩
  | _, _ => ⟨S512x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]
-- ==== Bias.lean ====
abbrev S32x16 : Shape := ⟨2, ![32, 16]⟩
abbrev S256x256 : Shape := ⟨2, ![256, 256]⟩
abbrev S16x256x256 : Shape := ⟨3, ![16, 256, 256]⟩
abbrev S1x1 : Shape := ⟨2, ![1, 1]⟩
abbrev S1x256x256 : Shape := ⟨3, ![1, 256, 256]⟩

abbrev nBuf : Space → Nat
  | .hbm => 3
  | .vmem => 2
  | .smem => 1
  | _ => 0

abbrev bufTy : (tb : Table) → Fin (tcTables nBuf tb) → BufTy
  | .hbm, ⟨0, _⟩ => ⟨S32x16, .f32⟩
  | .hbm, ⟨1, _⟩ => ⟨S256x256, .i32⟩
  | .hbm, ⟨2, _⟩ => ⟨S16x256x256, .f32⟩
  | .local _ .vmem, ⟨0, _⟩ => ⟨S256x256, .i32⟩
  | .local _ .vmem, ⟨1, _⟩ => ⟨S16x256x256, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BiasRefIdeal.lean ====
abbrev S32x16 : Shape := ⟨2, ![32, 16]⟩
abbrev S256x256 : Shape := ⟨2, ![256, 256]⟩
abbrev S_ : Shape := ⟨0, ![]⟩
abbrev S256x256x1 : Shape := ⟨3, ![256, 256, 1]⟩
abbrev S1 : Shape := ⟨1, ![1]⟩
abbrev S1x1x1 : Shape := ⟨3, ![1, 1, 1]⟩
abbrev S256x256x16 : Shape := ⟨3, ![256, 256, 16]⟩
abbrev S16x256x256 : Shape := ⟨3, ![16, 256, 256]⟩
abbrev S1x256x256 : Shape := ⟨3, ![1, 256, 256]⟩

abbrev nBuf : Space → Nat
  | .hbm => 35
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S256x256, .i32⟩
  | .hbm, ⟨2, _⟩ => ⟨S_, .i32⟩
  | .hbm, ⟨3, _⟩ => ⟨S256x256, .i32⟩
  | .hbm, ⟨4, _⟩ => ⟨S256x256, .i1⟩
  | .hbm, ⟨5, _⟩ => ⟨S_, .i32⟩
  | .hbm, ⟨6, _⟩ => ⟨S256x256, .i32⟩
  | .hbm, ⟨7, _⟩ => ⟨S256x256, .i32⟩
  | .hbm, ⟨8, _⟩ => ⟨S256x256, .i32⟩
  | .hbm, ⟨9, _⟩ => ⟨S256x256x1, .i32⟩
  | .hbm, ⟨10, _⟩ => ⟨S1, .i32⟩
  | .hbm, ⟨11, _⟩ => ⟨S_, .i32⟩
  | .hbm, ⟨12, _⟩ => ⟨S256x256x1, .i32⟩
  | .hbm, ⟨13, _⟩ => ⟨S256x256x1, .i1⟩
  | .hbm, ⟨14, _⟩ => ⟨S1x1x1, .i32⟩
  | .hbm, ⟨15, _⟩ => ⟨S256x256x1, .i32⟩
  | .hbm, ⟨16, _⟩ => ⟨S256x256x1, .i1⟩
  | .hbm, ⟨17, _⟩ => ⟨S256x256x1, .i1⟩
  | .hbm, ⟨18, _⟩ => ⟨S_, .i1⟩
  | .hbm, ⟨19, _⟩ => ⟨S256x256, .i1⟩
  | .hbm, ⟨20, _⟩ => ⟨S256x256x16, .f32⟩
  | .hbm, ⟨21, _⟩ => ⟨S256x256x16, .i1⟩
  | .hbm, ⟨22, _⟩ => ⟨S_, .f32⟩
  | .hbm, ⟨23, _⟩ => ⟨S256x256x16, .f32⟩
  | .hbm, ⟨24, _⟩ => ⟨S256x256x16, .f32⟩
  | .hbm, ⟨25, _⟩ => ⟨S16x256x256, .f32⟩
  | .hbm, ⟨26, _⟩ => ⟨S_, .i32⟩
  | .hbm, ⟨27, _⟩ => ⟨S256x256, .i32⟩
  | .hbm, ⟨28, _⟩ => ⟨S256x256, .i1⟩
  | .hbm, ⟨29, _⟩ => ⟨S1x256x256, .i1⟩
  | .hbm, ⟨30, _⟩ => ⟨S_, .f32⟩
  | .hbm, ⟨31, _⟩ => ⟨S_, .f32⟩
  | .hbm, ⟨32, _⟩ => ⟨S16x256x256, .i1⟩
  | .hbm, ⟨33, _⟩ => ⟨S16x256x256, .f32⟩
  | .hbm, ⟨34, _⟩ => ⟨S16x256x256, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_c : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v5 : Ref sig .tc := ⟨.hbm, 34, rfl⟩

abbrev nD : Nat := 1
abbrev τ : Topo := Topo.v7x

variable {F : FTy → Type} [FloatOps F]
-- ==== Proof.Wo.lean ====
/-
  The output projection with its residual, `h + o · W`: the array the tiled kernel leaves is the reference's term, block by block.
  The casts to bfloat16 are the identity on extended reals, so both sides are one sum over the 1024 contracted positions.
-/
module

public import proofs.«01_k».proof.Proof.Gen.WoIdeal.Value
public import proofs.«01_k».proof.Proof.Gen.WoRefIdeal.Run
public import Idealize.ShloMosaic.Lib.Pipeline.ValueKit

@[expose] public section

set_option maxRecDepth 16384

noncomputable section

namespace Cert.WoIdeal.Closed

open Idealize.ShloMosaic Idealize.ShloMosaic.TcCoe Idealize.SL.Sem
open Idealize.ShloMosaic.Pipeline (Dat)
open Cert.WoIdeal Cert.WoIdeal.Gen

variable (m : (ℓ : Loc nD τ sig) → Buf (Elt Ideal) ℓ)

/-- The reference's term: the residual plus the product of the widened attention output with the weight. -/
def want (o : FVec Ideal S16896x1024 .bf16) (w : FVec Ideal S1024x1024 .f32) (h : FVec Ideal S16896x1024 .f32) :
    FVec Ideal S16896x1024 .f32 :=
  addf h (Host.dotGeneral Cert.WoRefIdeal.dot_S16896x1024_S1024x1024_S16896x1024_1_0_0_1_n_n none
    (extf .f32 o Cert.WoRefIdeal.Gen.bitsLt_bf16_f32) w)

/-- Row tile `t` of the operands and of the result starts at row `512 t`; the weight is one block. -/
theorem place : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- What a tile stores at `y` is the reference's term at the row where `y` lands. -/
theorem tile (c : Dev nD) (t : Fin cfg0.N) (y : S512x1024.Idx) :
    k0_pay1 (F := Ideal) (iblk m c 2 t) (iblk m c 0 t) (iblk m c 1 t) y
      = want (m ((c : Thread nD τ).loc main_arg0)) (m ((c : Thread nD τ).loc main_arg1))
          (m ((c : Thread nD τ).loc main_arg2)) (((cfg0.win 3).blk t).view.emb y) := by
  pointwise [k0_pay1, want]
  blk_point [iblk, V, place t]

/-- The result array after the run. -/
theorem final (c : Dev nD) : (dats m 0 c).arrAt 3 cfg0.N
    = want (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  exact tile m c t y

end Cert.WoIdeal.Closed

end
-- ==== Proof.Qkv.lean ====
/-
  The attention layer's queries, keys and values: the normed rows against the joint weight. A tile of 512 rows holds every
  column of its rows, so both the mean square and the contraction run over the same 1024 positions on either side.
-/
module

public import proofs.«01_k».proof.Proof.Gen.QkvIdeal.Value
public import proofs.«01_k».proof.Proof.Gen.QkvRefIdeal.Run
public import Idealize.ShloMosaic.Lib.Pipeline.ValueKit

@[expose] public section

set_option maxRecDepth 16384

noncomputable section

namespace Cert.QkvIdeal.Closed

open Idealize.ShloMosaic Idealize.ShloMosaic.TcCoe Idealize.SL.Sem
open Idealize.ShloMosaic.Pipeline (Dat)
open Cert.QkvIdeal Cert.QkvIdeal.Gen

variable (m : (ℓ : Loc nD τ sig) → Buf (Elt Ideal) ℓ)

/-- The reference's term: norm, gain, then the product with the weight. -/
def want (x : FVec Ideal S16896x1024 .f32) (g : FVec Ideal S1024 .f32) (w : FVec Ideal S1024x1536 .f32) :
    FVec Ideal S16896x1536 .f32 :=
  open Cert.QkvRefIdeal Cert.QkvRefIdeal.Gen in
  Host.dotGeneral dot_S16896x1024_S1024x1536_S16896x1536_1_0_0_1_n_n none
    (mulf (mulf x (broadcastInDim S16896x1024 ![0, 1] bcast_S16896x1_S16896x1024_0_1
      (Host.rsqrt (addf (Host.divf (broadcastInDim S16896x1 ![0] bcast_S16896_S16896x1_0
          (Host.reduceAdd (mulf x x) (constant S_ .f32 0x00000000#32) reducesTo_S16896x1024_S16896_d1 h_S_))
        (broadcastInDim S16896x1 ![] bcast_S_S16896x1 (constant S_ .f32 0x44800000#32)))
        (broadcastInDim S16896x1 ![] bcast_S_S16896x1 (constant S_ .f32 0x358637BD#32))))))
      (broadcastInDim S16896x1024 ![0, 1] bcast_S1x1024_S16896x1024_0_1
        (broadcastInDim S1x1024 ![1] bcast_S1024_S1x1024_1 g))) w

/-- The tiles run down the rows; gain and weight come as single blocks. -/
theorem place : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- The product that tile `t` stores, at one of its elements. -/
theorem tile (c : Dev nD) (t : Fin cfg0.N) (y : S512x1536.Idx) :
    k0_pay1 (F := Ideal) (iblk m c 0 t) (iblk m c 1 t) (iblk m c 2 t) y
      = want (m ((c : Thread nD τ).loc main_arg0)) (m ((c : Thread nD τ).loc main_arg1))
          (m ((c : Thread nD τ).loc main_arg2)) (((cfg0.win 3).blk t).view.emb y) := by
  pointwise [k0_pay1, want]
  blk_point [iblk, V, place t]

/-- Queries, keys and values of all tokens. -/
theorem final (c : Dev nD) : (dats m 0 c).arrAt 3 cfg0.N
    = want (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  exact tile m c t y

end Cert.QkvIdeal.Closed

end
-- ==== Proof.Bch.lean ====
/-
  The convolution layer's entry: two gates and the value row of every token, one product of the normed row with a weight
  of 3072 columns. Twice the columns of the attention's entry, with the same rows and the same contraction.
-/
module

public import proofs.«01_k».proof.Proof.Gen.BchIdeal.Value
public import proofs.«01_k».proof.Proof.Gen.BchRefIdeal.Run
public import Idealize.ShloMosaic.Lib.Pipeline.ValueKit

@[expose] public section

set_option maxRecDepth 16384

noncomputable section

namespace Cert.BchIdeal.Closed

open Idealize.ShloMosaic Idealize.ShloMosaic.TcCoe Idealize.SL.Sem
open Idealize.ShloMosaic.Pipeline (Dat)
open Cert.BchIdeal Cert.BchIdeal.Gen

variable (m : (ℓ : Loc nD τ sig) → Buf (Elt Ideal) ℓ)

/-- The factor of a row: one over the root of its mean square plus epsilon. -/
def factor (x : FVec Ideal S16896x1024 .f32) : FVec Ideal Cert.BchRefIdeal.S16896x1 .f32 :=
  open Cert.BchRefIdeal Cert.BchRefIdeal.Gen in
  Host.rsqrt (addf (Host.divf (broadcastInDim S16896x1 ![0] bcast_S16896_S16896x1_0
      (Host.reduceAdd (mulf x x) (constant S_ .f32 0x00000000#32) reducesTo_S16896x1024_S16896_d1 h_S_))
    (broadcastInDim S16896x1 ![] bcast_S_S16896x1 (constant S_ .f32 0x44800000#32)))
    (broadcastInDim S16896x1 ![] bcast_S_S16896x1 (constant S_ .f32 0x358637BD#32)))

/-- Both gates and the value, as the reference has them. -/
def want (x : FVec Ideal S16896x1024 .f32) (g : FVec Ideal S1024 .f32) (w : FVec Ideal S1024x3072 .f32) :
    FVec Ideal S16896x3072 .f32 :=
  open Cert.BchRefIdeal Cert.BchRefIdeal.Gen in
  Host.dotGeneral dot_S16896x1024_S1024x3072_S16896x3072_1_0_0_1_n_n none
    (mulf (mulf x (broadcastInDim S16896x1024 ![0, 1] bcast_S16896x1_S16896x1024_0_1 (factor x)))
      (broadcastInDim S16896x1024 ![0, 1] bcast_S1x1024_S16896x1024_0_1
        (broadcastInDim S1x1024 ![1] bcast_S1024_S1x1024_1 g))) w

/-- Where the blocks of a point lie: rows from `512 t` on in the first and the last window. -/
theorem place : ∀ t : Fin cfg0.N, win0_3.index t = ![t.val, 0] ∧ win0_0.index t = ![t.val, 0]
    ∧ win0_1.index t = ![0, 0] ∧ win0_2.index t = ![0, 0] :=
  (by decide +kernel : ∀ t : Fin grid0.N, _)

/-- The result array: a point writes its 512 rows of the reference's array. -/
theorem final (c : Dev nD) : (dats m 0 c).arrAt 3 cfg0.N
    = want (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  show k0_pay1 (F := Ideal) (iblk m c 0 t) (iblk m c 1 t) (iblk m c 2 t) y
    = want _ _ _ (((cfg0.win 3).blk t).view.emb y)
  pointwise [k0_pay1, want, factor]
  blk_point [iblk, V, place t]

end Cert.BchIdeal.Closed

end
-- ==== Proof.Fin.lean ====
/-
  The root-mean-square norm of every row, scaled by the gain: the layer's last step, and the first half of two others.
  A tile holds whole rows, so its mean square is the row's, over the same 1024 squares.
-/
module

public import proofs.«01_k».proof.Proof.Gen.FinIdeal.Value
public import proofs.«01_k».proof.Proof.Gen.FinRefIdeal.Run
public import Idealize.ShloMosaic.Lib.Pipeline.ValueKit

@[expose] public section

set_option maxRecDepth 16384

noncomputable section

namespace Cert.FinIdeal.Closed

open Idealize.ShloMosaic Idealize.ShloMosaic.TcCoe Idealize.SL.Sem
open Idealize.ShloMosaic.Pipeline (Dat)
open Cert.FinIdeal Cert.FinIdeal.Gen

variable (m : (ℓ : Loc nD τ sig) → Buf (Elt Ideal) ℓ)

/-- A row over its root mean square (the epsilon inside the root), times the gain: the reference's term. -/
def want (x : FVec Ideal S16896x1024 .f32) (g : FVec Ideal S1024 .f32) : FVec Ideal S16896x1024 .f32 :=
  open Cert.FinRefIdeal Cert.FinRefIdeal.Gen in
  mulf (mulf x (broadcastInDim S16896x1024 ![0, 1] bcast_S16896x1_S16896x1024_0_1
      (Host.rsqrt (addf (Host.divf (broadcastInDim S16896x1 ![0] bcast_S16896_S16896x1_0
          (Host.reduceAdd (mulf x x) (constant S_ .f32 0x00000000#32) reducesTo_S16896x1024_S16896_d1 h_S_))
        (broadcastInDim S16896x1 ![] bcast_S_S16896x1 (constant S_ .f32 0x44800000#32)))
        (broadcastInDim S16896x1 ![] bcast_S_S16896x1 (constant S_ .f32 0x358637BD#32))))))
    (broadcastInDim S16896x1024 ![0, 1] bcast_S1x1024_S16896x1024_0_1
      (broadcastInDim S1x1024 ![1] bcast_S1024_S1x1024_1 g))

/-- Tile `t` of the rows and of the result begins at row `512 t`; every tile reads the whole gain. -/
theorem place : ∀ t : Fin cfg0.N, win0_0.index t = ![t.val, 0] ∧ win0_1.index t = ![0, 0]
    ∧ win0_2.index t = ![t.val, 0] :=
  (by decide +kernel : ∀ t : Fin grid0.N, _)

/-- One tile's store, element by element. -/
theorem tile (c : Dev nD) (t : Fin cfg0.N) (y : S512x1024.Idx) :
    k0_pay1 (F := Ideal) (iblk m c 0 t) (iblk m c 1 t) y
      = want (m ((c : Thread nD τ).loc main_arg0)) (m ((c : Thread nD τ).loc main_arg1))
          (((cfg0.win 2).blk t).view.emb y) := by
  pointwise [k0_pay1, want]
  blk_point [iblk, V, place t]

/-- All tiles together: the normed array. -/
theorem final (c : Dev nD) : (dats m 0 c).arrAt 2 cfg0.N
    = want (m ((c : Thread nD τ).loc main_arg0)) (m ((c : Thread nD τ).loc main_arg1)) := by
  refine (dats m 0 c).arrAt_eq_of_covers 2 _ (by decide +kernel) fun t _ y => ?_
  blk_simp
  rw [after0_2]
  frame_out
  exact tile m c t y

end Cert.FinIdeal.Closed

end
-- ==== Proof.ConvP.lean ====
/-
  The short convolution of the prompts: three taps over the gated rows of a sequence, the last rows of a block of 512
  carried to the next block, zeros before a sequence's first row; then the gate and the product with the outgoing weight.
-/
module

public import proofs.«01_k».proof.Proof.Gen.ConvPIdeal.Value
public import proofs.«01_k».proof.Proof.Gen.ConvPRefIdeal.Run
public import Idealize.ShloMosaic.Lib.Pipeline.ValueKit
public import Idealize.ShloMosaic.Lib.WritesUnit

@[expose] public section

set_option maxRecDepth 16384

noncomputable section

namespace Cert.ConvPIdeal.Closed

open Idealize.ShloMosaic Idealize.ShloMosaic.TcCoe Idealize.SL.Sem
open Idealize.ShloMosaic.Pipeline (Dat)
open Cert.ConvPIdeal Cert.ConvPIdeal.Gen

variable (m : (ℓ : Loc nD τ sig) → Buf (Elt Ideal) ℓ)

/-- Where the blocks of a point lie. -/
theorem place : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ t.val < 32 :=
  (by decide +kernel : ∀ t : Fin grid0.N, _)

/-- The gated rows of a point's block. -/
def gated (c : Dev nD) (t : Fin cfg0.N) : FVec Ideal S512x1024 .f32 :=
  k0_pay5 (View.ld (iblk m c 0 t) (Rect.unit ![0, 1024] ![512, 1024] inb_S512x3072_S512x1024_0_1024))
    (View.ld (iblk m c 0 t) (Rect.unit ![0, 2048] ![512, 1024] inb_S512x3072_S512x1024_0_2048))

/-- A point leaves the last eight gated rows in the first rows of the scratch. -/
theorem carried (c : Dev nD) (t : Fin cfg0.N) (r : Fin 8) (l : Fin 1024) :
    (outsAt0 m c t.val t.isLt).2.2 (ix2 ⟨r.val, by omega⟩ l) = gated m c t (ix2 ⟨504 + r.val, by omega⟩ l) := by
  have e : (ix2 ⟨r.val, by omega⟩ l : S520x1024.Idx)
      = (Rect.unit (s := S520x1024) ![0, 0] ![8, 1024] inb_S520x1024_S8x1024_0_0).emb (ix2 r l : S8x1024.Idx) := by
    funext a; apply Fin.ext; fin_cases a
    · show r.val = 0 + 1 * r.val; omega
    · show l.val = 0 + 1 * l.val; omega
  by_cases h : t.val % 8 = 0
  · rw [outsAt0_A m c t h]
    frame_out
    rw [e, View.canon_cons_emb]
    pointwise [k0_pay3, k0_pay2, gated]
    rfl
  · rw [outsAt0_B m c t h]
    frame_out
    rw [e, View.canon_cons_emb]
    pointwise [k0_pay3, k0_pay2, gated]
    rfl

/-- The row `8 - o` before a row of the block: of the block before, or zero at the start of a sequence, when it is not in
this block. -/
def past (c : Dev nD) (t : Fin cfg0.N) (o : Fin 9) (i : S512x1024.Idx) : EReal :=
  if h : (i 0).val + o.val < 8 then
    if t.val % 8 = 0 then 0 else gated m c ⟨t.val - 1, lt_of_le_of_lt (Nat.sub_le _ _) t.isLt⟩ (ix2 ⟨504 + ((i 0).val + o.val), by omega⟩ (i 1))
  else gated m c t (ix2 ⟨(i 0).val + o.val - 8, by have := (i 0).isLt; have := o.isLt; change (i 0).val < 512 at *; omega⟩ (i 1))

/-- What a load of the scratch reads at a sequence's first block: zeros above the block's gated rows. -/
theorem read_first (c : Dev nD) (t : Fin cfg0.N) (h : t.val % 8 = 0) (o : Fin 9)
    (inb : ∀ a, (![o.val, 0] : Fin 2 → ℕ) a + (![512, 1024] : Fin 2 → ℕ) a ≤ S520x1024.size a) :
    (View.whole cc0_scratch0).readCov (Val := Elt Ideal) [⟨Rect.unit ![8, 0] ![512, 1024] inb_S520x1024_S512x1024_8_0,
          k0_pay6 (F := Ideal) (View.ld (iblk m c 0 t) (Rect.unit ![0, 1024] ![512, 1024] inb_S512x3072_S512x1024_0_1024))
            (View.ld (iblk m c 0 t) (Rect.unit ![0, 2048] ![512, 1024] inb_S512x3072_S512x1024_0_2048))⟩,
        ⟨Rect.unit ![0, 0] ![8, 1024] inb_S520x1024_S8x1024_0_0, k0_pay4 (F := Ideal)⟩]
      (Rect.unit ![o.val, 0] ![512, 1024] inb).toLoadRect = past m c t o := by
  funext i
  obtain ⟨r, l, rfl⟩ : ∃ (r : Fin 512) (l : Fin 1024), i = ix2 r l := ⟨i 0, i 1, by funext a; fin_cases a <;> rfl⟩
  unfold View.readCov
  rw [View.readAt_apply]
  by_cases hr : r.val + o.val < 8
  · rw [View.read_writes_cons_rows_of_not_mem (o := 8) (W := 512) _ _ _ _ _ _ rfl rfl
      (Or.inl (show o.val + 1 * r.val < 8 by omega)),
      View.read_writes_cons_rows_of_mem (o := 0) (size := ![8, 1024]) _ _ _ _ _ _ (ix2 ⟨r.val + o.val, hr⟩ l : S8x1024.Idx) rfl
      (show o.val + 1 * r.val = 0 + (r.val + o.val) by omega) (show 0 + 1 * l.val = l.val by omega)]
    have e : past m c t o (ix2 r l) = 0 := (dif_pos hr).trans (if_pos h)
    rw [e]
    pointwise [k0_pay4]
  · rw [View.read_writes_cons_rows_of_mem (o := 8) (size := ![512, 1024]) _ _ _ _ _ _ (ix2 ⟨r.val + o.val - 8, by omega⟩ l : S512x1024.Idx) rfl
      (show o.val + 1 * r.val = 8 + (r.val + o.val - 8) by omega) (show 0 + 1 * l.val = l.val by omega)]
    have e : past m c t o (ix2 r l) = gated m c t (ix2 ⟨r.val + o.val - 8, by omega⟩ l) := dif_neg hr
    rw [e]
    pointwise [k0_pay6, gated]

/-- What a load of the scratch reads at a later block: the rows carried above the block's gated rows. -/
theorem read_later (c : Dev nD) (t : Fin cfg0.N) (h : ¬t.val % 8 = 0) (o : Fin 9)
    (inb : ∀ a, (![o.val, 0] : Fin 2 → ℕ) a + (![512, 1024] : Fin 2 → ℕ) a ≤ S520x1024.size a) (f : S520x1024.Idx → EReal)
    (hf : ∀ (r : Fin 8) (l : Fin 1024), f (ix2 ⟨r.val, by omega⟩ l)
      = gated m c ⟨t.val - 1, lt_of_le_of_lt (Nat.sub_le _ _) t.isLt⟩ (ix2 ⟨504 + r.val, by omega⟩ l)) :
    View.ld (View.read (Elt Ideal) (View.whole cc0_scratch0) ((View.whole cc0_scratch0).writes (Elt Ideal)
        ((Memref.isWhole_whole cc0_scratch0).unread f)
        [⟨Rect.unit ![8, 0] ![512, 1024] inb_S520x1024_S512x1024_8_0,
          k0_pay6 (F := Ideal) (View.ld (iblk m c 0 t) (Rect.unit ![0, 1024] ![512, 1024] inb_S512x3072_S512x1024_0_1024))
            (View.ld (iblk m c 0 t) (Rect.unit ![0, 2048] ![512, 1024] inb_S512x3072_S512x1024_0_2048))⟩]))
      (Rect.unit ![o.val, 0] ![512, 1024] inb) = past m c t o := by
  funext i
  obtain ⟨r, l, rfl⟩ : ∃ (r : Fin 512) (l : Fin 1024), i = ix2 r l := ⟨i 0, i 1, by funext a; fin_cases a <;> rfl⟩
  show View.read _ _ _ _ = _
  by_cases hr : r.val + o.val < 8
  · rw [View.read_writes_cons_rows_of_not_mem (o := 8) (W := 512) _ _ _ _ _ _ rfl rfl
      (Or.inl (show o.val + 1 * r.val < 8 by omega))]
    have e : past m c t o (ix2 r l) = gated m c ⟨t.val - 1, lt_of_le_of_lt (Nat.sub_le _ _) t.isLt⟩
        (ix2 ⟨504 + (⟨r.val + o.val, hr⟩ : Fin 8).val, by omega⟩ l) := (dif_pos hr).trans (if_neg h)
    rw [e, ← hf]
    refine (congrFun ((Memref.isWhole_whole cc0_scratch0).read_unread (Val := Elt Ideal) f) _).trans ?_
    show f _ = f _
    refine congrArg f ?_
    funext a; apply Fin.ext; fin_cases a
    · show o.val + 1 * r.val = r.val + o.val; omega
    · show 0 + 1 * l.val = l.val; omega
  · rw [View.read_writes_cons_rows_of_mem (o := 8) (size := ![512, 1024]) _ _ _ _ _ _ (ix2 ⟨r.val + o.val - 8, by omega⟩ l : S512x1024.Idx) rfl
      (show o.val + 1 * r.val = 8 + (r.val + o.val - 8) by omega) (show 0 + 1 * l.val = l.val by omega)]
    have e : past m c t o (ix2 r l) = gated m c t (ix2 ⟨r.val + o.val - 8, by omega⟩ l) := dif_neg hr
    rw [e]
    pointwise [k0_pay6, gated]

theorem out4 (c : Dev nD) (t : Fin cfg0.N) : (outsAt0 m c t.val t.isLt).1
    = k0_pay1 (k0_pay7 (View.ld (iblk m c 0 t) (Rect.unit ![0, 1024] ![512, 1024] inb_S512x3072_S512x1024_0_1024))
        (View.ld (iblk m c 0 t) (Rect.unit ![0, 2048] ![512, 1024] inb_S512x3072_S512x1024_0_2048))
        (View.ld (iblk m c 1 t) (Rect.unit ![0, 0] ![1, 1024] inb_S3x1024_S1x1024_0_0)) (past m c t 6)
        (View.ld (iblk m c 1 t) (Rect.unit ![1, 0] ![1, 1024] inb_S3x1024_S1x1024_1_0)) (past m c t 7)
        (View.ld (iblk m c 1 t) (Rect.unit ![2, 0] ![1, 1024] inb_S3x1024_S1x1024_2_0)))
      (View.ld (iblk m c 0 t) (Rect.unit ![0, 0] ![512, 1024] inb_S512x3072_S512x1024_0_0)) (iblk m c 3 t) (iblk m c 2 t) := by
  by_cases h : t.val % 8 = 0
  · rw [outsAt0_A m c t h]
    frame_out
    exact congrArg₂ (fun p q => k0_pay1 (k0_pay7 _ _ _ p _ q _) _ _ _)
      (read_first m c t h 6 inb_S520x1024_S512x1024_6_0) (read_first m c t h 7 inb_S520x1024_S512x1024_7_0)
  · rw [outsAt0_B m c t h]
    frame_out
    exact congrArg₂ (fun p q => k0_pay1 (k0_pay7 _ _ _ p _ q _) _ _ _)
      (read_later m c t h 6 inb_S520x1024_S512x1024_6_0 _ (carried m c ⟨t.val - 1, lt_of_le_of_lt (Nat.sub_le _ _) t.isLt⟩))
      (read_later m c t h 7 inb_S520x1024_S512x1024_7_0 _ (carried m c ⟨t.val - 1, lt_of_le_of_lt (Nat.sub_le _ _) t.isLt⟩))

theorem out5 (c : Dev nD) (t : Fin cfg0.N) : (outsAt0 m c t.val t.isLt).2.1 = k0_pay2 (gated m c t) := by
  by_cases h : t.val % 8 = 0
  · rw [outsAt0_A m c t h]
    frame_out
    rfl
  · rw [outsAt0_B m c t h]
    frame_out
    rfl

/-- The gated rows of every sequence behind two zero rows. -/
def line (x : FVec Ideal S16896x3072 .f32) : FVec Ideal Cert.ConvPRefIdeal.S4x4098x1024 .f32 :=
  open Cert.ConvPRefIdeal Cert.ConvPRefIdeal.Gen in
  concatenate S4x4098x1024 1 [⟨S4x2x1024, broadcastInDim S4x2x1024 ![] bcast_S_S4x2x1024 (constant S_ .f32 0x00000000#32)⟩,
    ⟨S4x4096x1024, mulf
      (extractStridedSlice S4x4096x1024 ![0, 0, 1024] (shapeCast S4x4096x3072 (extractStridedSlice S16384x3072 ![0, 0] x
        slices_S16896x3072_S16384x3072_0_0) shapeCasts_S16384x3072_S4x4096x3072) slices_S4x4096x3072_S4x4096x1024_0_0_1024)
      (extractStridedSlice S4x4096x1024 ![0, 0, 2048] (shapeCast S4x4096x3072 (extractStridedSlice S16384x3072 ![0, 0] x
        slices_S16896x3072_S16384x3072_0_0) shapeCasts_S16384x3072_S4x4096x3072) slices_S4x4096x3072_S4x4096x1024_0_0_2048)⟩]
    concatenates_S4x2x1024_S4x4096x1024_S4x4098x1024_d1

/-- One tap: a row of the weight over every channel. -/
def tap (w : FVec Ideal Cert.ConvPRefIdeal.S1x1024 .f32) : FVec Ideal Cert.ConvPRefIdeal.S4x4096x1024 .f32 :=
  open Cert.ConvPRefIdeal Cert.ConvPRefIdeal.Gen in
  broadcastInDim S4x4096x1024 ![0, 1, 2] bcast_S1x1x1024_S4x4096x1024_0_1_2
    (broadcastInDim S1x1x1024 ![2] bcast_S1024_S1x1x1024_2 (shapeCast S1024 w shapeCasts_S1x1024_S1024))

/-- The three taps summed over a line. -/
def taps (u : FVec Ideal Cert.ConvPRefIdeal.S4x4098x1024 .f32) (w : FVec Ideal S3x1024 .f32) :
    FVec Ideal Cert.ConvPRefIdeal.S4x4096x1024 .f32 :=
  open Cert.ConvPRefIdeal Cert.ConvPRefIdeal.Gen in
  addf (addf (addf (broadcastInDim S4x4096x1024 ![] bcast_S_S4x4096x1024 (constant S_ .f32 0x00000000#32))
      (mulf (tap (extractStridedSlice S1x1024 ![0, 0] w slices_S3x1024_S1x1024_0_0))
        (extractStridedSlice S4x4096x1024 ![0, 0, 0] u slices_S4x4098x1024_S4x4096x1024_0_0_0)))
      (mulf (tap (extractStridedSlice S1x1024 ![1, 0] w slices_S3x1024_S1x1024_1_0))
        (extractStridedSlice S4x4096x1024 ![0, 1, 0] u slices_S4x4098x1024_S4x4096x1024_0_1_0)))
      (mulf (tap (extractStridedSlice S1x1024 ![2, 0] w slices_S3x1024_S1x1024_2_0))
        (extractStridedSlice S4x4096x1024 ![0, 2, 0] u slices_S4x4098x1024_S4x4096x1024_0_2_0))

/-- The first result: the residual and the gated sums' product with the outgoing weight. -/
def want (x : FVec Ideal S16896x3072 .f32) (w : FVec Ideal S3x1024 .f32) (o : FVec Ideal S1024x1024 .f32)
    (h : FVec Ideal S16896x1024 .f32) : FVec Ideal S16384x1024 .f32 :=
  open Cert.ConvPRefIdeal Cert.ConvPRefIdeal.Gen in
  shapeCast S16384x1024 (addf (shapeCast S4x4096x1024 (extractStridedSlice S16384x1024 ![0, 0] h slices_S16896x1024_S16384x1024_0_0)
      shapeCasts_S16384x1024_S4x4096x1024)
    (Host.dotGeneral dot_S4x4096x1024_S1024x1024_S4x4096x1024_2_0_01_1_n_n none
      (mulf (extractStridedSlice S4x4096x1024 ![0, 0, 0] (shapeCast S4x4096x3072 (extractStridedSlice S16384x3072 ![0, 0] x
        slices_S16896x3072_S16384x3072_0_0) shapeCasts_S16384x3072_S4x4096x3072) slices_S4x4096x3072_S4x4096x1024_0_0_0)
        (taps (line x) w)) o)) shapeCasts_S4x4096x1024_S16384x1024

/-- The second result: the last eight gated rows of every block of 512. -/
def kept (x : FVec Ideal S16896x3072 .f32) : FVec Ideal S256x1024 .f32 :=
  open Cert.ConvPRefIdeal Cert.ConvPRefIdeal.Gen in
  shapeCast S256x1024 (extractStridedSlice S4x8x8x1024 ![0, 0, 504, 0] (shapeCast S4x8x512x1024
    (extractStridedSlice S4x4096x1024 ![0, 2, 0] (line x) slices_S4x4098x1024_S4x4096x1024_0_2_0)
    shapeCasts_S4x4096x1024_S4x8x512x1024) slices_S4x8x512x1024_S4x8x8x1024_0_0_504_0) shapeCasts_S4x8x8x1024_S256x1024

abbrev arg0 (c : Dev nD) : FVec Ideal S16896x3072 .f32 := m ((c : Thread nD τ).loc main_arg0)

abbrev arg1 (c : Dev nD) : FVec Ideal S3x1024 .f32 := m ((c : Thread nD τ).loc main_arg1)

/-- The gated rows read from the argument. -/
theorem gated_at (c : Dev nD) (t : Fin cfg0.N) (r : Fin 512) (l : Fin 1024) : gated m c t (ix2 r l)
    = arg0 m c (ix2 ⟨t.val * 512 + r.val, by have := (place t).2.2.2.2.2.2; omega⟩ ⟨1024 + l.val, by omega⟩)
      * arg0 m c (ix2 ⟨t.val * 512 + r.val, by have := (place t).2.2.2.2.2.2; omega⟩ ⟨2048 + l.val, by omega⟩) := by
  pointwise [gated, k0_pay5]
  blk_point [iblk, V, place t]

/-- The line read from the argument. -/
theorem line_at (x : FVec Ideal S16896x3072 .f32) (a : Fin 4) (n : Fin 4098) (l : Fin 1024) : line x (ix3 a n l)
    = if n.val < 2 then 0 else
      x (ix2 ⟨a.val * 4096 + (n.val - 2), by omega⟩ ⟨1024 + l.val, by omega⟩)
      * x (ix2 ⟨a.val * 4096 + (n.val - 2), by omega⟩ ⟨2048 + l.val, by omega⟩) := by
  pointwise [line]
  split
  · rfl
  · blk_point []

/-- The rows before a row are the line's. -/
theorem past_line (c : Dev nD) (t : Fin cfg0.N) (j : Fin 2) (r : Fin 512) (l : Fin 1024) :
    past m c t ⟨6 + j.val, by omega⟩ (ix2 r l) = line (arg0 m c) (ix3 ⟨t.val / 8, by have := (place t).2.2.2.2.2.2; omega⟩
      ⟨t.val % 8 * 512 + r.val + j.val, by omega⟩ l) := by
  have ht := (place t).2.2.2.2.2.2
  rw [line_at]
  by_cases hr : r.val + (6 + j.val) < 8
  · by_cases h : t.val % 8 = 0
    · rw [if_pos (show t.val % 8 * 512 + r.val + j.val < 2 by omega)]
      exact (dif_pos hr).trans (if_pos h)
    · rw [if_neg (show ¬t.val % 8 * 512 + r.val + j.val < 2 by omega)]
      have ep : past m c t ⟨6 + j.val, by omega⟩ (ix2 r l) = gated m c ⟨t.val - 1, lt_of_le_of_lt (Nat.sub_le _ _) t.isLt⟩
          (ix2 ⟨504 + (r.val + (6 + j.val)), by omega⟩ l) := (dif_pos hr).trans (if_neg h)
      rw [ep, gated_at]
      have e : ((t.val - 1) * 512 + (504 + (r.val + (6 + j.val)))) = t.val / 8 * 4096 + (t.val % 8 * 512 + r.val + j.val - 2) := by omega
      exact congrArg₂ (· * ·) (congrArg (fun z => arg0 m c (ix2 z _)) (Fin.ext e)) (congrArg (fun z => arg0 m c (ix2 z _)) (Fin.ext e))
  · rw [if_neg (show ¬t.val % 8 * 512 + r.val + j.val < 2 by omega)]
    have ep : past m c t ⟨6 + j.val, by omega⟩ (ix2 r l) = gated m c t (ix2 ⟨r.val + (6 + j.val) - 8, by omega⟩ l) := dif_neg hr
    rw [ep, gated_at]
    have e : (t.val * 512 + (r.val + (6 + j.val) - 8)) = t.val / 8 * 4096 + (t.val % 8 * 512 + r.val + j.val - 2) := by omega
    exact congrArg₂ (· * ·) (congrArg (fun z => arg0 m c (ix2 z _)) (Fin.ext e)) (congrArg (fun z => arg0 m c (ix2 z _)) (Fin.ext e))

theorem own_line (c : Dev nD) (t : Fin cfg0.N) (r : Fin 512) (l : Fin 1024) :
    gated m c t (ix2 r l) = line (arg0 m c) (ix3 ⟨t.val / 8, by have := (place t).2.2.2.2.2.2; omega⟩
      ⟨t.val % 8 * 512 + r.val + 2, by omega⟩ l) := by
  have ht := (place t).2.2.2.2.2.2
  rw [line_at, if_neg (show ¬t.val % 8 * 512 + r.val + 2 < 2 by omega), gated_at]
  have e : t.val * 512 + r.val = t.val / 8 * 4096 + (t.val % 8 * 512 + r.val + 2 - 2) := by omega
  exact congrArg₂ (· * ·) (congrArg (fun z => arg0 m c (ix2 z _)) (Fin.ext e)) (congrArg (fun z => arg0 m c (ix2 z _)) (Fin.ext e))

/-- The kernel's sum of the three taps. -/
def sums (c : Dev nD) (t : Fin cfg0.N) : FVec Ideal S512x1024 .f32 :=
  k0_pay7 (View.ld (iblk m c 0 t) (Rect.unit ![0, 1024] ![512, 1024] inb_S512x3072_S512x1024_0_1024))
    (View.ld (iblk m c 0 t) (Rect.unit ![0, 2048] ![512, 1024] inb_S512x3072_S512x1024_0_2048))
    (View.ld (iblk m c 1 t) (Rect.unit ![0, 0] ![1, 1024] inb_S3x1024_S1x1024_0_0)) (past m c t 6)
    (View.ld (iblk m c 1 t) (Rect.unit ![1, 0] ![1, 1024] inb_S3x1024_S1x1024_1_0)) (past m c t 7)
    (View.ld (iblk m c 1 t) (Rect.unit ![2, 0] ![1, 1024] inb_S3x1024_S1x1024_2_0))

/-- The kernel's sum at a row and a channel, over the rows before it. -/
theorem sums_split (c : Dev nD) (t : Fin cfg0.N) (r : Fin 512) (k : Fin 1024) : sums m c t (ix2 r k)
    = arg1 m c (ix2 (0 : Fin 3) k) * past m c t 6 (ix2 r k)
      + arg1 m c (ix2 (1 : Fin 3) k) * past m c t 7 (ix2 r k)
      + arg1 m c (ix2 (2 : Fin 3) k) * gated m c t (ix2 r k) := by
  have e : ∀ j : Fin 3, iblk m c 1 t (ix2 j k) = arg1 m c (ix2 j k) := fun j => by blk_ext [iblk, V, place t]
  pointwise [sums, k0_pay7, gated]
  rw [← e, ← e, ← e]

/-- The reference's sum at a row and a channel. -/
theorem taps_split (u : FVec Ideal Cert.ConvPRefIdeal.S4x4098x1024 .f32) (w : FVec Ideal S3x1024 .f32) (a : Fin 4) (n : Fin 4096)
    (k : Fin 1024) : taps u w (ix3 a n k)
    = w (ix2 (0 : Fin 3) k) * u (ix3 a ⟨n.val, by omega⟩ k) + w (ix2 (1 : Fin 3) k) * u (ix3 a ⟨n.val + 1, by omega⟩ k)
      + w (ix2 (2 : Fin 3) k) * u (ix3 a ⟨n.val + 2, by omega⟩ k) := by
  pointwise [taps, tap]
  blk_point []

/-- The two sums agree. -/
theorem sums_at (c : Dev nD) (t : Fin cfg0.N) (r : Fin 512) (k : Fin 1024) : sums m c t (ix2 r k)
    = taps (line (arg0 m c)) (arg1 m c)
      (ix3 ⟨t.val / 8, by have := (place t).2.2.2.2.2.2; omega⟩ ⟨t.val % 8 * 512 + r.val, by omega⟩ k) := by
  rw [sums_split, taps_split]
  have e6 : past m c t 6 (ix2 r k) = _ := past_line m c t 0 r k
  have e7 : past m c t 7 (ix2 r k) = _ := past_line m c t 1 r k
  rw [e6, e7, own_line]
  rfl

/-- The outgoing weight as the host hands it over. -/
theorem entry2 (c : Dev nD) : V m c main_v0 = m ((c : Thread nD τ).loc main_arg2) := by
  entry_read; rfl

/-- One stored element. -/
theorem tile (c : Dev nD) (t : Fin cfg0.N) (r : Fin 512) (l : Fin 1024) :
    k0_pay1 (F := Ideal) (sums m c t) (View.ld (iblk m c 0 t) (Rect.unit ![0, 0] ![512, 1024] inb_S512x3072_S512x1024_0_0))
        (iblk m c 3 t) (iblk m c 2 t) (ix2 r l)
      = want (arg0 m c) (arg1 m c) (m ((c : Thread nD τ).loc main_arg2))
          (m ((c : Thread nD τ).loc main_arg3)) (ix2 ⟨t.val * 512 + r.val, by have := (place t).2.2.2.2.2.2; omega⟩ l) := by
  have ht := (place t).2.2.2.2.2.2
  have e : t.val * 512 + r.val = (t.val * 512 + r.val) / 4096 * 4096 + (t.val * 512 + r.val) % 4096 := by omega
  pointwise [k0_pay1, want]
  refine congrArg₂ (· + ·) (by blk_ext [iblk, V, place t]) (Fin.sum_fin_congr fun k => ?_)
  rw [sums_at]
  refine congrArg₂ (· * ·) (congrArg₂ (· * ·) (by blk_ext [iblk, V, place t]) (congrArg _ ?_)) ?_
  · congr 1 <;> apply Fin.ext <;> show _ = _ <;> simp only [] <;> omega
  · rw [← entry2 m c]
    blk_ext [iblk, place t]

/-- The first result array. -/
theorem final (c : Dev nD) : (dats m 0 c).arrAt 4 cfg0.N
    = want (arg0 m c) (arg1 m c) (m ((c : Thread nD τ).loc main_arg2)) (m ((c : Thread nD τ).loc main_arg3)) := by
  refine (dats m 0 c).arrAt_eq_of_covers 4 _ (by decide +kernel) fun t _ y => ?_
  blk_simp
  rw [after0_4, out4]
  obtain ⟨r, l, rfl⟩ : ∃ (r : Fin 512) (l : Fin 1024), y = ix2 r l := ⟨y 0, y 1, by funext a; fin_cases a <;> rfl⟩
  refine (tile m c t r l).trans (congrArg _ ?_)
  blk_ext [place t]

/-- Rows of eight, by sequence and block. -/
theorem eights_at (v : FVec Ideal Cert.ConvPRefIdeal.S4x8x8x1024 .f32) (n : Fin 256) (l : Fin 1024) :
    (open Cert.ConvPRefIdeal Cert.ConvPRefIdeal.Gen in shapeCast S256x1024 v shapeCasts_S4x8x8x1024_S256x1024) (ix2 n l)
      = v (ix4 ⟨n.val / 64, by omega⟩ ⟨n.val / 8 % 8, by omega⟩ ⟨n.val % 8, by omega⟩ l) := by
  pointwise []

/-- The last eight rows of a block. -/
theorem last_at (v : FVec Ideal Cert.ConvPRefIdeal.S4x8x512x1024 .f32) (a : Fin 4) (b r : Fin 8) (l : Fin 1024) :
    (open Cert.ConvPRefIdeal Cert.ConvPRefIdeal.Gen in extractStridedSlice S4x8x8x1024 ![0, 0, 504, 0] v
      slices_S4x8x512x1024_S4x8x8x1024_0_0_504_0) (ix4 a b r l) = v (ix4 a b ⟨504 + r.val, by omega⟩ l) := by
  pointwise []

/-- A sequence's blocks. -/
theorem blocks_at (v : FVec Ideal Cert.ConvPRefIdeal.S4x4096x1024 .f32) (a : Fin 4) (b : Fin 8) (r : Fin 512) (l : Fin 1024) :
    (open Cert.ConvPRefIdeal Cert.ConvPRefIdeal.Gen in shapeCast S4x8x512x1024 v shapeCasts_S4x4096x1024_S4x8x512x1024) (ix4 a b r l)
      = v (ix3 a ⟨b.val * 512 + r.val, by omega⟩ l) := by
  pointwise []

/-- The rows of a sequence behind the two zero rows. -/
theorem behind_at (v : FVec Ideal Cert.ConvPRefIdeal.S4x4098x1024 .f32) (a : Fin 4) (n : Fin 4096) (l : Fin 1024) :
    (open Cert.ConvPRefIdeal Cert.ConvPRefIdeal.Gen in extractStridedSlice S4x4096x1024 ![0, 2, 0] v
      slices_S4x4098x1024_S4x4096x1024_0_2_0) (ix3 a n l) = v (ix3 a ⟨2 + n.val, by omega⟩ l) := by
  pointwise []

/-- The second result at a row: eight rows of every block. -/
theorem kept_at (x : FVec Ideal S16896x3072 .f32) (n : Fin 256) (l : Fin 1024) (a : Fin 4) (b : Fin 4098) (ha : a.val = n.val / 64)
    (hb : b.val = 2 + (n.val / 8 % 8 * 512 + (504 + n.val % 8))) : kept x (ix2 n l) = line x (ix3 a b l) := by
  unfold kept
  rw [eights_at, last_at, blocks_at, behind_at]
  exact congrArg₂ (fun p q => line x (ix3 p q l)) (Fin.ext ha.symm) (Fin.ext hb.symm)

/-- One element of the second result. -/
theorem kept_tile (c : Dev nD) (t : Fin cfg0.N) (r : Fin 8) (l : Fin 1024) : k0_pay2 (gated m c t) (ix2 r l)
    = kept (arg0 m c) (ix2 ⟨t.val * 8 + r.val, by have := (place t).2.2.2.2.2.2; omega⟩ l) := by
  have ht := (place t).2.2.2.2.2.2
  have e : k0_pay2 (gated m c t) (ix2 r l) = gated m c t (ix2 ⟨504 + r.val, by omega⟩ l) := by
    generalize gated m c t = u
    pointwise [k0_pay2]
  rw [e, own_line]
  refine (kept_at (arg0 m c) _ l _ _ ?_ ?_).symm
  · show t.val / 8 = (t.val * 8 + r.val) / 64
    omega
  · show t.val % 8 * 512 + (504 + r.val) + 2 = 2 + ((t.val * 8 + r.val) / 8 % 8 * 512 + (504 + (t.val * 8 + r.val) % 8))
    omega

/-- The second result array. -/
theorem final_kept (c : Dev nD) : (dats m 0 c).arrAt 5 cfg0.N = kept (arg0 m c) := by
  refine (dats m 0 c).arrAt_eq_of_covers 5 _ (by decide +kernel) fun t _ y => ?_
  blk_simp
  rw [after0_5, out5]
  obtain ⟨r, l, rfl⟩ : ∃ (r : Fin 8) (l : Fin 1024), y = ix2 r l := ⟨y 0, y 1, by funext a; fin_cases a <;> rfl⟩
  refine (kept_tile m c t r l).trans (congrArg _ ?_)
  blk_ext [place t]

end Cert.ConvPIdeal.Closed

end
-- ==== Proof.ConvS.lean ====
/-
  The short convolution of the sampled tokens: every token's two remembered rows stand before its own gated row, three
  taps are summed, the gate is applied, and the product with the outgoing weight is added to the residual.
-/
module

public import proofs.«01_k».proof.Proof.Gen.ConvSIdeal.Value
public import proofs.«01_k».proof.Proof.Gen.ConvSRefIdeal.Run
public import Idealize.ShloMosaic.Lib.Pipeline.ValueKit

@[expose] public section

set_option maxRecDepth 16384

noncomputable section

namespace Cert.ConvSIdeal.Closed

open Idealize.ShloMosaic Idealize.ShloMosaic.TcCoe Idealize.SL.Sem
open Idealize.ShloMosaic.Pipeline (Dat)
open Cert.ConvSIdeal Cert.ConvSIdeal.Gen

variable (m : (ℓ : Loc nD τ sig) → Buf (Elt Ideal) ℓ)

/-- The gated rows of four sampled tokens behind the two rows remembered before them. -/
def line (x : FVec Ideal S512x3072 .f32) (s : FVec Ideal Cert.ConvSRefIdeal.S128x2x1024 .f32) :
    FVec Ideal Cert.ConvSRefIdeal.S128x6x1024 .f32 :=
  open Cert.ConvSRefIdeal Cert.ConvSRefIdeal.Gen in
  concatenate S128x6x1024 1 [⟨S128x2x1024, s⟩, ⟨S128x4x1024,
    mulf (extractStridedSlice S128x4x1024 ![0, 0, 1024] (transpose S128x4x3072 [1, 0, 2]
        (shapeCast _ x shapeCasts_S512x3072_S4x128x3072) transposes_S4x128x3072_S128x4x3072_1_0_2)
        slices_S128x4x3072_S128x4x1024_0_0_1024)
      (extractStridedSlice S128x4x1024 ![0, 0, 2048] (transpose S128x4x3072 [1, 0, 2]
        (shapeCast _ x shapeCasts_S512x3072_S4x128x3072) transposes_S4x128x3072_S128x4x3072_1_0_2)
        slices_S128x4x3072_S128x4x1024_0_0_2048)⟩] concatenates_S128x2x1024_S128x4x1024_S128x6x1024_d1

/-- One tap: row `j` of the weight over every channel. -/
def tap (w : FVec Ideal Cert.ConvSRefIdeal.S1x1024 .f32) : FVec Ideal Cert.ConvSRefIdeal.S128x4x1024 .f32 :=
  open Cert.ConvSRefIdeal Cert.ConvSRefIdeal.Gen in
  broadcastInDim S128x4x1024 ![0, 1, 2] bcast_S1x1x1024_S128x4x1024_0_1_2
    (broadcastInDim S1x1x1024 ![2] bcast_S1024_S1x1x1024_2 (shapeCast S1024 w shapeCasts_S1x1024_S1024))

/-- The sum of the three taps over a line. -/
def taps (u : FVec Ideal Cert.ConvSRefIdeal.S128x6x1024 .f32) (w : FVec Ideal S3x1024 .f32) :
    FVec Ideal Cert.ConvSRefIdeal.S128x4x1024 .f32 :=
  open Cert.ConvSRefIdeal Cert.ConvSRefIdeal.Gen in
  addf (addf (addf (broadcastInDim S128x4x1024 ![] bcast_S_S128x4x1024 (constant S_ .f32 0x00000000#32))
      (mulf (tap (extractStridedSlice S1x1024 ![0, 0] w slices_S3x1024_S1x1024_0_0))
        (extractStridedSlice S128x4x1024 ![0, 0, 0] u slices_S128x6x1024_S128x4x1024_0_0_0)))
      (mulf (tap (extractStridedSlice S1x1024 ![1, 0] w slices_S3x1024_S1x1024_1_0))
        (extractStridedSlice S128x4x1024 ![0, 1, 0] u slices_S128x6x1024_S128x4x1024_0_1_0)))
      (mulf (tap (extractStridedSlice S1x1024 ![2, 0] w slices_S3x1024_S1x1024_2_0))
        (extractStridedSlice S128x4x1024 ![0, 2, 0] u slices_S128x6x1024_S128x4x1024_0_2_0))

/-- The first result, as the reference has it: the residual and the product. -/
def want (x : FVec Ideal S512x3072 .f32) (s : FVec Ideal Cert.ConvSRefIdeal.S128x2x1024 .f32) (w : FVec Ideal S3x1024 .f32)
    (o : FVec Ideal S1024x1024 .f32) (h : FVec Ideal S512x1024 .f32) : FVec Ideal S512x1024 .f32 :=
  open Cert.ConvSRefIdeal Cert.ConvSRefIdeal.Gen in
  shapeCast S512x1024 (addf (shapeCast S4x128x1024 h shapeCasts_S512x1024_S4x128x1024)
    (transpose S4x128x1024 [1, 0, 2] (Host.dotGeneral dot_S128x4x1024_S1024x1024_S128x4x1024_2_0_01_1_n_n none
      (mulf (extractStridedSlice S128x4x1024 ![0, 0, 0] (transpose S128x4x3072 [1, 0, 2]
        (shapeCast S4x128x3072 x shapeCasts_S512x3072_S4x128x3072) transposes_S4x128x3072_S128x4x3072_1_0_2)
        slices_S128x4x3072_S128x4x1024_0_0_0) (taps (line x s) w)) o)
      transposes_S128x4x1024_S4x128x1024_1_0_2)) shapeCasts_S4x128x1024_S512x1024

/-- The second result: the gated rows, which the next step remembers. -/
def kept (x : FVec Ideal S512x3072 .f32) (s : FVec Ideal Cert.ConvSRefIdeal.S128x2x1024 .f32) : FVec Ideal S512x1024 .f32 :=
  open Cert.ConvSRefIdeal Cert.ConvSRefIdeal.Gen in
  shapeCast S512x1024 (transpose S4x128x1024 [1, 0, 2]
    (extractStridedSlice S128x4x1024 ![0, 2, 0] (line x s) slices_S128x6x1024_S128x4x1024_0_2_0)
    transposes_S128x4x1024_S4x128x1024_1_0_2) shapeCasts_S4x128x1024_S512x1024

/-- Every window's one block begins at the origin. -/
theorem origin : win0_0.index t0_0 = ![0, 0] ∧ win0_1.index t0_0 = ![0, 0] ∧ win0_2.index t0_0 = ![0, 0]
    ∧ win0_3.index t0_0 = ![0, 0] ∧ win0_4.index t0_0 = ![0, 0] ∧ win0_5.index t0_0 = ![0, 0] ∧ win0_6.index t0_0 = ![0, 0] := by
  decide +kernel

/-- A window that is its whole array stages that array. -/
theorem blk0 (c : Dev nD) : iblk m c 0 t0_0 = m ((c : Thread nD τ).loc main_arg0) := by
  blk_ext! [iblk, V, origin]
theorem blk2 (c : Dev nD) : iblk m c 2 t0_0 = m ((c : Thread nD τ).loc main_arg2) := by
  blk_ext! [iblk, V, origin]
theorem blk4 (c : Dev nD) : iblk m c 4 t0_0 = m ((c : Thread nD τ).loc main_arg4) := by
  blk_ext! [iblk, V, origin]
/-- What the host left before the launch: the remembered rows with the step first, and the weight. -/
theorem entry1 (c : Dev nD) : V m c main_v1 = shapeCast S256x1024 (transpose S2x128x1024 [1, 0, 2]
      (m ((c : Thread nD τ).loc main_arg1)) transposes_S128x2x1024_S2x128x1024_1_0_2) shapeCasts_S2x128x1024_S256x1024 := by
  entry_read; rfl
theorem entry2 (c : Dev nD) : V m c main_v2 = m ((c : Thread nD τ).loc main_arg3) := by
  entry_read; rfl
theorem blk1 (c : Dev nD) : iblk m c 1 t0_0 = shapeCast S256x1024 (transpose S2x128x1024 [1, 0, 2]
      (m ((c : Thread nD τ).loc main_arg1)) transposes_S128x2x1024_S2x128x1024_1_0_2) shapeCasts_S2x128x1024_S256x1024 := by
  rw [← entry1 m c]
  blk_ext! [iblk, origin]
theorem blk3 (c : Dev nD) : iblk m c 3 t0_0 = m ((c : Thread nD τ).loc main_arg3) := by
  rw [← entry2 m c]
  blk_ext! [iblk, origin]

/-- The second result array. -/
theorem final_kept (c : Dev nD) : (dats m 0 c).arrAt 6 cfg0.N
    = kept (m ((c : Thread nD τ).loc main_arg0)) (m ((c : Thread nD τ).loc main_arg1)) := by
  refine (dats m 0 c).arrAt_eq_of_after_last 6 t0_0 (by decide +kernel) _ fun j => ?_
  blk_simp
  rw [after0_6, blk0]
  frame_out
  obtain ⟨r, l, rfl⟩ : ∃ r l, j = ix2 r l := ⟨j 0, j 1, by funext a; fin_cases a <;> rfl⟩
  pointwise [k0_pay2, kept, line]

/-- A row of the weight on every sampled token. -/
def ktap (w : Vec Ideal S1x1024 .f32) : FVec Ideal S128x1024 .f32 := broadcastTo S128x1024 w broadcasts_S1x1024_S128x1024

/-- The kernel's three taps on three rows. -/
def ksum (a b d : Vec Ideal S1x1024 .f32) (u v w : FVec Ideal S128x1024 .f32) : FVec Ideal S128x1024 .f32 :=
  addf (addf (mulf (ktap a) u) (mulf (ktap b) v)) (mulf (ktap d) w)

/-- The kernel's sums of the four sampled steps, one below the other. -/
def ksums (a b d : Vec Ideal S1x1024 .f32) (s t : FVec Ideal S128x1024 .f32) (x y : Vec Ideal S512x1024 .f32) :
    FVec Ideal S512x1024 .f32 :=
  concatenate S512x1024 0 [⟨S128x1024, ksum a b d s t (k0_pay4 x y)⟩, ⟨S128x1024, ksum a b d t (k0_pay4 x y) (k0_pay5 x y)⟩,
    ⟨S128x1024, ksum a b d (k0_pay4 x y) (k0_pay5 x y) (k0_pay6 x y)⟩,
    ⟨S128x1024, ksum a b d (k0_pay5 x y) (k0_pay6 x y) (k0_pay7 x y)⟩]
    concatenates_S128x1024_S128x1024_S128x1024_S128x1024_S512x1024_d0

/-- The host's remembered rows. -/
abbrev turned (s : FVec Ideal S128x2x1024 .f32) : FVec Ideal S256x1024 .f32 :=
  shapeCast S256x1024 (transpose S2x128x1024 [1, 0, 2] s transposes_S128x2x1024_S2x128x1024_1_0_2) shapeCasts_S2x128x1024_S256x1024

/-- The kernel's sums over its own reads. -/
def held (x : Vec Ideal S512x3072 .f32) (s : Vec Ideal S256x1024 .f32) (w : Vec Ideal S3x1024 .f32) : FVec Ideal S512x1024 .f32 :=
  ksums (View.ld w r0_5) (View.ld w r0_6) (View.ld w r0_7) (k0_pay3 (View.ld s r0_3)) (k0_pay3 (View.ld s r0_4))
    (View.ld x r0_0) (View.ld x r0_1)

/-- What the kernel stores first. -/
def stored (x : Vec Ideal S512x3072 .f32) (s : Vec Ideal S256x1024 .f32) (w : Vec Ideal S3x1024 .f32)
    (o : Vec Ideal S1024x1024 .bf16) (h : Vec Ideal S512x1024 .f32) : FVec Ideal S512x1024 .f32 :=
  addf h (matmul (φ₂ := .bf16) dot_S512x1024_S1024x1024_S512x1024_1_0_0_1_n_n none (truncf .bf16 (mulf (View.ld x r0_8) (held x s w)) bitsLt_bf16_f32)
    (shapeCast S1024x1024 o shapeCasts_S1024x1024_S1024x1024) (constant S512x1024 .f32 0x00000000#32))

theorem out_stored (x : Vec Ideal S512x3072 .f32) (s : Vec Ideal S256x1024 .f32) (w : Vec Ideal S3x1024 .f32)
    (o : Vec Ideal S1024x1024 .bf16) (h : Vec Ideal S512x1024 .f32) : out0_5 x s w o h = stored x s w o h := by
  frame_out
  rfl

set_option maxHeartbeats 2000000 in
/-- The kernel's sum at a step and a token is the reference's. -/
theorem held_at (x : FVec Ideal S512x3072 .f32) (s : FVec Ideal S128x2x1024 .f32) (w : FVec Ideal S3x1024 .f32)
    (a : Fin 4) (b : Fin 128) (k : Fin 1024) :
    held x (turned s) w (ix2 ⟨a.val * 128 + b.val, by omega⟩ k) = taps (line x s) w (ix3 b a k) := by
  have hb := b.isLt
  fin_vals a with ha
  · pointwise [held, ksums, ksum, ktap, k0_pay2, k0_pay3, k0_pay4, k0_pay5, k0_pay6, k0_pay7, taps, tap, line, ha]
    blk_point [ha]
  all_goals
    pointwise [held, ksums, ksum, ktap, k0_pay2, k0_pay3, k0_pay4, k0_pay5, k0_pay6, k0_pay7, taps, tap, line, ha]
    repeat' split
    all_goals first
      | (exfalso; omega)
      | blk_point [ha]

/-- The first result array. -/
theorem final (c : Dev nD) : (dats m 0 c).arrAt 5 cfg0.N
    = want (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 5 t0_0 (by decide +kernel) _ fun j => ?_
  blk_simp
  rw [after0_5, blk0, blk1, blk2, blk3, blk4, out_stored]
  obtain ⟨r, l, rfl⟩ : ∃ r l, j = ix2 r l := ⟨j 0, j 1, by funext a; fin_cases a <;> rfl⟩
  pointwise [stored, want]
  refine congrArg _ (Fin.sum_fin_congr fun k => ?_)
  have e : (ix2 r k : S512x1024.Idx) = ix2 ⟨(⟨r.val / 128, by omega⟩ : Fin 4).val * 128 + (⟨r.val % 128, by omega⟩ : Fin 128).val, by
      have := r.isLt; show r.val / 128 * 128 + r.val % 128 < 512; omega⟩ k := by
    congr 1; apply Fin.ext; show r.val = r.val / 128 * 128 + r.val % 128; omega
  have h := held_at (m ((c : Thread nD τ).loc main_arg0)) (m ((c : Thread nD τ).loc main_arg1)) (m ((c : Thread nD τ).loc main_arg2))
    ⟨r.val / 128, by omega⟩ ⟨r.val % 128, by omega⟩ k
  rw [← e] at h
  show (_ : EReal) * _ * _ = _ * _ * _
  exact congrArg₂ (· * ·) (congrArg₂ (· * ·) rfl h) rfl

end Cert.ConvSIdeal.Closed

end
-- ==== Proof.AttnKer.Group.lean ====
/-
  The attention kernel's step as operations on a group of four heads.
-/
module

public import proofs.«01_k».proof.Proof.Gen.AttnIdeal.Value
public import Idealize.ShloMosaic.Lib.Pipeline.ValueKit

@[expose] public section

set_option maxRecDepth 16384

noncomputable section

namespace Cert.AttnIdeal.Closed

open Idealize.ShloMosaic Idealize.ShloMosaic.TcCoe Idealize.SL.Sem
open Idealize.ShloMosaic.Pipeline (Dat)
open Cert.AttnIdeal Cert.AttnIdeal.Gen

variable (m : (ℓ : Loc nD τ sig) → Buf (Elt Ideal) ℓ)

/-- Scaled products of queries with 128 keys, plus the table. -/
def half (q : FVec Ideal S512x64 .bf16) (k : FVec Ideal S128x64 .bf16) (b : FVec Ideal S512x128 .f32) : FVec Ideal S512x128 .f32 :=
  addf (mulf (matmul dot_S512x64_S128x64_S512x128_1_1_0_0_n_n none q k (constant S512x128 .f32 0x00000000#32))
    (broadcast S512x128 (Scalar.ofBits .f32 0x3E000000#32))) b

/-- A row's largest score, the sink among them, over two halves. -/
def peak (z : FVec Ideal S512x1 .f32) (s t : FVec Ideal S512x128 .f32) : FVec Ideal S512x1 .f32 :=
  maximumf (maximumf z (shapeCast S512x1 (multiReduction .maximumf [1] S512 s 0xFF800000#32 reduces_S512x128_S512 (.inl rfl) rfl) shapeCasts_S512_S512x1))
    (shapeCast S512x1 (multiReduction .maximumf [1] S512 t 0xFF800000#32 reduces_S512x128_S512 (.inl rfl) rfl) shapeCasts_S512_S512x1)

/-- Exponentials of a half's scores less the row's largest. -/
def raised (s : FVec Ideal S512x128 .f32) (p : FVec Ideal S512x1 .f32) : FVec Ideal S512x128 .f32 :=
  exp (subf s (broadcastTo S512x128 p broadcasts_S512x1_S512x128))

/-- The sink's exponential and both halves' sums. -/
def total (z p : FVec Ideal S512x1 .f32) (u w : FVec Ideal S512x128 .f32) : FVec Ideal S512x1 .f32 :=
  addf (addf (exp (subf z p)) (shapeCast S512x1 (multiReduction .add [1] S512 u 0x00000000#32 reduces_S512x128_S512 (.inl rfl) rfl) shapeCasts_S512_S512x1))
    (shapeCast S512x1 (multiReduction .add [1] S512 w 0x00000000#32 reduces_S512x128_S512 (.inl rfl) rfl) shapeCasts_S512_S512x1)

/-- The values under both halves' exponentials, over the total. -/
def blend (u w : FVec Ideal S512x128 .f32) (a b : FVec Ideal S128x64 .bf16) (d : FVec Ideal S512x1 .f32) : FVec Ideal S512x64 .f32 :=
  divf (addf (matmul dot_S512x128_S128x64_S512x64_1_0_0_1_n_n none (truncf .bf16 u bitsLt_bf16_f32) a (constant S512x64 .f32 0x00000000#32))
      (matmul dot_S512x128_S128x64_S512x64_1_0_0_1_n_n none (truncf .bf16 w bitsLt_bf16_f32) b (constant S512x64 .f32 0x00000000#32)))
    (broadcastTo S512x64 d broadcasts_S512x1_S512x64)

/-- One group of four heads, from its scores and values. -/
def group (z : FVec Ideal S512x1 .f32) (s t : FVec Ideal S512x128 .f32) (a b : FVec Ideal S128x64 .bf16) : FVec Ideal S512x64 .f32 :=
  blend (raised s (peak z s t)) (raised t (peak z s t)) a b
    (total z (peak z s t) (raised s (peak z s t)) (raised t (peak z s t)))

/-- Head `h`'s queries in a block. -/
def qPiece (x : FVec Ideal S128x1024 .f32) (h : Fin 16) : FVec Ideal S128x64 .f32 :=
  View.ld (Val := Elt Ideal) (e' := .f32) (S := S128x1024) x (Rect.unit ![0, 64 * h.val] ![128, 64]
    (fun a => by have := h.isLt; fin_cases a <;> simp <;> omega))

/-- Head `h`'s rows of the table. -/
def bPiece (x : FVec Ideal S16x128x256 .f32) (h : Fin 16) : FVec Ideal S1x128x256 .f32 :=
  View.ld (Val := Elt Ideal) (e' := .f32) (S := S16x128x256) x (Rect.unit ![h.val, 0, 0] ![1, 128, 256]
    (fun a => by have := h.isLt; fin_cases a <;> simp <;> omega))

/-- Head `h`'s sink. -/
def zPiece (x : FVec Ideal S16 .f32) (h : Fin 16) : Ideal .f32 :=
  View.ld (Val := Elt Ideal) (e' := .f32) (S := S16) x (Rect.unit ![h.val] ![1]
    (fun a => by have := h.isLt; fin_cases a <;> simp <;> omega)) (Shape.Idx.first (show 0 < S1.numel from by decide))

/-- Head `e` of group `g`. -/
def head (g e : Fin 4) : Fin 16 := ⟨4 * g.val + e.val, by omega⟩

/-- A group's queries, one head under the other. -/
def stackQ (x : FVec Ideal S128x1024 .f32) (g : Fin 4) : FVec Ideal S512x64 .bf16 :=
  truncf .bf16 (concatenate S512x64 0 [⟨S128x64, qPiece x (head g 0)⟩, ⟨S128x64, qPiece x (head g 1)⟩, ⟨S128x64, qPiece x (head g 2)⟩,
    ⟨S128x64, qPiece x (head g 3)⟩] concatenates_S128x64_S128x64_S128x64_S128x64_S512x64_d0) bitsLt_bf16_f32

/-- Head `h`'s rows of the table, flat. -/
def bFlat (x : FVec Ideal S16x128x256 .f32) (h : Fin 16) : FVec Ideal S128x256 .f32 :=
  shapeCast S128x256 (bPiece x h) shapeCasts_S1x128x256_S128x256

/-- A group's table. -/
def stackB (x : FVec Ideal S16x128x256 .f32) (g : Fin 4) : FVec Ideal S512x256 .f32 :=
  concatenate S512x256 0 [⟨S128x256, bFlat x (head g 0)⟩, ⟨S128x256, bFlat x (head g 1)⟩, ⟨S128x256, bFlat x (head g 2)⟩,
    ⟨S128x256, bFlat x (head g 3)⟩] concatenates_S128x256_S128x256_S128x256_S128x256_S512x256_d0

/-- A group's sinks. -/
def stackZ (x : FVec Ideal S16 .f32) (g : Fin 4) : FVec Ideal S512x1 .f32 :=
  concatenate S512x1 0 [⟨S128x1, broadcast S128x1 (zPiece x (head g 0))⟩, ⟨S128x1, broadcast S128x1 (zPiece x (head g 1))⟩,
    ⟨S128x1, broadcast S128x1 (zPiece x (head g 2))⟩, ⟨S128x1, broadcast S128x1 (zPiece x (head g 3))⟩]
    concatenates_S128x1_S128x1_S128x1_S128x1_S512x1_d0

/-- A group's keys or values. -/
def kv (x : FVec Ideal S128x256 .f32) (g : Fin 4) : FVec Ideal S128x64 .bf16 :=
  extractStridedSlice S128x64 ![0, 64 * g.val] (truncf .bf16 x bitsLt_bf16_f32)
    (show S128x256.Slices ![0, 64 * g.val] S128x64 from by revert g; decide)

/-- The left half of a table. -/
def left (b : FVec Ideal S512x256 .f32) : FVec Ideal S512x128 .f32 := extractStridedSlice S512x128 ![0, 0] b slices_S512x256_o0_0_S512x128

/-- The right half of a table. -/
def right (b : FVec Ideal S512x256 .f32) : FVec Ideal S512x128 .f32 := extractStridedSlice S512x128 ![0, 128] b slices_S512x256_o0_128_S512x128

/-- Group `g` of a block. -/
def og (z : FVec Ideal S16 .f32) (q : FVec Ideal S128x1024 .f32) (kp kc vp vc : FVec Ideal S128x256 .f32) (b : FVec Ideal S16x128x256 .f32)
    (g : Fin 4) : FVec Ideal S512x64 .f32 :=
  group (stackZ z g) (half (stackQ q g) (kv kp g) (left (stackB b g))) (half (stackQ q g) (kv kc g) (right (stackB b g))) (kv vp g) (kv vc g)

/-- The rows of a group's head `e`. -/
def part (o : FVec Ideal S512x64 .f32) (e : Fin 4) : FVec Ideal S128x64 .f32 :=
  extractStridedSlice S128x64 ![128 * e.val, 0] o (show S512x64.Slices ![128 * e.val, 0] S128x64 from by revert e; decide)

/-- A block of the result, from its groups. -/
def joined (o : Fin 4 → FVec Ideal S512x64 .f32) : FVec Ideal S128x1024 .bf16 :=
  truncf .bf16 (concatenate S128x1024 1 [⟨S128x64, part (o 0) 0⟩, ⟨S128x64, part (o 0) 1⟩, ⟨S128x64, part (o 0) 2⟩, ⟨S128x64, part (o 0) 3⟩,
    ⟨S128x64, part (o 1) 0⟩, ⟨S128x64, part (o 1) 1⟩, ⟨S128x64, part (o 1) 2⟩, ⟨S128x64, part (o 1) 3⟩,
    ⟨S128x64, part (o 2) 0⟩, ⟨S128x64, part (o 2) 1⟩, ⟨S128x64, part (o 2) 2⟩, ⟨S128x64, part (o 2) 3⟩,
    ⟨S128x64, part (o 3) 0⟩, ⟨S128x64, part (o 3) 1⟩, ⟨S128x64, part (o 3) 2⟩, ⟨S128x64, part (o 3) 3⟩]
    concatenates_S128x64_S128x64_S128x64_S128x64_S128x64_S128x64_S128x64_S128x64_S128x64_S128x64_S128x64_S128x64_S128x64_S128x64_S128x64_S128x64_S128x1024_d1)
    bitsLt_bf16_f32

end Cert.AttnIdeal.Closed
end
-- ==== Proof.AttnKer.Blocks.lean ====
/-
  The blocks a step reads, at an index.
-/
module

public import proofs.«01_k».proof.Proof.AttnKer.Group

@[expose] public section

set_option maxRecDepth 16384

noncomputable section

namespace Cert.AttnIdeal.Closed

open Idealize.ShloMosaic Idealize.ShloMosaic.TcCoe Idealize.SL.Sem
open Idealize.ShloMosaic.Pipeline (Dat)
open Cert.AttnIdeal Cert.AttnIdeal.Gen

variable (m : (ℓ : Loc nD τ sig) → Buf (Elt Ideal) ℓ)

/-- Where each window's block lies at step `t`, block `t % 32` of sequence `t / 32`. -/
theorem place : ∀ t : Fin cfg0.N, win0_0.index t = ![0] ∧ win0_1.index t = ![t.val, 0]
    ∧ win0_2.index t = ![t.val / 32 * 32 + (t.val % 32 - 1), 4] ∧ win0_3.index t = ![t.val, 4]
    ∧ win0_4.index t = ![t.val / 32 * 32 + (t.val % 32 - 1), 5] ∧ win0_5.index t = ![t.val, 5]
    ∧ win0_6.index t = ![0, min (t.val % 32) 1, 0] ∧ win0_7.index t = ![t.val, 0] :=
  (by decide +kernel : ∀ t : Fin grid0.N, _)

/-- The rows the kernel is handed. -/
abbrev rows (c : Dev nD) : FVec Ideal S16896x1536 .f32 := m ((c : Thread nD τ).loc main_arg0)
/-- The sinks. -/
abbrev sinks (c : Dev nD) : FVec Ideal S16 .f32 := m ((c : Thread nD τ).loc main_arg1)
/-- The bias. -/
abbrev bias (c : Dev nD) : FVec Ideal S16x128x256 .f32 := m ((c : Thread nD τ).loc main_arg2)

theorem z_at (c : Dev nD) (t : Fin cfg0.N) (j : Fin 16) : iblk m c 0 t (ix1 j) = sinks m c (ix1 j) := by
  blk_point [iblk, V, place t]

theorem q_at (c : Dev nD) (t : Fin cfg0.N) (r : Fin 128) (j : Fin 1024) :
    X0_1 m c t (ix2 r j) = rows m c (ix2 ⟨t.val * 128 + r.val, by have : t.val < 128 := t.isLt; omega⟩ ⟨j.val, by omega⟩) := by
  unfold X0_1 Pipeline.Window.fill
  rw [dif_pos (moved0_1 t _)]
  blk_point [iblk, V, place t]

theorem kp_at (c : Dev nD) (t : Fin cfg0.N) (r : Fin 128) (j : Fin 256) :
    iblk m c 2 t (ix2 r j)
      = rows m c (ix2 ⟨(t.val / 32 * 32 + (t.val % 32 - 1)) * 128 + r.val, by have : t.val < 128 := t.isLt; omega⟩ ⟨1024 + j.val, by omega⟩) := by
  blk_point [iblk, V, place t]

theorem kc_at (c : Dev nD) (t : Fin cfg0.N) (r : Fin 128) (j : Fin 256) :
    iblk m c 3 t (ix2 r j) = rows m c (ix2 ⟨t.val * 128 + r.val, by have : t.val < 128 := t.isLt; omega⟩ ⟨1024 + j.val, by omega⟩) := by
  blk_point [iblk, V, place t]

theorem vp_at (c : Dev nD) (t : Fin cfg0.N) (r : Fin 128) (j : Fin 256) :
    iblk m c 4 t (ix2 r j)
      = rows m c (ix2 ⟨(t.val / 32 * 32 + (t.val % 32 - 1)) * 128 + r.val, by have : t.val < 128 := t.isLt; omega⟩ ⟨1280 + j.val, by omega⟩) := by
  blk_point [iblk, V, place t]

theorem vc_at (c : Dev nD) (t : Fin cfg0.N) (r : Fin 128) (j : Fin 256) :
    iblk m c 5 t (ix2 r j) = rows m c (ix2 ⟨t.val * 128 + r.val, by have : t.val < 128 := t.isLt; omega⟩ ⟨1280 + j.val, by omega⟩) := by
  blk_point [iblk, V, place t]

theorem b_at (c : Dev nD) (t : Fin cfg0.N) (h : Fin 16) (r : Fin 128) (j : Fin 256) :
    iblk m c 6 t (ix3 h r j) = V m c main_v16 (ix3 h ⟨(min (t.val % 32) 1) * 128 + r.val, by omega⟩ j) := by
  blk_point [iblk, place t]

end Cert.AttnIdeal.Closed
end
-- ==== Proof.AttnSoft.lean ====
/-
  The attention's softmax in two halves. The kernel sums weighted values over two halves of the keys and divides once by the total;
  the reference divides every weight by the total first and sums over all keys. A key outside the window has the score minus
  infinity, so its weight is zero and its value does not matter.
-/
module

public import Idealize.ShloMosaic.PureOps.Ideal
public import Idealize.ShloMosaic.PureOps.Ideal.Laws
public import Idealize.ShloMosaic.Lib.Pipeline.ValueKit

@[expose] public section

noncomputable section

namespace Cert.AttnSoft

open Idealize.ShloMosaic

/-- A key of the first half. -/
def lo (c : Fin 128) : Fin 256 := ⟨c.val, by omega⟩

/-- A key of the second half. -/
def hi (c : Fin 128) : Fin 256 := ⟨128 + c.val, by omega⟩

/-- The largest of all scores and the sink. -/
def crest (s : Fin 256 → EReal) (z : EReal) : EReal := max (Finset.univ.sup s) z

/-- A sum over all keys, by halves. -/
theorem sum_halves {M : Type*} [AddCommMonoid M] (f : Fin 256 → M) : ∑ c, f c = ∑ c, f (lo c) + ∑ c, f (hi c) :=
  Fin.sum_univ_add (a := 128) (b := 128) f

/-- The largest over all keys, by halves. -/
theorem crest_halves (s : Fin 256 → EReal) (z : EReal) :
    max (max z (Finset.univ.sup fun c => s (lo c))) (Finset.univ.sup fun c => s (hi c)) = crest s z := by
  apply le_antisymm
  · refine max_le (max_le (le_max_right _ _) ?_) ?_
    · exact Finset.sup_le fun c _ => le_max_of_le_left (Finset.le_sup (f := s) (Finset.mem_univ (lo c)))
    · exact Finset.sup_le fun c _ => le_max_of_le_left (Finset.le_sup (f := s) (Finset.mem_univ (hi c)))
  · refine max_le (Finset.sup_le fun c _ => ?_) (le_max_of_le_left (le_max_left _ _))
    by_cases h : c.val < 128
    · exact le_max_of_le_left (le_max_of_le_right
        (Finset.le_sup (f := fun c => s (lo c)) (Finset.mem_univ (⟨c.val, h⟩ : Fin 128))))
    · have e : hi ⟨c.val - 128, by omega⟩ = c := Fin.ext (by simp only [hi]; omega)
      have := Finset.le_sup (f := fun c => s (hi c)) (Finset.mem_univ (⟨c.val - 128, by omega⟩ : Fin 128))
      simp only [e] at this
      exact le_max_of_le_right this

theorem crest_real (s : Fin 256 → EReal) (z : EReal) (hs : ∀ c, s c ≠ ⊤) (hz : z ≠ ⊤) (hz' : z ≠ ⊥) : ∃ r : ℝ, crest s z = r := by
  have h1 : crest s z ≠ ⊤ := by
    refine ne_of_lt (max_lt ?_ (lt_top_iff_ne_top.2 hz))
    exact (Finset.sup_lt_iff (by exact bot_lt_top)).2 fun c _ => lt_top_iff_ne_top.2 (hs c)
  have h2 : crest s z ≠ ⊥ := fun h => hz' (le_bot_iff.1 (h ▸ le_max_right _ _))
  exact ⟨(crest s z).toReal, (EReal.coe_toReal h1 h2).symm⟩

/-- The exponential of a score less a real: a real, zero where the score is minus infinity. -/
theorem raised_real (s : EReal) (hs : s ≠ ⊤) (r : ℝ) : ∃ p : ℝ, Ideal.exp (s - r) = p ∧ 0 ≤ p ∧ (s = ⊥ → p = 0) ∧ (s ≠ ⊥ → 0 < p) := by
  induction s using EReal.rec with
  | bot => exact ⟨0, by simp, le_rfl, fun _ => rfl, fun h => absurd rfl h⟩
  | top => exact absurd rfl hs
  | coe x =>
    refine ⟨Real.exp (x - r), ?_, (Real.exp_pos _).le, fun h => absurd h (EReal.coe_ne_bot x), fun _ => Real.exp_pos _⟩
    rw [← EReal.coe_sub]; rfl

theorem coe_sum {ι : Type*} (t : Finset ι) (f : ι → ℝ) : ∑ c ∈ t, ((f c : ℝ) : EReal) = ((∑ c ∈ t, f c : ℝ) : EReal) := by
  induction t using Finset.cons_induction with
  | empty => simp
  | cons a t ha ih => rw [Finset.sum_cons, Finset.sum_cons, ih, EReal.coe_add]

theorem div_real (a b : ℝ) (hb : 0 < b) : Ideal.div (a : EReal) (b : EReal) = ((a / b : ℝ) : EReal) := by
  have : (b : EReal) ≠ 0 := by exact_mod_cast hb.ne'
  simp only [Ideal.div, if_neg this]
  rw [← EReal.coe_inv, ← EReal.coe_mul, div_eq_mul_inv]

/-- A sum of extended reals over a positive real is the sum of the quotients. -/
theorem div_sum {ι : Type*} (t : Finset ι) (f : ι → EReal) (b : ℝ) (hb : 0 < b) :
    Ideal.div (∑ c ∈ t, f c) (b : EReal) = ∑ c ∈ t, f c * ((b⁻¹ : ℝ) : EReal) := by
  have h0 : (b : EReal) ≠ 0 := by exact_mod_cast hb.ne'
  have hd : (0 : EReal) ≤ ((b⁻¹ : ℝ) : EReal) := by exact_mod_cast (inv_pos.2 hb).le
  simp only [Ideal.div, if_neg h0]
  rw [← EReal.coe_inv, mul_comm]
  induction t using Finset.cons_induction with
  | empty => simp
  | cons a t ha ih =>
    rw [Finset.sum_cons, Finset.sum_cons, EReal.left_distrib_of_nonneg_of_ne_top hd (EReal.coe_ne_top _), ih, mul_comm]

/-- A value under a weight: dividing the weight is dividing the product. -/
theorem weigh (p b : ℝ) (hb : 0 < b) (v : EReal) : v * Ideal.div (p : EReal) (b : EReal) = (p : EReal) * v * ((b⁻¹ : ℝ) : EReal) := by
  rw [div_real _ _ hb, div_eq_mul_inv, EReal.coe_mul, ← mul_assoc, mul_comm v]

/-- Dividing once by the total is dividing every weight, and a key of weight zero may hold any value. -/
theorem soft (s : Fin 256 → EReal) (z : EReal) (v w : Fin 256 → EReal) (hs : ∀ c, s c ≠ ⊤) (hz : z ≠ ⊤) (hz' : z ≠ ⊥)
    (h : ∀ c, s c = ⊥ ∨ w c = v c) :
    Ideal.div ((∑ c, Ideal.exp (s (lo c) - crest s z) * w (lo c)) + ∑ c, Ideal.exp (s (hi c) - crest s z) * w (hi c))
      ((Ideal.exp (z - crest s z) + ∑ c, Ideal.exp (s (lo c) - crest s z)) + ∑ c, Ideal.exp (s (hi c) - crest s z))
      = ∑ c, v c * Ideal.div (Ideal.exp (s c - crest s z)) ((∑ c, Ideal.exp (s c - crest s z)) + Ideal.exp (z - crest s z)) := by
  obtain ⟨r, hr⟩ := crest_real s z hs hz hz'
  rw [hr]
  choose p hp hp0 hpb _ using fun c => raised_real (s c) (hs c) r
  obtain ⟨e, he, _, _, hepos⟩ := raised_real z hz r
  have hepos := hepos hz'
  have hpw : ∀ c, ((p c : ℝ) : EReal) * w c = (p c : EReal) * v c := fun c => by
    rcases h c with h | h
    · rw [hpb c h, EReal.coe_zero, zero_mul, zero_mul]
    · rw [h]
  have hD : 0 < (∑ c, p c) + e := add_pos_of_nonneg_of_pos (Finset.sum_nonneg fun c _ => hp0 c) hepos
  have e1 : (Ideal.exp (z - r) + ∑ c, Ideal.exp (s (lo c) - r)) + ∑ c, Ideal.exp (s (hi c) - r) = (((∑ c, p c) + e : ℝ) : EReal) := by
    simp only [hp, he, coe_sum, ← EReal.coe_add]
    rw [sum_halves p, add_assoc, add_comm]
  have e2 : (∑ c, Ideal.exp (s c - r)) + Ideal.exp (z - r) = (((∑ c, p c) + e : ℝ) : EReal) := by
    simp only [hp, he, coe_sum, ← EReal.coe_add]
  have e3 : (∑ c, Ideal.exp (s (lo c) - r) * w (lo c)) + ∑ c, Ideal.exp (s (hi c) - r) * w (hi c) = ∑ c, (p c : EReal) * v c := by
    simp only [hp, hpw]
    exact (sum_halves fun c => (p c : EReal) * v c).symm
  rw [e1, e2, e3, div_sum _ _ _ hD]
  exact Finset.sum_congr rfl fun c _ => by rw [hp, weigh _ _ hD]

/-- The literal for minus infinity. -/
theorem minus_infinity : Ideal.ofBits .f32 0xFF800000#32 = ⊥ := by simp [Ideal.ofBits, Ideal.ieee]

/-- The literal for one eighth is a real. -/
theorem eighth : Ideal.ofBits .f32 0x3E000000#32 = ((1 / 8 : ℝ) : EReal) := by
  simp [Ideal.ofBits, Ideal.ieee, -EReal.coe_mul]; norm_num

/-- The kernel's and the reference's largest, folded from minus infinity. -/
theorem fold_max {ι : Type*} (t : Finset ι) (f : ι → EReal) : t.fold max (Ideal.ofBits .f32 0xFF800000#32) f = t.sup f := by
  rw [minus_infinity]
  rfl

end Cert.AttnSoft
end
-- ==== Proof.AttnWords.lean ====
/-
  The attention's window in words: how far a key lies behind its query, and whether it lies in the sequence.
-/
module

public import Idealize.ShloMosaic.Lib.Pipeline.ValueKit
public import Idealize.ShloMosaic.Lib.Tactic.WordOmega

@[expose] public section

namespace Cert.AttnWords

open Idealize.ShloMosaic

/-- How many rows key `c` lies behind query `r`, as a word. -/
abbrev lag (r c : ℕ) : BitVec 32 := IntOp.addi (IntOp.subi (BitVec.ofNat 32 r) (BitVec.ofNat 32 c)) 128#32

/-- A key none to 127 rows behind its query. -/
theorem near (r c : ℕ) (hr : r < 128) (hc : c < 256) :
    IntOp.andi (IntOp.cmpi .sge (lag r c) 0#32) (IntOp.cmpi .slt (lag r c) 128#32) = 1#1 ↔ r < c ∧ c ≤ r + 128 := by
  have h : (IntOp.subi (BitVec.ofNat 32 r) (BitVec.ofNat 32 c)).toNat = (2 ^ 32 - c % 2 ^ 32 + r % 2 ^ 32) % 2 ^ 32 := by
    simp only [IntOp.subi, BitVec.toNat_sub, BitVec.toNat_ofNat]
  unfold lag
  word_omega

/-- A key of the sequence. -/
theorem inside (n c : ℕ) (hn : n < 32) (hc : c < 256) :
    IntOp.cmpi .sge (IntOp.addi (IntOp.muli (IntOp.subi (BitVec.ofNat 32 n) 1#32) 128#32) (BitVec.ofNat 32 c)) 0#32 = 1#1
      ↔ 128 ≤ n * 128 + c := by
  have h : (IntOp.muli (IntOp.subi (BitVec.ofNat 32 n) 1#32) 128#32).toNat = (2 ^ 32 - 1 + n % 2 ^ 32) % 2 ^ 32 * 128 % 2 ^ 32 := by
    simp only [IntOp.subi, IntOp.muli, BitVec.toNat_mul, BitVec.toNat_sub, BitVec.toNat_ofNat]
  word_omega

/-- A key of the block itself. -/
theorem own (c : ℕ) (hc : c < 256) : IntOp.cmpi .sge (BitVec.ofNat 32 c) 128#32 = 1#1 ↔ 128 ≤ c := by
  word_omega

/-- Two bits are both set. -/
theorem both (p q : BitVec 1) : IntOp.andi p q = 1#1 ↔ p = 1#1 ∧ q = 1#1 := by
  revert p q; decide

end Cert.AttnWords
-- ==== Proof.AttnKer.Table.lean ====
/-
  The score tables the host lays out: the bias where a key is in reach, minus infinity elsewhere.
-/
module

public import proofs.«01_k».proof.Proof.AttnKer.Group
public import Idealize.ShloMosaic.Lib.StableHlo.RunRead
public import proofs.«01_k».proof.Proof.AttnSoft
public import proofs.«01_k».proof.Proof.AttnWords

@[expose] public section

set_option maxRecDepth 16384

noncomputable section

namespace Cert.AttnIdeal.Closed

open Idealize.ShloMosaic Idealize.ShloMosaic.TcCoe Idealize.SL.Sem
open Idealize.ShloMosaic.Pipeline (Dat)
open Cert.AttnIdeal Cert.AttnIdeal.Gen

variable (m : (ℓ : Loc nD τ sig) → Buf (Elt Ideal) ℓ)

/-- How far a query lies ahead of the first key it no longer reads. -/
def ahead : IVec S128x256 32 :=
  addi (subi (iotaInDim S128x256 32 0) (iotaInDim S128x256 32 1)) (broadcastInDim S128x256 ![] bcast_S_S128x256 (constantI S_ 32 128#32))

/-- The keys within reach of each query. -/
def reach : IVec S1x128x256 1 :=
  broadcastInDim S1x128x256 ![1, 2] bcast_S128x256_S1x128x256_1_2
    (andi (cmpi .sge ahead (broadcastInDim S128x256 ![] bcast_S_S128x256 (constantI S_ 32 0#32)))
      (cmpi .slt ahead (broadcastInDim S128x256 ![] bcast_S_S128x256 (constantI S_ 32 128#32))))

/-- The keys of the query's own block. -/
def inner : IVec S1x128x256 1 :=
  broadcastInDim S1x128x256 ![1, 2] bcast_S128x256_S1x128x256_1_2
    (cmpi .sge (iotaInDim S128x256 32 1) (broadcastInDim S128x256 ![] bcast_S_S128x256 (constantI S_ 32 128#32)))

/-- A table kept on a mask, minus infinity off it. -/
def kept (w : IVec S1x128x256 1) (b : FVec Ideal S16x128x256 .f32) : FVec Ideal S16x128x256 .f32 :=
  select (broadcastInDim S16x128x256 ![0, 1, 2] bcast_S1x128x256_S16x128x256_0_1_2 w) b
    (broadcastInDim S16x128x256 ![] bcast_S_S16x128x256 (id (constant S_ .f32 0xFF800000#32)))

/-- The host's two tables: a sequence's first block, then any later one. -/
def tables (b : FVec Ideal S16x128x256 .f32) : FVec Ideal S16x256x256 .f32 :=
  concatenate S16x256x256 1 [⟨S16x128x256, kept inner (kept reach b)⟩, ⟨S16x128x256, kept reach b⟩]
    concatenates_S16x128x256_S16x128x256_S16x256x256_d1

theorem entry (c : Dev nD) : V m c main_v16 = tables (m ((c : Thread nD τ).loc main_arg2)) := by
  unfold V
  simp only [hostOps0, hostOps0_1, hostOps0_2, hostOps0_3, hostOps0_4, List.flatten_cons, List.flatten_nil, List.append_nil, List.cons_append,
    List.nil_append]
  after_reads_simp

  rfl

theorem ahead_at (r : Fin 128) (c : Fin 256) : ahead (ix2 r c) = Cert.AttnWords.lag r.val c.val := by
  pointwise [ahead]

theorem reach_at (i : Fin 1) (r : Fin 128) (c : Fin 256) :
    reach (ix3 i r c) = 1#1 ↔ r.val < c.val ∧ c.val ≤ r.val + 128 := by
  rw [← Cert.AttnWords.near _ _ r.isLt c.isLt, ← ahead_at]
  unfold reach
  generalize ahead = d
  pointwise []

theorem inner_at (i : Fin 1) (r : Fin 128) (c : Fin 256) : inner (ix3 i r c) = 1#1 ↔ 128 ≤ c.val := by
  rw [← Cert.AttnWords.own _ c.isLt]
  pointwise [inner]

theorem kept_at (w : IVec S1x128x256 1) (b : FVec Ideal S16x128x256 .f32) (h : Fin 16) (r : Fin 128) (c : Fin 256) :
    kept w b (ix3 h r c) = if w (ix3 0 r c) = 1#1 then b (ix3 h r c) else ⊥ := by
  pointwise [kept]
  rw [← Cert.AttnSoft.minus_infinity]; rfl

theorem first_at (b : FVec Ideal S16x128x256 .f32) (h : Fin 16) (n : Fin 2) (r : Fin 128) (c : Fin 256) :
    tables b (ix3 h ⟨n.val * 128 + r.val, by omega⟩ c) = if n.val = 0 then kept inner (kept reach b) (ix3 h r c) else kept reach b (ix3 h r c) := by
  unfold tables
  generalize kept inner (kept reach b) = x
  generalize kept reach b = y
  pointwise []
  have := r.isLt
  by_cases hn : n.val = 0
  · rw [dif_pos (by omega), if_pos hn]
    exact congrArg (fun i => x (ix3 h i c)) (Fin.ext (by dsimp only; omega))
  · rw [dif_neg (by omega), if_neg hn]
    exact congrArg (fun i => y (ix3 h i c)) (Fin.ext (by dsimp only; omega))

end Cert.AttnIdeal.Closed
end
-- ==== Proof.AttnKer.Read.lean ====
/-
  A block of the attention at one row, head and column.
-/
module

public import proofs.«01_k».proof.Proof.AttnKer.Group
public import proofs.«01_k».proof.Proof.AttnSoft

@[expose] public section

set_option maxRecDepth 16384

noncomputable section

namespace Cert.AttnIdeal.Closed

open Idealize.ShloMosaic Idealize.ShloMosaic.TcCoe Idealize.SL.Sem
open Idealize.ShloMosaic.Pipeline (Dat)
open Cert.AttnIdeal Cert.AttnIdeal.Gen
open Cert.AttnSoft (lo hi crest)

/-! ## A group's steps -/

theorem half_at (q : FVec Ideal S512x64 .bf16) (k : FVec Ideal S128x64 .bf16) (b : FVec Ideal S512x128 .f32) (R : Fin 512) (c : Fin 128) :
    half q k b (ix2 R c) = (∑ d, q (ix2 R d) * k (ix2 c d)) * Ideal.ofBits .f32 0x3E000000#32 + b (ix2 R c) := by
  pointwise [half]

theorem peak_at (z : FVec Ideal S512x1 .f32) (s t : FVec Ideal S512x128 .f32) (R : Fin 512) (i : Fin 1) :
    peak z s t (ix2 R i) = max (max (z (ix2 R i)) (Finset.univ.sup fun c => s (ix2 R c))) (Finset.univ.sup fun c => t (ix2 R c)) := by
  rw [← Cert.AttnSoft.fold_max, ← Cert.AttnSoft.fold_max]
  pointwise [peak]

theorem raised_at (s : FVec Ideal S512x128 .f32) (p : FVec Ideal S512x1 .f32) (R : Fin 512) (c : Fin 128) :
    raised s p (ix2 R c) = Ideal.exp (s (ix2 R c) - p (ix2 R 0)) := by
  pointwise [raised]

theorem total_at (z p : FVec Ideal S512x1 .f32) (u w : FVec Ideal S512x128 .f32) (R : Fin 512) (i : Fin 1) :
    total z p u w (ix2 R i) = (Ideal.exp (z (ix2 R i) - p (ix2 R i)) + ∑ c, u (ix2 R c)) + ∑ c, w (ix2 R c) := by
  pointwise [total]

theorem blend_at (u w : FVec Ideal S512x128 .f32) (a b : FVec Ideal S128x64 .bf16) (d : FVec Ideal S512x1 .f32) (R : Fin 512) (l : Fin 64) :
    blend u w a b d (ix2 R l)
      = Ideal.div ((∑ c, u (ix2 R c) * a (ix2 c l)) + ∑ c, w (ix2 R c) * b (ix2 c l)) (d (ix2 R 0)) := by
  pointwise [blend]

/-- A group at one row and column, over scores and values given as functions of 256 keys. -/
theorem group_at (z : FVec Ideal S512x1 .f32) (s t : FVec Ideal S512x128 .f32) (a b : FVec Ideal S128x64 .bf16) (R : Fin 512) (l : Fin 64)
    (f w : Fin 256 → EReal) (ζ : EReal) (hz : z (ix2 R 0) = ζ) (hs : ∀ c, s (ix2 R c) = f (lo c)) (ht : ∀ c, t (ix2 R c) = f (hi c))
    (ha : ∀ c, a (ix2 c l) = w (lo c)) (hb : ∀ c, b (ix2 c l) = w (hi c)) :
    group z s t a b (ix2 R l)
      = Ideal.div ((∑ c, Ideal.exp (f (lo c) - crest f ζ) * w (lo c)) + ∑ c, Ideal.exp (f (hi c) - crest f ζ) * w (hi c))
          ((Ideal.exp (ζ - crest f ζ) + ∑ c, Ideal.exp (f (lo c) - crest f ζ)) + ∑ c, Ideal.exp (f (hi c) - crest f ζ)) := by
  have hp : peak z s t (ix2 R 0) = crest f ζ := by
    rw [peak_at, hz]
    simp only [hs, ht]
    exact Cert.AttnSoft.crest_halves f ζ
  unfold group
  rw [blend_at, total_at]
  simp only [raised_at, hp, hs, ht, ha, hb, hz]

/-! ## A group's arrays -/

theorem part_at (o : FVec Ideal S512x64 .f32) (e : Fin 4) (r : Fin 128) (l : Fin 64) :
    part o e (ix2 r l) = o (ix2 ⟨128 * e.val + r.val, by omega⟩ l) := by
  pointwise [part]

theorem kv_at (x : FVec Ideal S128x256 .f32) (g : Fin 4) (r : Fin 128) (l : Fin 64) :
    kv x g (ix2 r l) = x (ix2 r ⟨64 * g.val + l.val, by omega⟩) := by
  pointwise [kv]

theorem left_at (b : FVec Ideal S512x256 .f32) (r : Fin 512) (l : Fin 128) : left b (ix2 r l) = b (ix2 r (lo l)) := by
  pointwise [left]
  rfl

theorem right_at (b : FVec Ideal S512x256 .f32) (r : Fin 512) (l : Fin 128) : right b (ix2 r l) = b (ix2 r (hi l)) := by
  pointwise [right]
  rfl

theorem qPiece_at (x : FVec Ideal S128x1024 .f32) (h : Fin 16) (r : Fin 128) (l : Fin 64) :
    qPiece x h (ix2 r l) = x (ix2 r ⟨64 * h.val + l.val, by omega⟩) := by
  pointwise [qPiece]

theorem bFlat_at (x : FVec Ideal S16x128x256 .f32) (h : Fin 16) (r : Fin 128) (l : Fin 256) : bFlat x h (ix2 r l) = x (ix3 h r l) := by
  pointwise [bFlat, bPiece]

theorem zPiece_at (x : FVec Ideal S16 .f32) (h : Fin 16) : zPiece x h = x (ix1 h) := by
  pointwise [zPiece]

/-- Four heads' queries, one under the other. -/
theorem four_at (a : Fin 4 → FVec Ideal S128x64 .f32) (e : Fin 4) (r : Fin 128) (l : Fin 64) :
    concatenate S512x64 0 [⟨S128x64, a 0⟩, ⟨S128x64, a 1⟩, ⟨S128x64, a 2⟩, ⟨S128x64, a 3⟩]
      concatenates_S128x64_S128x64_S128x64_S128x64_S512x64_d0 (ix2 ⟨128 * e.val + r.val, by omega⟩ l) = a e (ix2 r l) := by
  fin_cases e
  all_goals pointwise []
  · rw [dif_neg (by omega), dif_neg (by omega), dif_pos (by omega)]
    exact congrArg (fun i => a 2 (ix2 i l)) (Fin.ext (by dsimp only; omega))
  · rw [dif_neg (by omega), dif_neg (by omega), dif_neg (by omega)]
    exact congrArg (fun i => a 3 (ix2 i l)) (Fin.ext (by dsimp only; omega))

/-- Four heads' tables, one under the other. -/
theorem tables_at (a : Fin 4 → FVec Ideal S128x256 .f32) (e : Fin 4) (r : Fin 128) (l : Fin 256) :
    concatenate S512x256 0 [⟨S128x256, a 0⟩, ⟨S128x256, a 1⟩, ⟨S128x256, a 2⟩, ⟨S128x256, a 3⟩]
      concatenates_S128x256_S128x256_S128x256_S128x256_S512x256_d0 (ix2 ⟨128 * e.val + r.val, by omega⟩ l) = a e (ix2 r l) := by
  fin_cases e
  all_goals pointwise []
  · rw [dif_neg (by omega), dif_neg (by omega), dif_pos (by omega)]
    exact congrArg (fun i => a 2 (ix2 i l)) (Fin.ext (by dsimp only; omega))
  · rw [dif_neg (by omega), dif_neg (by omega), dif_neg (by omega)]
    exact congrArg (fun i => a 3 (ix2 i l)) (Fin.ext (by dsimp only; omega))

/-- Four heads' sinks, one under the other. -/
theorem sinks_at (a : Fin 4 → FVec Ideal S128x1 .f32) (e : Fin 4) (r : Fin 128) (l : Fin 1) :
    concatenate S512x1 0 [⟨S128x1, a 0⟩, ⟨S128x1, a 1⟩, ⟨S128x1, a 2⟩, ⟨S128x1, a 3⟩]
      concatenates_S128x1_S128x1_S128x1_S128x1_S512x1_d0 (ix2 ⟨128 * e.val + r.val, by omega⟩ l) = a e (ix2 r l) := by
  obtain rfl : l = 0 := Subsingleton.elim _ _
  fin_cases e
  all_goals pointwise []
  · rw [dif_neg (by omega), dif_neg (by omega), dif_pos (by omega)]
    exact congrArg (fun i => a 2 (ix2 i 0)) (Fin.ext (by dsimp only; omega))
  · rw [dif_neg (by omega), dif_neg (by omega), dif_neg (by omega)]
    exact congrArg (fun i => a 3 (ix2 i 0)) (Fin.ext (by dsimp only; omega))

theorem stackQ_at (x : FVec Ideal S128x1024 .f32) (g e : Fin 4) (r : Fin 128) (l : Fin 64) :
    stackQ x g (ix2 ⟨128 * e.val + r.val, by omega⟩ l) = x (ix2 r ⟨64 * (4 * g.val + e.val) + l.val, by omega⟩) := by
  unfold stackQ
  rw [truncf_apply, four_at (fun e => qPiece x (head g e)), qPiece_at]
  rfl

theorem stackB_at (x : FVec Ideal S16x128x256 .f32) (g e : Fin 4) (r : Fin 128) (l : Fin 256) :
    stackB x g (ix2 ⟨128 * e.val + r.val, by omega⟩ l) = x (ix3 (head g e) r l) := by
  unfold stackB
  rw [tables_at (fun e => bFlat x (head g e)), bFlat_at]

theorem stackZ_at (x : FVec Ideal S16 .f32) (g e : Fin 4) (r : Fin 128) (l : Fin 1) :
    stackZ x g (ix2 ⟨128 * e.val + r.val, by omega⟩ l) = x (ix1 (head g e)) := by
  unfold stackZ
  rw [sinks_at (fun e => broadcast S128x1 (zPiece x (head g e)))]
  exact zPiece_at x (head g e)

/-- Sixteen heads' columns, side by side. -/
theorem sixteen_at (p : Fin 16 → FVec Ideal S128x64 .f32) (h : Fin 16) (r : Fin 128) (l : Fin 64) :
    concatenate S128x1024 1 [⟨S128x64, p 0⟩, ⟨S128x64, p 1⟩, ⟨S128x64, p 2⟩, ⟨S128x64, p 3⟩, ⟨S128x64, p 4⟩, ⟨S128x64, p 5⟩, ⟨S128x64, p 6⟩,
      ⟨S128x64, p 7⟩, ⟨S128x64, p 8⟩, ⟨S128x64, p 9⟩, ⟨S128x64, p 10⟩, ⟨S128x64, p 11⟩, ⟨S128x64, p 12⟩, ⟨S128x64, p 13⟩, ⟨S128x64, p 14⟩,
      ⟨S128x64, p 15⟩]
      concatenates_S128x64_S128x64_S128x64_S128x64_S128x64_S128x64_S128x64_S128x64_S128x64_S128x64_S128x64_S128x64_S128x64_S128x64_S128x64_S128x64_S128x1024_d1
      (ix2 r ⟨64 * h.val + l.val, by omega⟩) = p h (ix2 r l) :=
  concatenate_ofFn_apply (t := S128x1024) (s₁ := S128x64) (1 : Fin 2) p
    concatenates_S128x64_S128x64_S128x64_S128x64_S128x64_S128x64_S128x64_S128x64_S128x64_S128x64_S128x64_S128x64_S128x64_S128x64_S128x64_S128x64_S128x1024_d1
    rfl 64 rfl (ix2 r ⟨64 * h.val + l.val, by omega⟩) h
    (show (64 * h.val + l.val) / 64 = h.val by omega) (ix2 r l) (show l.val = (64 * h.val + l.val) % 64 by omega)
    (fun b hb => by
      obtain ⟨b, hb2⟩ := b
      match b, hb2 with
      | 0, _ => rfl
      | 1, _ => exact absurd rfl hb)

/-- The joined groups at one row, head and column. -/
theorem joined_at (o : Fin 4 → FVec Ideal S512x64 .f32) (g e : Fin 4) (r : Fin 128) (l : Fin 64) :
    joined o (ix2 r ⟨64 * (4 * g.val + e.val) + l.val, by omega⟩) = o g (ix2 ⟨128 * e.val + r.val, by omega⟩ l) := by
  unfold joined
  rw [truncf_apply]
  have h := sixteen_at (fun h => part (o ⟨h.val / 4, by omega⟩) ⟨h.val % 4, by omega⟩) (head g e) r l
  have e1 : (⟨(head g e).val / 4, by have := (head g e).isLt; omega⟩ : Fin 4) = g := Fin.ext (by simp only [head]; omega)
  have e2 : (⟨(head g e).val % 4, by omega⟩ : Fin 4) = e := Fin.ext (by simp only [head]; omega)
  rw [e1, e2, part_at] at h
  exact h

end Cert.AttnIdeal.Closed
end
-- ==== Proof.AttnKer.Finite.lean ====
/-
  What the precondition says of each element of the attention's arguments, and what stays real under sums and products.
-/
module

public import proofs.«01_k».proof.Proof.AttnKer.Blocks
public import proofs.«01_k».proof.Proof.AttnSoft
public import proofs.«01_k».proof.Defs
public import Idealize.ShloMosaic.Lib.ReduceAll

@[expose] public section

set_option maxRecDepth 16384

noncomputable section

namespace Cert.AttnIdeal.Closed

open Idealize.ShloMosaic Idealize.ShloMosaic.TcCoe Idealize.SL.Sem
open Cert.AttnIdeal Cert.AttnIdeal.Gen

/-- An extended real that is a real. -/
def IsReal (x : EReal) : Prop := ∃ r : ℝ, x = r

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem IsReal.zero : IsReal 0 := ⟨0, rfl⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.add {x y : EReal} (hx : IsReal x) (hy : IsReal y) : IsReal (x + y) := by
  obtain ⟨r, rfl⟩ := hx; obtain ⟨s, rfl⟩ := hy; exact ⟨r + s, (EReal.coe_add r s).symm⟩

/-- A real and what is not infinity do not add up to infinity. -/
theorem IsReal.add_ne_top {x y : EReal} (hx : IsReal x) (hy : y ≠ ⊤) : x + y ≠ ⊤ := by
  obtain ⟨r, rfl⟩ := hx
  exact EReal.add_ne_top (EReal.coe_ne_top r) hy

theorem IsReal.sum {ι : Type*} (t : Finset ι) {f : ι → EReal} (h : ∀ i, IsReal (f i)) : IsReal (∑ i ∈ t, f i) := by
  choose g hg using h
  exact ⟨∑ i ∈ t, g i, by rw [← Cert.AttnSoft.coe_sum]; exact Finset.sum_congr rfl fun i _ => hg i⟩

/-- An element whose magnitude lies below infinity is a real. -/
theorem isReal_of_below (x : EReal) (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x using EReal.rec with
  | coe r => exact ⟨r, rfl⟩
  | bot => simp [Ideal.cmp] at h
  | top => simp [Ideal.cmp] at h

/-- An element below infinity is not infinity. -/
theorem ne_top_of_below (x : EReal) (h : Ideal.cmp .olt x (Ideal.ofBits .f32 0x7F800000#32) = 1#1) : x ≠ ⊤ := by
  have e : Ideal.ofBits .f32 0x7F800000#32 = ⊤ := by simp [Ideal.ofBits, Ideal.ieee]
  rintro rfl
  simp [Ideal.cmp, e] at h

/-- The precondition, element by element. -/
theorem opened [Cert.Pre_finite_inputs.Facts] (x : FVec Ideal S16896x1536 .f32) (z : FVec Ideal S16 .f32) (b : FVec Ideal S16x128x256 .f32)
    (h : Cert.Pre_finite_inputs.fn (F := Ideal) x z b = fun _ => 1#1) :
    (∀ (r : Fin 16896) (j : Fin 1280), IsReal (x (ix2 r ⟨j.val, by omega⟩))) ∧ (∀ i, IsReal (z i)) ∧ ∀ i, b i ≠ ⊤ := by
  have h0 := congrFun h (fun a => a.elim0)
  unfold Cert.Pre_finite_inputs.fn at h0
  dsimp only at h0
  obtain ⟨h1, h2⟩ := IntOp.andi_eq_one.1 h0
  obtain ⟨h3, h4⟩ := IntOp.andi_eq_one.1 h1
  haveI : Subsingleton Cert.Pre_finite_inputs.S_.Idx := ⟨fun a b => funext fun i => i.elim0⟩
  refine ⟨fun r j => ?_, fun i => isReal_of_below _ (Host.reduce_andi_all _ _ _ _ _ h4 i),
    fun i => ne_top_of_below _ (Host.reduce_andi_all _ _ _ _ _ h2 i)⟩
  have hr := isReal_of_below _ (Host.reduce_andi_all _ _ _ _ _ h3 (ix2 r j))
  have e : extractStridedSlice Cert.Pre_finite_inputs.S16896x1280 ![0, 0] x
      Cert.Pre_finite_inputs.Facts.slices_S16896x1536_S16896x1280_0_0 (ix2 r j) = x (ix2 r ⟨j.val, by omega⟩) := by
    pointwise []
  rw [← e]
  exact hr

/-- What the precondition says of the arguments. -/
theorem args_real [Cert.Pre_finite_inputs.Facts] (m : (ℓ : Loc nD τ sig) → Buf (Elt Ideal) ℓ) (hp : Pre_AttnIdeal_finite_inputs m) (c : Dev nD) :
    (∀ (r : Fin 16896) (j : Fin 1280), IsReal (rows m c (ix2 r ⟨j.val, by omega⟩))) ∧ (∀ i, IsReal (sinks m c i)) ∧ ∀ i, bias m c i ≠ ⊤ :=
  opened _ _ _ (hp c)

end Cert.AttnIdeal.Closed
end
-- ==== Proof.AttnRef.Stretch.lean ====
/-
  The run of the attention's reference, read in five stretches: the bands of keys and values, the mask, the masked scores, the
  softmax weights with a sink, and the weighted sum. Each stretch is a function of a few arrays of the one before, so no array is
  written out twice although the weights read the scores three times over.
-/
module

public import proofs.«01_k».proof.Proof.Gen.AttnRefIdeal
public import Idealize.ShloMosaic.Lib.StableHlo.RunRead
public import Idealize.ShloMosaic.Lib.StableHlo.RunHlo
public import Idealize.ShloMosaic.Lib.Pipeline.ValueKit

@[expose] public section

set_option maxRecDepth 16384

noncomputable section

namespace Cert.AttnRefIdeal.Stretch

open Cert.AttnRefIdeal Cert.AttnRefIdeal.Gen Idealize.ShloMosaic Idealize.ShloMosaic.TcCoe Idealize.SL.Sem
open Idealize.ShloMosaic.StableHlo

/-! ## What each stretch computes -/

/-- The prompt tokens' rows, by sequence. -/
def rows (x : FVec Ideal S16896x1536 .f32) : FVec Ideal S4x4096x1536 .f32 :=
  shapeCast S4x4096x1536 (extractStridedSlice S16384x1536 ![0, 0] x slices_S16896x1536_S16384x1536_0_0)
    shapeCasts_S16384x1536_S4x4096x1536

/-- The queries, by head. -/
def queries (x : FVec Ideal S16896x1536 .f32) : FVec Ideal S4x4096x16x64 .f32 :=
  shapeCast S4x4096x16x64 (extractStridedSlice S4x4096x1024 ![0, 0, 0] (rows x) slices_S4x4096x1536_S4x4096x1024_0_0_0)
    shapeCasts_S4x4096x1024_S4x4096x16x64

/-- A block's keys or values: the block before, then the block. -/
def pair (a b : FVec Ideal S4x32x128x4x64 .f32) : FVec Ideal S4x32x256x4x64 .f32 :=
  concatenate S4x32x256x4x64 2 [⟨S4x32x128x4x64, a⟩, ⟨S4x32x128x4x64, b⟩] concatenates_S4x32x128x4x64_S4x32x128x4x64_S4x32x256x4x64_d2

/-- The sequences behind a block. -/
def front (a : FVec Ideal S4x128x4x64 .f32) (b : FVec Ideal S4x4096x4x64 .f32) : FVec Ideal S4x4224x4x64 .f32 :=
  concatenate S4x4224x4x64 1 [⟨S4x128x4x64, a⟩, ⟨S4x4096x4x64, b⟩] concatenates_S4x128x4x64_S4x4096x4x64_S4x4224x4x64_d1

/-- A block of zeros. -/
def zeros : FVec Ideal S4x128x4x64 .f32 := broadcastInDim S4x128x4x64 ![] bcast_S_S4x128x4x64 (constant S_ .f32 0x00000000#32)

/-- A sequence's blocks. -/
def blocks (t : FVec Ideal S4x4096x4x64 .f32) : FVec Ideal S4x32x128x4x64 .f32 :=
  shapeCast S4x32x128x4x64 t shapeCasts_S4x4096x4x64_S4x32x128x4x64

/-- Every block of 128 rows of `t` with the block before it in front, zeros in front of the first. -/
def band (t : FVec Ideal S4x4096x4x64 .f32) : FVec Ideal S4x32x256x4x64 .f32 :=
  pair (blocks (extractStridedSlice S4x4096x4x64 ![0, 0, 0, 0] (front zeros t) slices_S4x4224x4x64_S4x4096x4x64_0_0_0_0)) (blocks t)

/-- The keys' band. -/
def keys (x : FVec Ideal S16896x1536 .f32) : FVec Ideal S4x32x256x4x64 .f32 :=
  band (shapeCast S4x4096x4x64 (extractStridedSlice S4x4096x256 ![0, 0, 1024] (rows x) slices_S4x4096x1536_S4x4096x256_0_0_1024)
    shapeCasts_S4x4096x256_S4x4096x4x64)

/-- The values' band. -/
def values (x : FVec Ideal S16896x1536 .f32) : FVec Ideal S4x32x256x4x64 .f32 :=
  band (shapeCast S4x4096x4x64 (extractStridedSlice S4x4096x256 ![0, 0, 1280] (rows x) slices_S4x4096x1536_S4x4096x256_0_0_1280)
    shapeCasts_S4x4096x256_S4x4096x4x64)

/-- How many rows a key lies behind its query. -/
def behind : IVec S128x256 32 :=
  addi (subi (broadcastInDim S128x256 ![0, 1] bcast_S128x1_S128x256_0_1 (broadcastInDim S128x1 ![0] bcast_S128_S128x1_0 (iotaInDim S128 32 0)))
      (broadcastInDim S128x256 ![0, 1] bcast_S1x256_S128x256_0_1 (broadcastInDim S1x256 ![1] bcast_S256_S1x256_1 (iotaInDim S256 32 0))))
    (broadcastInDim S128x256 ![] bcast_S_S128x256 (constantI S_ 32 128#32))

/-- The row of a key within its sequence, negative before the sequence. -/
def keyRow : IVec S32x256 32 :=
  addi (broadcastInDim S32x256 ![0, 1] bcast_S32x1_S32x256_0_1
      (muli (subi (broadcastInDim S32x1 ![0] bcast_S32_S32x1_0 (iotaInDim S32 32 0)) (broadcastInDim S32x1 ![] bcast_S_S32x1 (constantI S_ 32 1#32)))
        (broadcastInDim S32x1 ![] bcast_S_S32x1 (constantI S_ 32 128#32))))
    (broadcastInDim S32x256 ![0, 1] bcast_S1x256_S32x256_0_1 (broadcastInDim S1x256 ![1] bcast_S256_S1x256_1 (iotaInDim S256 32 0)))

/-- The window: a key of the sequence, none to 127 rows behind its query. -/
def mask : IVec S32x128x256 1 :=
  andi (broadcastInDim S32x128x256 ![0, 1, 2] bcast_S1x128x256_S32x128x256_0_1_2 (broadcastInDim S1x128x256 ![1, 2] bcast_S128x256_S1x128x256_1_2
      (andi (cmpi .sge behind (broadcastInDim S128x256 ![] bcast_S_S128x256 (constantI S_ 32 0#32)))
        (cmpi .slt behind (broadcastInDim S128x256 ![] bcast_S_S128x256 (constantI S_ 32 128#32))))))
    (broadcastInDim S32x128x256 ![0, 1, 2] bcast_S32x1x256_S32x128x256_0_1_2 (broadcastInDim S32x1x256 ![0, 2] bcast_S32x256_S32x1x256_0_2
      (cmpi .sge keyRow (broadcastInDim S32x256 ![] bcast_S_S32x256 (constantI S_ 32 0#32)))))

/-- The scores: scaled products plus the bias, minus infinity outside the window. -/
def scores (q : FVec Ideal S4x4096x16x64 .f32) (k : FVec Ideal S4x32x256x4x64 .f32) (b : FVec Ideal S16x128x256 .f32) (w : IVec S32x128x256 1) :
    FVec Ideal S4x32x4x4x128x256 .f32 :=
  select (broadcastInDim S4x32x4x4x128x256 ![0, 1, 2, 3, 4, 5] bcast_S1x32x1x1x128x256_S4x32x4x4x128x256_0_1_2_3_4_5
      (broadcastInDim S1x32x1x1x128x256 ![1, 4, 5] bcast_S32x128x256_S1x32x1x1x128x256_1_4_5 w))
    (addf (mulf (transpose S4x32x4x4x128x256 [0, 1, 2, 5, 4, 3]
          (Host.dotGeneral dot_S4x32x256x4x64_S4x32x128x4x4x64_S4x32x4x256x128x4_4_5_2_24_013_013 none k
            (shapeCast S4x32x128x4x4x64 (shapeCast S4x32x128x16x64 q shapeCasts_S4x4096x16x64_S4x32x128x16x64)
              shapeCasts_S4x32x128x16x64_S4x32x128x4x4x64))
          transposes_S4x32x4x256x128x4_S4x32x4x4x128x256_0_1_2_5_4_3)
        (broadcastInDim S4x32x4x4x128x256 ![] bcast_S_S4x32x4x4x128x256 (constant S_ .f32 0x3E000000#32)))
      (broadcastInDim S4x32x4x4x128x256 ![0, 1, 2, 3, 4, 5] bcast_S1x1x4x4x128x256_S4x32x4x4x128x256_0_1_2_3_4_5
        (broadcastInDim S1x1x4x4x128x256 ![2, 3, 4, 5] bcast_S4x4x128x256_S1x1x4x4x128x256_2_3_4_5
          (shapeCast S4x4x128x256 b shapeCasts_S16x128x256_S4x4x128x256))))
    (broadcastInDim S4x32x4x4x128x256 ![] bcast_S_S4x32x4x4x128x256 (constant S_ .f32 0xFF800000#32))

/-- The sinks, by group and head. -/
def sink (z : FVec Ideal S16 .f32) : FVec Ideal S4x32x4x4x128x1 .f32 :=
  broadcastInDim S4x32x4x4x128x1 ![0, 1, 2, 3, 4, 5] bcast_S1x1x4x4x1x1_S4x32x4x4x128x1_0_1_2_3_4_5
    (broadcastInDim S1x1x4x4x1x1 ![2, 3, 4, 5] bcast_S4x4x1x1_S1x1x4x4x1x1_2_3_4_5
      (broadcastInDim S4x4x1x1 ![0, 1] bcast_S4x4_S4x4x1x1_0_1 (shapeCast S4x4 z shapeCasts_S16_S4x4)))

/-- The largest score of a row, the sink among them. -/
def top (s : FVec Ideal S4x32x4x4x128x256 .f32) (z : FVec Ideal S16 .f32) : FVec Ideal S4x32x4x4x128x1 .f32 :=
  maximumf (broadcastInDim S4x32x4x4x128x1 ![0, 1, 2, 3, 4] bcast_S4x32x4x4x128_S4x32x4x4x128x1_0_1_2_3_4
    (Host.reduce FloatOps.maximumf s (constant S_ .f32 0xFF800000#32) reducesTo_S4x32x4x4x128x256_S4x32x4x4x128_d5 h_S_)) (sink z)

/-- The exponentials of the scores less the largest. -/
def expo (s : FVec Ideal S4x32x4x4x128x256 .f32) (z : FVec Ideal S16 .f32) : FVec Ideal S4x32x4x4x128x256 .f32 :=
  Host.exp (subf s (broadcastInDim S4x32x4x4x128x256 ![0, 1, 2, 3, 4, 5] bcast_S4x32x4x4x128x1_S4x32x4x4x128x256_0_1_2_3_4_5 (top s z)))

/-- The weights: each exponential over their sum and the sink's. -/
def weights (s : FVec Ideal S4x32x4x4x128x256 .f32) (z : FVec Ideal S16 .f32) : FVec Ideal S4x32x4x4x128x256 .f32 :=
  Host.divf (expo s z) (broadcastInDim S4x32x4x4x128x256 ![0, 1, 2, 3, 4, 5] bcast_S4x32x4x4x128x1_S4x32x4x4x128x256_0_1_2_3_4_5
    (addf (broadcastInDim S4x32x4x4x128x1 ![0, 1, 2, 3, 4] bcast_S4x32x4x4x128_S4x32x4x4x128x1_0_1_2_3_4
        (Host.reduceAdd (expo s z) (constant S_ .f32 0x00000000#32) reducesTo_S4x32x4x4x128x256_S4x32x4x4x128_d5 h_S_))
      (Host.exp (subf (sink z) (top s z)))))

/-- The values under the weights, in rows of 16 heads. -/
def mixed (v : FVec Ideal S4x32x256x4x64 .f32) (p : FVec Ideal S4x32x4x4x128x256 .f32) : FVec Ideal S16384x1024 .bf16 :=
  truncf .bf16 (shapeCast S16384x1024 (shapeCast S4x32x128x1024
      (transpose S4x32x128x4x4x64 [0, 1, 5, 2, 4, 3]
        (Host.dotGeneral dot_S4x32x256x4x64_S4x32x4x4x128x256_S4x32x4x64x4x128_2_5_4_34_013_012 none v p)
        transposes_S4x32x4x64x4x128_S4x32x128x4x4x64_0_1_5_2_4_3)
      shapeCasts_S4x32x128x4x4x64_S4x32x128x1024) shapeCasts_S4x32x128x1024_S16384x1024) bitsLt_bf16_f32

/-- The reference's result. -/
def attention (x : FVec Ideal S16896x1536 .f32) (z : FVec Ideal S16 .f32) (b : FVec Ideal S16x128x256 .f32) : FVec Ideal S16384x1024 .bf16 :=
  mixed (values x) (weights (scores (queries x) (keys x) b mask) z)

/-! ## The stretches -/

/-- The queries, keys and values by head, and the zeros before a sequence. -/
abbrev lineA1 : List (HloOp τ sig (Elt Ideal)) :=
  [ unary main_arg0 main_v0 ((extractStridedSlice S16384x1536 ![0, 0] · slices_S16896x1536_S16384x1536_0_0)),
    reshape main_v0 main_v1 rfl shapeCasts_S16384x1536_S4x4096x1536,
    unary main_v1 main_v2 ((extractStridedSlice S4x4096x1024 ![0, 0, 0] · slices_S4x4096x1536_S4x4096x1024_0_0_0)),
    reshape main_v2 main_v3 rfl shapeCasts_S4x4096x1024_S4x4096x16x64,
    unary main_v1 main_v4 ((extractStridedSlice S4x4096x256 ![0, 0, 1024] · slices_S4x4096x1536_S4x4096x256_0_0_1024)),
    reshape main_v4 main_v5 rfl shapeCasts_S4x4096x256_S4x4096x4x64,
    unary main_v1 main_v6 ((extractStridedSlice S4x4096x256 ![0, 0, 1280] · slices_S4x4096x1536_S4x4096x256_0_0_1280)),
    reshape main_v6 main_v7 rfl shapeCasts_S4x4096x256_S4x4096x4x64,
    nullary main_cst (constant (F := Ideal) S_ .f32 0x00000000#32),
    unary main_cst main_v8 (broadcastInDim S4x128x4x64 ![] bcast_S_S4x128x4x64) ]

/-- The keys' blocks and the blocks before them. -/
abbrev lineA2 : List (HloOp τ sig (Elt Ideal)) :=
  [ binary main_v8 main_v5 main_v9 ((fun a b => concatenate S4x4224x4x64 1 [⟨S4x128x4x64, a⟩, ⟨S4x4096x4x64, b⟩] concatenates_S4x128x4x64_S4x4096x4x64_S4x4224x4x64_d1)),
    unary main_v9 main_v10 ((extractStridedSlice S4x4096x4x64 ![0, 0, 0, 0] · slices_S4x4224x4x64_S4x4096x4x64_0_0_0_0)),
    reshape main_v10 main_v11 rfl shapeCasts_S4x4096x4x64_S4x32x128x4x64,
    reshape main_v5 main_v12 rfl shapeCasts_S4x4096x4x64_S4x32x128x4x64 ]

/-- The band of keys. -/
abbrev lineA3 : List (HloOp τ sig (Elt Ideal)) :=
  [ binary main_v11 main_v12 main_v13 ((fun a b => concatenate S4x32x256x4x64 2 [⟨S4x32x128x4x64, a⟩, ⟨S4x32x128x4x64, b⟩] concatenates_S4x32x128x4x64_S4x32x128x4x64_S4x32x256x4x64_d2)) ]

/-- The values' blocks and the blocks before them. -/
abbrev lineA4 : List (HloOp τ sig (Elt Ideal)) :=
  [ binary main_v8 main_v7 main_v14 ((fun a b => concatenate S4x4224x4x64 1 [⟨S4x128x4x64, a⟩, ⟨S4x4096x4x64, b⟩] concatenates_S4x128x4x64_S4x4096x4x64_S4x4224x4x64_d1)),
    unary main_v14 main_v15 ((extractStridedSlice S4x4096x4x64 ![0, 0, 0, 0] · slices_S4x4224x4x64_S4x4096x4x64_0_0_0_0)),
    reshape main_v15 main_v16 rfl shapeCasts_S4x4096x4x64_S4x32x128x4x64,
    reshape main_v7 main_v17 rfl shapeCasts_S4x4096x4x64_S4x32x128x4x64 ]

/-- The band of values. -/
abbrev lineA5 : List (HloOp τ sig (Elt Ideal)) :=
  [ binary main_v16 main_v17 main_v18 ((fun a b => concatenate S4x32x256x4x64 2 [⟨S4x32x128x4x64, a⟩, ⟨S4x32x128x4x64, b⟩] concatenates_S4x32x128x4x64_S4x32x128x4x64_S4x32x256x4x64_d2)) ]

/-- The mask: a key at most 127 rows behind its query, and none before the sequence. -/
abbrev lineB : List (HloOp τ sig (Elt Ideal)) :=
  [ nullary main_v19 (iotaInDim S128 32 0),
    nullary main_v20 (iotaInDim S256 32 0),
    unary main_v19 main_v21 (broadcastInDim S128x1 ![0] bcast_S128_S128x1_0),
    unary main_v20 main_v22 (broadcastInDim S1x256 ![1] bcast_S256_S1x256_1),
    unary main_v21 main_v23 (broadcastInDim S128x256 ![0, 1] bcast_S128x1_S128x256_0_1),
    unary main_v22 main_v24 (broadcastInDim S128x256 ![0, 1] bcast_S1x256_S128x256_0_1),
    binary main_v23 main_v24 main_v25 (subi),
    nullary main_c (constantI S_ 32 128#32),
    unary main_c main_v26 (broadcastInDim S128x256 ![] bcast_S_S128x256),
    binary main_v25 main_v26 main_v27 (addi),
    nullary main_v28 (iotaInDim S32 32 0),
    unary main_v28 main_v29 (broadcastInDim S32x1 ![0] bcast_S32_S32x1_0),
    nullary main_c_0 (constantI S_ 32 1#32),
    unary main_c_0 main_v30 (broadcastInDim S32x1 ![] bcast_S_S32x1),
    binary main_v29 main_v30 main_v31 (subi),
    nullary main_c_1 (constantI S_ 32 128#32),
    unary main_c_1 main_v32 (broadcastInDim S32x1 ![] bcast_S_S32x1),
    binary main_v31 main_v32 main_v33 (muli),
    unary main_v20 main_v34 (broadcastInDim S1x256 ![1] bcast_S256_S1x256_1),
    unary main_v33 main_v35 (broadcastInDim S32x256 ![0, 1] bcast_S32x1_S32x256_0_1),
    unary main_v34 main_v36 (broadcastInDim S32x256 ![0, 1] bcast_S1x256_S32x256_0_1),
    binary main_v35 main_v36 main_v37 (addi),
    nullary main_c_2 (constantI S_ 32 0#32),
    unary main_c_2 main_v38 (broadcastInDim S128x256 ![] bcast_S_S128x256),
    binary main_v27 main_v38 main_v39 (cmpi .sge),
    nullary main_c_3 (constantI S_ 32 128#32),
    unary main_c_3 main_v40 (broadcastInDim S128x256 ![] bcast_S_S128x256),
    binary main_v27 main_v40 main_v41 (cmpi .slt),
    binary main_v39 main_v41 main_v42 (andi),
    unary main_v42 main_v43 (broadcastInDim S1x128x256 ![1, 2] bcast_S128x256_S1x128x256_1_2),
    nullary main_c_4 (constantI S_ 32 0#32),
    unary main_c_4 main_v44 (broadcastInDim S32x256 ![] bcast_S_S32x256),
    binary main_v37 main_v44 main_v45 (cmpi .sge),
    unary main_v45 main_v46 (broadcastInDim S32x1x256 ![0, 2] bcast_S32x256_S32x1x256_0_2),
    unary main_v43 main_v47 (broadcastInDim S32x128x256 ![0, 1, 2] bcast_S1x128x256_S32x128x256_0_1_2),
    unary main_v46 main_v48 (broadcastInDim S32x128x256 ![0, 1, 2] bcast_S32x1x256_S32x128x256_0_1_2),
    binary main_v47 main_v48 main_v49 (andi) ]

/-- The products of queries and keys. -/
abbrev lineC : List (HloOp τ sig (Elt Ideal)) :=
  [ reshape main_v3 main_v50 rfl shapeCasts_S4x4096x16x64_S4x32x128x16x64,
    reshape main_v50 main_v51 rfl shapeCasts_S4x32x128x16x64_S4x32x128x4x4x64,
    binary main_v13 main_v51 main_v52 ((fun l r => Host.dotGeneral (F := Ideal) (φ₁ := .f32) (φ₂ := .f32) dot_S4x32x256x4x64_S4x32x128x4x4x64_S4x32x4x256x128x4_4_5_2_24_013_013 none l r)) ]

/-- The masked scores of every head: scale, bias and mask on the products. -/
abbrev lineM : List (HloOp τ sig (Elt Ideal)) :=
  [ unary main_v52 main_v53 ((transpose S4x32x4x4x128x256 [0, 1, 2, 5, 4, 3] · transposes_S4x32x4x256x128x4_S4x32x4x4x128x256_0_1_2_5_4_3)),
    nullary main_cst_5 (constant (F := Ideal) S_ .f32 0x3E000000#32),
    unary main_cst_5 main_v54 (broadcastInDim S4x32x4x4x128x256 ![] bcast_S_S4x32x4x4x128x256),
    binary main_v53 main_v54 main_v55 (mulf (F := Ideal) (φ := .f32)),
    reshape main_arg2 main_v56 rfl shapeCasts_S16x128x256_S4x4x128x256,
    unary main_v56 main_v57 (broadcastInDim S1x1x4x4x128x256 ![2, 3, 4, 5] bcast_S4x4x128x256_S1x1x4x4x128x256_2_3_4_5),
    unary main_v57 main_v58 (broadcastInDim S4x32x4x4x128x256 ![0, 1, 2, 3, 4, 5] bcast_S1x1x4x4x128x256_S4x32x4x4x128x256_0_1_2_3_4_5),
    binary main_v55 main_v58 main_v59 (addf (F := Ideal) (φ := .f32)),
    unary main_v49 main_v60 (broadcastInDim S1x32x1x1x128x256 ![1, 4, 5] bcast_S32x128x256_S1x32x1x1x128x256_1_4_5),
    nullary main_cst_6 (constant (F := Ideal) S_ .f32 0xFF800000#32),
    unary main_cst_6 main_call0_v0 id,
    unary main_v60 main_call0_v1 (broadcastInDim S4x32x4x4x128x256 ![0, 1, 2, 3, 4, 5] bcast_S1x32x1x1x128x256_S4x32x4x4x128x256_0_1_2_3_4_5),
    unary main_call0_v0 main_call0_v2 (broadcastInDim S4x32x4x4x128x256 ![] bcast_S_S4x32x4x4x128x256),
    ternary main_call0_v1 main_v59 main_call0_v2 main_v61 select ]

/-- The weights: the softmax with a sink whose own column is left out. -/
abbrev lineD : List (HloOp τ sig (Elt Ideal)) :=
  [ reshape main_arg1 main_v62 rfl shapeCasts_S16_S4x4,
    unary main_v62 main_v63 (broadcastInDim S4x4x1x1 ![0, 1] bcast_S4x4_S4x4x1x1_0_1),
    nullary main_cst_7 (constant (F := Ideal) S_ .f32 0xFF800000#32),
    binary main_v61 main_cst_7 main_v64 ((fun x v => Host.reduce (FloatOps.maximumf (F := Ideal) (φ := .f32)) x v reducesTo_S4x32x4x4x128x256_S4x32x4x4x128_d5 h_S_)),
    unary main_v64 main_v65 (broadcastInDim S4x32x4x4x128x1 ![0, 1, 2, 3, 4] bcast_S4x32x4x4x128_S4x32x4x4x128x1_0_1_2_3_4),
    unary main_v63 main_v66 (broadcastInDim S1x1x4x4x1x1 ![2, 3, 4, 5] bcast_S4x4x1x1_S1x1x4x4x1x1_2_3_4_5),
    unary main_v66 main_v67 (broadcastInDim S4x32x4x4x128x1 ![0, 1, 2, 3, 4, 5] bcast_S1x1x4x4x1x1_S4x32x4x4x128x1_0_1_2_3_4_5),
    binary main_v65 main_v67 main_v68 (maximumf (F := Ideal) (φ := .f32)),
    unary main_v68 main_v69 (broadcastInDim S4x32x4x4x128x256 ![0, 1, 2, 3, 4, 5] bcast_S4x32x4x4x128x1_S4x32x4x4x128x256_0_1_2_3_4_5),
    binary main_v61 main_v69 main_v70 (subf (F := Ideal) (φ := .f32)),
    unary main_v70 main_v71 (Host.exp (F := Ideal) (φ := .f32)),
    nullary main_cst_8 (constant (F := Ideal) S_ .f32 0x00000000#32),
    binary main_v71 main_cst_8 main_v72 ((fun x v => Host.reduceAdd (F := Ideal) (φ := .f32) x v reducesTo_S4x32x4x4x128x256_S4x32x4x4x128_d5 h_S_)),
    unary main_v72 main_v73 (broadcastInDim S4x32x4x4x128x1 ![0, 1, 2, 3, 4] bcast_S4x32x4x4x128_S4x32x4x4x128x1_0_1_2_3_4),
    unary main_v63 main_v74 (broadcastInDim S1x1x4x4x1x1 ![2, 3, 4, 5] bcast_S4x4x1x1_S1x1x4x4x1x1_2_3_4_5),
    unary main_v74 main_v75 (broadcastInDim S4x32x4x4x128x1 ![0, 1, 2, 3, 4, 5] bcast_S1x1x4x4x1x1_S4x32x4x4x128x1_0_1_2_3_4_5),
    binary main_v75 main_v68 main_v76 (subf (F := Ideal) (φ := .f32)),
    unary main_v76 main_v77 (Host.exp (F := Ideal) (φ := .f32)),
    binary main_v73 main_v77 main_v78 (addf (F := Ideal) (φ := .f32)),
    unary main_v78 main_v79 (broadcastInDim S4x32x4x4x128x256 ![0, 1, 2, 3, 4, 5] bcast_S4x32x4x4x128x1_S4x32x4x4x128x256_0_1_2_3_4_5),
    binary main_v71 main_v79 main_v80 (Host.divf (F := Ideal) (φ := .f32)) ]

/-- The weighted sum of the values, back in rows of 1024. -/
abbrev lineE : List (HloOp τ sig (Elt Ideal)) :=
  [ binary main_v18 main_v80 main_v81 ((fun l r => Host.dotGeneral (F := Ideal) (φ₁ := .f32) (φ₂ := .f32) dot_S4x32x256x4x64_S4x32x4x4x128x256_S4x32x4x64x4x128_2_5_4_34_013_012 none l r)),
    unary main_v81 main_v82 ((transpose S4x32x128x4x4x64 [0, 1, 5, 2, 4, 3] · transposes_S4x32x4x64x4x128_S4x32x128x4x4x64_0_1_5_2_4_3)),
    reshape main_v82 main_v83 rfl shapeCasts_S4x32x128x4x4x64_S4x32x128x1024,
    reshape main_v83 main_v84 rfl shapeCasts_S4x32x128x1024_S16384x1024,
    unary main_v84 main_v85 ((truncf (F := Ideal) .bf16 · bitsLt_bf16_f32)) ]

variable (W : Valuation τ sig (Elt Ideal))

/-- The keys and the values by head. -/
def keyHeads (x : FVec Ideal S16896x1536 .f32) : FVec Ideal S4x4096x4x64 .f32 :=
  shapeCast S4x4096x4x64 (extractStridedSlice S4x4096x256 ![0, 0, 1024] (rows x) slices_S4x4096x1536_S4x4096x256_0_0_1024)
    shapeCasts_S4x4096x256_S4x4096x4x64
def valueHeads (x : FVec Ideal S16896x1536 .f32) : FVec Ideal S4x4096x4x64 .f32 :=
  shapeCast S4x4096x4x64 (extractStridedSlice S4x4096x256 ![0, 0, 1280] (rows x) slices_S4x4096x1536_S4x4096x256_0_0_1280)
    shapeCasts_S4x4096x256_S4x4096x4x64

theorem A1_queries : after lineA1 W main_v3 = queries (W main_arg0) := by after_reads_simp; rfl
theorem A1_keys : after lineA1 W main_v5 = keyHeads (W main_arg0) := by after_reads_simp; rfl
theorem A1_values : after lineA1 W main_v7 = valueHeads (W main_arg0) := by after_reads_simp; rfl
theorem A1_zeros : after lineA1 W main_v8 = zeros := by after_reads_simp; rfl
theorem A2_before : after lineA2 W main_v11 = blocks (extractStridedSlice S4x4096x4x64 ![0, 0, 0, 0] (front (W main_v8) (W main_v5)) slices_S4x4224x4x64_S4x4096x4x64_0_0_0_0) := by
  after_reads_simp; rfl
theorem A2_own : after lineA2 W main_v12 = blocks (W main_v5) := by after_reads_simp; rfl
theorem A3_band : after lineA3 W main_v13 = pair (W main_v11) (W main_v12) := by after_reads_simp; rfl
theorem A4_before : after lineA4 W main_v16 = blocks (extractStridedSlice S4x4096x4x64 ![0, 0, 0, 0] (front (W main_v8) (W main_v7)) slices_S4x4224x4x64_S4x4096x4x64_0_0_0_0) := by
  after_reads_simp; rfl
theorem A4_own : after lineA4 W main_v17 = blocks (W main_v7) := by after_reads_simp; rfl
theorem A5_band : after lineA5 W main_v18 = pair (W main_v16) (W main_v17) := by after_reads_simp; rfl

theorem B_mask : after lineB W main_v49 = mask := by
  after_reads_simp; rfl
theorem CM_scores : after lineM (after lineC W) main_v61 = scores (W main_v3) (W main_v13) (W main_arg2) (W main_v49) := by
  after_reads_simp; rfl
theorem D_weights : after lineD W main_v80 = weights (W main_v61) (W main_arg1) := by
  after_reads_simp; rfl
theorem E_mixed : after lineE W main_v85 = mixed (W main_v18) (W main_v80) := by
  after_reads_simp; rfl

end Cert.AttnRefIdeal.Stretch

end
-- ==== Proof.AttnRef.Read.lean ====
/-
  The attention's reference at one row, head and column: a sum over the 256 keys of the block before and the block itself.
-/
module

public import proofs.«01_k».proof.Proof.AttnRef.Stretch
public import proofs.«01_k».proof.Proof.AttnSoft

@[expose] public section

set_option maxRecDepth 16384

noncomputable section

namespace Cert.AttnRefIdeal.Stretch

open Cert.AttnRefIdeal Cert.AttnRefIdeal.Gen Idealize.ShloMosaic Idealize.ShloMosaic.TcCoe Idealize.SL.Sem
open Idealize.ShloMosaic.StableHlo
open Cert.AttnSoft (crest)

/-! ## The scores -/

theorem byBlock_at (q : FVec Ideal S4x4096x16x64 .f32) (b : Fin 4) (n : Fin 32) (r : Fin 128) (h : Fin 16) (d : Fin 64) :
    shapeCast S4x32x128x16x64 q shapeCasts_S4x4096x16x64_S4x32x128x16x64 (ix5 b n r h d)
      = q (ix4 b ⟨n.val * 128 + r.val, by omega⟩ h d) := by
  pointwise []

theorem byGroup_at (q : FVec Ideal S4x32x128x16x64 .f32) (b : Fin 4) (n : Fin 32) (r : Fin 128) (g e : Fin 4) (d : Fin 64) :
    shapeCast S4x32x128x4x4x64 q shapeCasts_S4x32x128x16x64_S4x32x128x4x4x64 (ix6 b n r g e d)
      = q (ix5 b n r ⟨g.val * 4 + e.val, by omega⟩ d) := by
  pointwise []

theorem turned_at (q : FVec Ideal S4x32x4x256x128x4 .f32) (b : Fin 4) (n : Fin 32) (g e : Fin 4) (r : Fin 128) (c : Fin 256) :
    transpose S4x32x4x4x128x256 [0, 1, 2, 5, 4, 3] q transposes_S4x32x4x256x128x4_S4x32x4x4x128x256_0_1_2_5_4_3 (ix6 b n g e r c)
      = q (ix6 b n g c r e) := by
  pointwise []

theorem product_at (k : FVec Ideal S4x32x256x4x64 .f32) (q : FVec Ideal S4x32x128x4x4x64 .f32) (b : Fin 4) (n : Fin 32) (g e : Fin 4)
    (r : Fin 128) (c : Fin 256) :
    Host.dotGeneral dot_S4x32x256x4x64_S4x32x128x4x4x64_S4x32x4x256x128x4_4_5_2_24_013_013 none k q (ix6 b n g c r e)
      = ∑ d, k (ix5 b n c g d) * q (ix6 b n r g e d) := by
  pointwise []

theorem sink_at (z : FVec Ideal S16 .f32) (b : Fin 4) (n : Fin 32) (g e : Fin 4) (r : Fin 128) (i : Fin 1) :
    sink z (ix6 b n g e r i) = z (ix1 ⟨g.val * 4 + e.val, by omega⟩) := by
  pointwise [sink]

theorem bias_at (b : FVec Ideal S16x128x256 .f32) (b' : Fin 4) (n : Fin 32) (g e : Fin 4) (r : Fin 128) (c : Fin 256) :
    broadcastInDim S4x32x4x4x128x256 ![0, 1, 2, 3, 4, 5] bcast_S1x1x4x4x128x256_S4x32x4x4x128x256_0_1_2_3_4_5
      (broadcastInDim S1x1x4x4x128x256 ![2, 3, 4, 5] bcast_S4x4x128x256_S1x1x4x4x128x256_2_3_4_5
        (shapeCast S4x4x128x256 b shapeCasts_S16x128x256_S4x4x128x256)) (ix6 b' n g e r c)
      = b (ix3 ⟨g.val * 4 + e.val, by omega⟩ r c) := by
  pointwise []

theorem window_at (w : IVec S32x128x256 1) (b : Fin 4) (n : Fin 32) (g e : Fin 4) (r : Fin 128) (c : Fin 256) :
    broadcastInDim S4x32x4x4x128x256 ![0, 1, 2, 3, 4, 5] bcast_S1x32x1x1x128x256_S4x32x4x4x128x256_0_1_2_3_4_5
      (broadcastInDim S1x32x1x1x128x256 ![1, 4, 5] bcast_S32x128x256_S1x32x1x1x128x256_1_4_5 w) (ix6 b n g e r c) = w (ix3 n r c) := by
  pointwise []

/-- One score. -/
theorem scores_at (q : FVec Ideal S4x4096x16x64 .f32) (k : FVec Ideal S4x32x256x4x64 .f32) (a : FVec Ideal S16x128x256 .f32)
    (w : IVec S32x128x256 1) (b : Fin 4) (n : Fin 32) (g e : Fin 4) (r : Fin 128) (c : Fin 256) :
    scores q k a w (ix6 b n g e r c)
      = if w (ix3 n r c) = 1#1 then (∑ d, k (ix5 b n c g d) * q (ix4 b ⟨n.val * 128 + r.val, by omega⟩ ⟨g.val * 4 + e.val, by omega⟩ d))
          * Ideal.ofBits .f32 0x3E000000#32 + a (ix3 ⟨g.val * 4 + e.val, by omega⟩ r c) else Ideal.ofBits .f32 0xFF800000#32 := by
  pointwise [scores]
  rfl

/-! ## The weights -/

theorem spread_at (w : FVec Ideal S4x32x4x4x128x1 .f32) (b : Fin 4) (n : Fin 32) (g e : Fin 4) (r : Fin 128) (c : Fin 256) :
    broadcastInDim S4x32x4x4x128x256 ![0, 1, 2, 3, 4, 5] bcast_S4x32x4x4x128x1_S4x32x4x4x128x256_0_1_2_3_4_5 w (ix6 b n g e r c)
      = w (ix6 b n g e r 0) := by
  pointwise []

theorem col_at (w : FVec Ideal S4x32x4x4x128 .f32) (b : Fin 4) (n : Fin 32) (g e : Fin 4) (r : Fin 128) (i : Fin 1) :
    broadcastInDim S4x32x4x4x128x1 ![0, 1, 2, 3, 4] bcast_S4x32x4x4x128_S4x32x4x4x128x1_0_1_2_3_4 w (ix6 b n g e r i)
      = w (ix5 b n g e r) := by
  pointwise []

/-- The scores that reduce to one row are the row's 256. -/
theorem fiber (b : Fin 4) (n : Fin 32) (g e : Fin 4) (r : Fin 128) (i : S4x32x4x4x128x256.Idx) :
    (reducesTo_S4x32x4x4x128x256_S4x32x4x4x128_d5).drop i = ix5 b n g e r ↔ ∃ k : Fin 256, (ix6 b n g e r k : S4x32x4x4x128x256.Idx) = i := by
  constructor
  · intro h
    refine ⟨i 5, funext fun a => Fin.ext ?_⟩
    match a with
    | ⟨0, _⟩ => exact (congrArg Fin.val (congrFun h 0)).symm
    | ⟨1, _⟩ => exact (congrArg Fin.val (congrFun h 1)).symm
    | ⟨2, _⟩ => exact (congrArg Fin.val (congrFun h 2)).symm
    | ⟨3, _⟩ => exact (congrArg Fin.val (congrFun h 3)).symm
    | ⟨4, _⟩ => exact (congrArg Fin.val (congrFun h 4)).symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

theorem max_at (s : FVec Ideal S4x32x4x4x128x256 .f32) (b : Fin 4) (n : Fin 32) (g e : Fin 4) (r : Fin 128) :
    Host.reduce FloatOps.maximumf s (constant S_ .f32 0xFF800000#32) reducesTo_S4x32x4x4x128x256_S4x32x4x4x128_d5 h_S_ (ix5 b n g e r)
      = Finset.univ.fold max (Ideal.ofBits .f32 0xFF800000#32) fun c => s (ix6 b n g e r c) := by
  pointwise []
  exact Finset.fold_filter_eq_fold_of_fiber max _ (fun c : Fin 256 => (ix6 b n g e r c : S4x32x4x4x128x256.Idx))
    (fun _ _ h => congrFun h 5) (fiber b n g e r) _ s

theorem sum_at (s : FVec Ideal S4x32x4x4x128x256 .f32) (b : Fin 4) (n : Fin 32) (g e : Fin 4) (r : Fin 128) :
    Host.reduceAdd s (constant S_ .f32 0x00000000#32) reducesTo_S4x32x4x4x128x256_S4x32x4x4x128_d5 h_S_ (ix5 b n g e r)
      = ∑ c, s (ix6 b n g e r c) := by
  pointwise []
  unfold Ideal.hostReduceAdd
  rw [zero_add]
  exact Finset.sum_filter_eq_sum_of_fiber _ (fun c : Fin 256 => (ix6 b n g e r c : S4x32x4x4x128x256.Idx))
    (fun _ _ h => congrFun h 5) (fiber b n g e r) s

/-- One row's largest score. -/
theorem top_at (s : FVec Ideal S4x32x4x4x128x256 .f32) (z : FVec Ideal S16 .f32) (b : Fin 4) (n : Fin 32) (g e : Fin 4) (r : Fin 128)
    (i : Fin 1) : top s z (ix6 b n g e r i) = crest (fun c => s (ix6 b n g e r c)) (z (ix1 ⟨g.val * 4 + e.val, by omega⟩)) := by
  unfold top
  rw [maximumf_apply, col_at, max_at, sink_at, Cert.AttnSoft.fold_max]
  rfl

theorem expo_at (s : FVec Ideal S4x32x4x4x128x256 .f32) (z : FVec Ideal S16 .f32) (b : Fin 4) (n : Fin 32) (g e : Fin 4) (r : Fin 128)
    (c : Fin 256) : expo s z (ix6 b n g e r c)
      = Ideal.exp (s (ix6 b n g e r c) - crest (fun c => s (ix6 b n g e r c)) (z (ix1 ⟨g.val * 4 + e.val, by omega⟩))) := by
  have h : expo s z (ix6 b n g e r c) = Ideal.exp (s (ix6 b n g e r c) - broadcastInDim S4x32x4x4x128x256 ![0, 1, 2, 3, 4, 5]
      bcast_S4x32x4x4x128x1_S4x32x4x4x128x256_0_1_2_3_4_5 (top s z) (ix6 b n g e r c)) := rfl
  rw [h, spread_at, top_at]

theorem weights_at (s : FVec Ideal S4x32x4x4x128x256 .f32) (z : FVec Ideal S16 .f32) (b : Fin 4) (n : Fin 32) (g e : Fin 4) (r : Fin 128)
    (c : Fin 256) : weights s z (ix6 b n g e r c)
      = Ideal.div (Ideal.exp (s (ix6 b n g e r c) - crest (fun c => s (ix6 b n g e r c)) (z (ix1 ⟨g.val * 4 + e.val, by omega⟩))))
          ((∑ c, Ideal.exp (s (ix6 b n g e r c) - crest (fun c => s (ix6 b n g e r c)) (z (ix1 ⟨g.val * 4 + e.val, by omega⟩))))
            + Ideal.exp (z (ix1 ⟨g.val * 4 + e.val, by omega⟩)
                - crest (fun c => s (ix6 b n g e r c)) (z (ix1 ⟨g.val * 4 + e.val, by omega⟩)))) := by
  have h : weights s z (ix6 b n g e r c) = Ideal.div (expo s z (ix6 b n g e r c)) (broadcastInDim S4x32x4x4x128x256 ![0, 1, 2, 3, 4, 5]
      bcast_S4x32x4x4x128x1_S4x32x4x4x128x256_0_1_2_3_4_5
      (addf (broadcastInDim S4x32x4x4x128x1 ![0, 1, 2, 3, 4] bcast_S4x32x4x4x128_S4x32x4x4x128x1_0_1_2_3_4
          (Host.reduceAdd (expo s z) (constant S_ .f32 0x00000000#32) reducesTo_S4x32x4x4x128x256_S4x32x4x4x128_d5 h_S_))
        (Host.exp (subf (sink z) (top s z)))) (ix6 b n g e r c)) := rfl
  have h' : Host.exp (subf (sink z) (top s z)) (ix6 b n g e r 0) = Ideal.exp (sink z (ix6 b n g e r 0) - top s z (ix6 b n g e r 0)) := rfl
  rw [h, spread_at, addf_apply, col_at, sum_at, h']
  simp only [expo_at, sink_at, top_at]
  rfl

/-! ## The weighted values -/

theorem mix_at (v : FVec Ideal S4x32x256x4x64 .f32) (p : FVec Ideal S4x32x4x4x128x256 .f32) (b : Fin 4) (n : Fin 32) (g e : Fin 4)
    (r : Fin 128) (d : Fin 64) :
    Host.dotGeneral dot_S4x32x256x4x64_S4x32x4x4x128x256_S4x32x4x64x4x128_2_5_4_34_013_012 none v p (ix6 b n g d e r)
      = ∑ c, v (ix5 b n c g d) * p (ix6 b n g e r c) := by
  pointwise []

theorem back_at (v : FVec Ideal S4x32x4x64x4x128 .f32) (b : Fin 4) (n : Fin 32) (g e : Fin 4) (r : Fin 128) (d : Fin 64) :
    transpose S4x32x128x4x4x64 [0, 1, 5, 2, 4, 3] v transposes_S4x32x4x64x4x128_S4x32x128x4x4x64_0_1_5_2_4_3 (ix6 b n r g e d)
      = v (ix6 b n g d e r) := by
  pointwise []

theorem flat_at (v : FVec Ideal S4x32x128x4x4x64 .f32) (b : Fin 4) (n : Fin 32) (r : Fin 128) (l : Fin 1024) :
    shapeCast S4x32x128x1024 v shapeCasts_S4x32x128x4x4x64_S4x32x128x1024 (ix4 b n r l)
      = v (ix6 b n r ⟨l.val / 256, by omega⟩ ⟨l.val / 64 % 4, by omega⟩ ⟨l.val % 64, by omega⟩) := by
  pointwise []

theorem rows_back_at (v : FVec Ideal S4x32x128x1024 .f32) (R : Fin 16384) (l : Fin 1024) :
    shapeCast S16384x1024 v shapeCasts_S4x32x128x1024_S16384x1024 (ix2 R l)
      = v (ix4 ⟨R.val / 4096, by omega⟩ ⟨R.val / 128 % 32, by omega⟩ ⟨R.val % 128, by omega⟩ l) := by
  pointwise []

/-- The weighted sum at one row, head and column. -/
theorem mixed_at (v : FVec Ideal S4x32x256x4x64 .f32) (p : FVec Ideal S4x32x4x4x128x256 .f32) (b : Fin 4) (n : Fin 32) (g e : Fin 4)
    (r : Fin 128) (d : Fin 64) :
    mixed v p (ix2 ⟨(b.val * 32 + n.val) * 128 + r.val, by omega⟩ ⟨64 * (4 * g.val + e.val) + d.val, by omega⟩)
      = ∑ c, v (ix5 b n c g d) * p (ix6 b n g e r c) := by
  rw [← mix_at]
  unfold mixed
  generalize Host.dotGeneral dot_S4x32x256x4x64_S4x32x4x4x128x256_S4x32x4x64x4x128_2_5_4_34_013_012 none v p = u
  rw [truncf_apply, rows_back_at, flat_at]
  rw [← back_at u b n g e r d]
  generalize transpose S4x32x128x4x4x64 [0, 1, 5, 2, 4, 3] u transposes_S4x32x4x64x4x128_S4x32x128x4x4x64_0_1_5_2_4_3 = y
  have h0 : ∀ (b b' : Fin 4) (n n' : Fin 32) (r r' : Fin 128) (g g' e e' : Fin 4) (d d' : Fin 64),
      b = b' → n = n' → r = r' → g = g' → e = e' → d = d' →
      (ix6 b n r g e d : S4x32x128x4x4x64.Idx) = ix6 b' n' r' g' e' d' := by
    rintro _ _ _ _ _ _ _ _ _ _ _ _ rfl rfl rfl rfl rfl rfl; rfl
  apply congrArg y
  apply h0 <;> apply Fin.ext <;> dsimp only <;> omega

/-! ## The bands -/

theorem rows_at (x : FVec Ideal S16896x1536 .f32) (b : Fin 4) (i : Fin 4096) (j : Fin 1536) :
    rows x (ix3 b i j) = x (ix2 ⟨b.val * 4096 + i.val, by omega⟩ j) := by
  pointwise [rows]

theorem queries_at (x : FVec Ideal S16896x1536 .f32) (b : Fin 4) (i : Fin 4096) (h : Fin 16) (d : Fin 64) :
    queries x (ix4 b i h d) = x (ix2 ⟨b.val * 4096 + i.val, by omega⟩ ⟨h.val * 64 + d.val, by omega⟩) := by
  rw [← rows_at x b i ⟨h.val * 64 + d.val, by omega⟩]
  unfold queries
  generalize rows x = y
  pointwise []

theorem blocks_at (t : FVec Ideal S4x4096x4x64 .f32) (b : Fin 4) (n : Fin 32) (r : Fin 128) (g : Fin 4) (d : Fin 64) :
    blocks t (ix5 b n r g d) = t (ix4 b ⟨n.val * 128 + r.val, by omega⟩ g d) := by
  pointwise [blocks]

theorem front_at (a : FVec Ideal S4x128x4x64 .f32) (t : FVec Ideal S4x4096x4x64 .f32) (b : Fin 4) (i : Fin 4224) (g : Fin 4) (d : Fin 64) :
    front a t (ix4 b i g d) = if h : i.val < 128 then a (ix4 b ⟨i.val, h⟩ g d) else t (ix4 b ⟨i.val - 128, by omega⟩ g d) := by
  pointwise [front]

theorem pair_at (a t : FVec Ideal S4x32x128x4x64 .f32) (b : Fin 4) (n : Fin 32) (i : Fin 256) (g : Fin 4) (d : Fin 64) :
    pair a t (ix5 b n i g d) = if h : i.val < 128 then a (ix5 b n ⟨i.val, h⟩ g d) else t (ix5 b n ⟨i.val - 128, by omega⟩ g d) := by
  pointwise [pair]

theorem cut_at (f : FVec Ideal S4x4224x4x64 .f32) (b : Fin 4) (i : Fin 4096) (g : Fin 4) (d : Fin 64) :
    extractStridedSlice S4x4096x4x64 ![0, 0, 0, 0] f slices_S4x4224x4x64_S4x4096x4x64_0_0_0_0 (ix4 b i g d)
      = f (ix4 b ⟨i.val, by omega⟩ g d) := by
  pointwise []

theorem zeros_at (b : Fin 4) (i : Fin 128) (g : Fin 4) (d : Fin 64) : zeros (ix4 b i g d) = 0 := by
  pointwise [zeros]

/-- Key `c` of block `n` is row `128 n + c - 128` of the sequence, zero before its beginning. -/
theorem band_at (t : FVec Ideal S4x4096x4x64 .f32) (b : Fin 4) (n : Fin 32) (c : Fin 256) (g : Fin 4) (d : Fin 64) :
    band t (ix5 b n c g d)
      = if h : n.val * 128 + c.val < 128 then 0 else t (ix4 b ⟨n.val * 128 + c.val - 128, by omega⟩ g d) := by
  unfold band
  rw [pair_at]
  by_cases h : c.val < 128
  · rw [dif_pos h, blocks_at, cut_at, front_at]
    by_cases h' : n.val * 128 + c.val < 128
    · rw [dif_pos h', dif_pos h', zeros_at]
    · rw [dif_neg h', dif_neg h']
  · rw [dif_neg h, blocks_at, dif_neg (by omega)]
    exact congrArg (fun i => t (ix4 b i g d)) (Fin.ext (by dsimp only; omega))

theorem keyHeads_at (t : FVec Ideal S4x4096x1536 .f32) (b : Fin 4) (i : Fin 4096) (g : Fin 4) (d : Fin 64) :
    shapeCast S4x4096x4x64 (extractStridedSlice S4x4096x256 ![0, 0, 1024] t slices_S4x4096x1536_S4x4096x256_0_0_1024)
      shapeCasts_S4x4096x256_S4x4096x4x64 (ix4 b i g d) = t (ix3 b i ⟨1024 + (g.val * 64 + d.val), by omega⟩) := by
  pointwise []

theorem valueHeads_at (t : FVec Ideal S4x4096x1536 .f32) (b : Fin 4) (i : Fin 4096) (g : Fin 4) (d : Fin 64) :
    shapeCast S4x4096x4x64 (extractStridedSlice S4x4096x256 ![0, 0, 1280] t slices_S4x4096x1536_S4x4096x256_0_0_1280)
      shapeCasts_S4x4096x256_S4x4096x4x64 (ix4 b i g d) = t (ix3 b i ⟨1280 + (g.val * 64 + d.val), by omega⟩) := by
  pointwise []

theorem keys_at (x : FVec Ideal S16896x1536 .f32) (b : Fin 4) (n : Fin 32) (c : Fin 256) (g : Fin 4) (d : Fin 64) :
    keys x (ix5 b n c g d) = if h : n.val * 128 + c.val < 128 then 0
      else x (ix2 ⟨b.val * 4096 + (n.val * 128 + c.val - 128), by omega⟩ ⟨1024 + (g.val * 64 + d.val), by omega⟩) := by
  unfold keys
  rw [band_at]
  by_cases h : n.val * 128 + c.val < 128
  · rw [dif_pos h, dif_pos h]
  · rw [dif_neg h, dif_neg h, keyHeads_at, rows_at]

theorem values_at (x : FVec Ideal S16896x1536 .f32) (b : Fin 4) (n : Fin 32) (c : Fin 256) (g : Fin 4) (d : Fin 64) :
    values x (ix5 b n c g d) = if h : n.val * 128 + c.val < 128 then 0
      else x (ix2 ⟨b.val * 4096 + (n.val * 128 + c.val - 128), by omega⟩ ⟨1280 + (g.val * 64 + d.val), by omega⟩) := by
  unfold values
  rw [band_at]
  by_cases h : n.val * 128 + c.val < 128
  · rw [dif_pos h, dif_pos h]
  · rw [dif_neg h, dif_neg h, valueHeads_at, rows_at]

end Cert.AttnRefIdeal.Stretch
end
-- ==== Proof.AttnRef.Mask.lean ====
/-
  The window of the attention's reference: a key of the sequence, none to 127 rows behind its query.
-/
module

public import proofs.«01_k».proof.Proof.AttnRef.Stretch
public import proofs.«01_k».proof.Proof.AttnWords

@[expose] public section

set_option maxRecDepth 16384

noncomputable section

namespace Cert.AttnRefIdeal.Stretch

open Cert.AttnRefIdeal Cert.AttnRefIdeal.Gen Idealize.ShloMosaic Idealize.ShloMosaic.TcCoe Idealize.SL.Sem
open Idealize.ShloMosaic.StableHlo

theorem behind_at (r : Fin 128) (c : Fin 256) :
    behind (ix2 r c) = IntOp.addi (IntOp.subi (BitVec.ofNat 32 r.val) (BitVec.ofNat 32 c.val)) 128#32 := by
  pointwise [behind]

theorem keyRow_at (n : Fin 32) (c : Fin 256) :
    keyRow (ix2 n c) = IntOp.addi (IntOp.muli (IntOp.subi (BitVec.ofNat 32 n.val) 1#32) 128#32) (BitVec.ofNat 32 c.val) := by
  pointwise [keyRow]

theorem mask_at (n : Fin 32) (r : Fin 128) (c : Fin 256) :
    mask (ix3 n r c) = IntOp.andi (IntOp.andi (IntOp.cmpi .sge (behind (ix2 r c)) 0#32) (IntOp.cmpi .slt (behind (ix2 r c)) 128#32))
      (IntOp.cmpi .sge (keyRow (ix2 n c)) 0#32) := by
  unfold mask
  generalize behind = d
  generalize keyRow = k
  pointwise []

/-- The window. -/
theorem mask_iff (n : Fin 32) (r : Fin 128) (c : Fin 256) :
    mask (ix3 n r c) = 1#1 ↔ (r.val < c.val ∧ c.val ≤ r.val + 128) ∧ 128 ≤ n.val * 128 + c.val := by
  rw [mask_at, behind_at, keyRow_at, Cert.AttnWords.both, Cert.AttnWords.near _ _ r.isLt c.isLt, Cert.AttnWords.inside _ _ n.isLt c.isLt]

end Cert.AttnRefIdeal.Stretch
end
-- ==== Proof.AttnKer.Score.lean ====
/-
  A step's scores and values against the reference's: equal wherever the window admits the key.
-/
module

public import proofs.«01_k».proof.Proof.AttnKer.Blocks
public import proofs.«01_k».proof.Proof.AttnKer.Table
public import proofs.«01_k».proof.Proof.AttnKer.Read
public import proofs.«01_k».proof.Proof.AttnKer.Finite
public import proofs.«01_k».proof.Proof.AttnRef.Read
public import proofs.«01_k».proof.Proof.AttnRef.Mask

@[expose] public section

set_option maxRecDepth 16384

noncomputable section

namespace Cert.AttnIdeal.Closed

open Idealize.ShloMosaic Idealize.ShloMosaic.TcCoe Idealize.SL.Sem
open Cert.AttnIdeal Cert.AttnIdeal.Gen
open Cert.AttnSoft (lo hi crest)
open Cert.AttnRefIdeal.Stretch (scores queries keys values mask)

variable (m : (ℓ : Loc nD τ sig) → Buf (Elt Ideal) ℓ) (c : Dev nD) (t : Fin cfg0.N)

/-- The sequence of a step. -/
def seqOf : Fin 4 := ⟨t.val / 32, by have : t.val < 128 := t.isLt; omega⟩
/-- The block of a step in its sequence. -/
def blkOf : Fin 32 := ⟨t.val % 32, by omega⟩

/-- The row a step reads its `k`-th key and value from. -/
def keyAt (k : Fin 256) : Fin 16896 :=
  ⟨if k.val < 128 then (t.val / 32 * 32 + (t.val % 32 - 1)) * 128 + k.val else t.val * 128 + (k.val - 128), by
    have : t.val < 128 := t.isLt
    split <;> omega⟩

theorem keyAt_lo (k : Fin 128) : (keyAt t (lo k)).val = (t.val / 32 * 32 + (t.val % 32 - 1)) * 128 + k.val :=
  if_pos k.isLt

theorem keyAt_hi (k : Fin 128) : (keyAt t (hi k)).val = t.val * 128 + k.val :=
  (if_neg (show ¬ 128 + k.val < 128 by omega)).trans (show t.val * 128 + (128 + k.val - 128) = t.val * 128 + k.val by omega)

/-- The table a step reads. -/
theorem table_at (h : Fin 16) (r : Fin 128) (k : Fin 256) :
    iblk m c 6 t (ix3 h r k) = if mask (ix3 (blkOf t) r k) = 1#1 then bias m c (ix3 h r k) else ⊥ := by
  have hb := b_at m c t h r k
  rw [entry] at hb
  refine hb.trans ((first_at (bias m c) h ⟨min (t.val % 32) 1, by omega⟩ r k).trans ?_)
  simp only [kept_at, reach_at, inner_at, Cert.AttnRefIdeal.Stretch.mask_iff, blkOf]
  by_cases hn : t.val % 32 = 0
  · rw [if_pos (by omega)]
    by_cases h1 : r.val < k.val ∧ k.val ≤ r.val + 128
    · by_cases h2 : 128 ≤ k.val
      · rw [if_pos h2, if_pos h1, if_pos ⟨h1, by omega⟩]
      · rw [if_neg h2, if_neg (by omega)]
    · rw [if_neg h1, ite_self, if_neg (fun h => h1 h.1)]
  · rw [if_neg (by omega)]
    by_cases h1 : r.val < k.val ∧ k.val ≤ r.val + 128
    · rw [if_pos h1, if_pos ⟨h1, by omega⟩]
    · rw [if_neg h1, if_neg (fun h => h1 h.1)]

/-- The reference's score. -/
def score (g e : Fin 4) (r : Fin 128) (k : Fin 256) : EReal :=
  scores (queries (rows m c)) (keys (rows m c)) (bias m c) mask (ix6 (seqOf t) (blkOf t) g e r k)

/-- The kernel's score is the reference's. -/
theorem score_eq (g e : Fin 4) (r : Fin 128) (k : Fin 256) :
    (∑ d : Fin 64, rows m c (ix2 ⟨t.val * 128 + r.val, by have : t.val < 128 := t.isLt; omega⟩ ⟨64 * (4 * g.val + e.val) + d.val, by omega⟩)
        * rows m c (ix2 (keyAt t k) ⟨1024 + (64 * g.val + d.val), by omega⟩)) * Ideal.ofBits .f32 0x3E000000#32
      + (if mask (ix3 (blkOf t) r k) = 1#1 then bias m c (ix3 (head g e) r k) else ⊥) = score m c t g e r k := by
  unfold score
  rw [Cert.AttnRefIdeal.Stretch.scores_at]
  have ht : t.val < 128 := t.isLt
  by_cases hm : mask (ix3 (blkOf t) r k) = 1#1
  · rw [if_pos hm, if_pos hm]
    have hk := ((Cert.AttnRefIdeal.Stretch.mask_iff _ _ _).1 hm).2
    simp only [blkOf] at hk
    refine congrArg₂ (· + ·) (congrArg (· * _) (Finset.sum_congr rfl fun d _ => ?_)) ?_
    · rw [mul_comm, Cert.AttnRefIdeal.Stretch.keys_at, Cert.AttnRefIdeal.Stretch.queries_at, dif_neg (by simp only [blkOf]; omega)]
      refine congrArg₂ (· * ·) (congrArg (rows m c) (congrArg₂ ix2 (Fin.ext ?_) (Fin.ext ?_))) (congrArg (rows m c) (congrArg₂ ix2 (Fin.ext ?_) (Fin.ext ?_)))
      · simp only [keyAt, seqOf, blkOf]; split <;> omega
      · dsimp only; omega
      · simp only [seqOf, blkOf]; omega
      · dsimp only; omega
    · exact congrArg (fun h => bias m c (ix3 h r k)) (Fin.ext (by simp only [head]; omega))
  · rw [if_neg hm, if_neg hm, Cert.AttnSoft.minus_infinity]
    exact EReal.add_bot _

/-- A score is minus infinity off the window. -/
theorem score_off (g e : Fin 4) (r : Fin 128) (k : Fin 256) (hm : ¬ mask (ix3 (blkOf t) r k) = 1#1) : score m c t g e r k = ⊥ := by
  unfold score
  rw [Cert.AttnRefIdeal.Stretch.scores_at, if_neg hm, Cert.AttnSoft.minus_infinity]

/-- No score is infinity. -/
theorem score_ne_top (hx : ∀ (r : Fin 16896) (j : Fin 1280), IsReal (rows m c (ix2 r ⟨j.val, by omega⟩))) (hb : ∀ i, bias m c i ≠ ⊤)
    (g e : Fin 4) (r : Fin 128) (k : Fin 256) : score m c t g e r k ≠ ⊤ := by
  rw [← score_eq]
  by_cases hm : mask (ix3 (blkOf t) r k) = 1#1
  · rw [if_pos hm]
    exact ((IsReal.sum _ fun d => (hx _ ⟨_, by omega⟩).mul (hx _ ⟨_, by omega⟩)).mul ⟨1 / 8, Cert.AttnSoft.eighth⟩).add_ne_top (hb _)
  · rw [if_neg hm, EReal.add_bot]
    exact bot_ne_top

/-- The values, where the window admits the key. -/
theorem value_eq (g : Fin 4) (r : Fin 128) (k : Fin 256) (l : Fin 64) (hm : mask (ix3 (blkOf t) r k) = 1#1) :
    rows m c (ix2 (keyAt t k) ⟨1280 + (64 * g.val + l.val), by omega⟩) = values (rows m c) (ix5 (seqOf t) (blkOf t) k g l) := by
  have ht : t.val < 128 := t.isLt
  have hk := ((Cert.AttnRefIdeal.Stretch.mask_iff _ _ _).1 hm).2
  simp only [blkOf] at hk
  rw [Cert.AttnRefIdeal.Stretch.values_at, dif_neg (by simp only [blkOf]; omega)]
  refine congrArg (rows m c) (congrArg₂ ix2 (Fin.ext ?_) (Fin.ext ?_))
  · simp only [keyAt, seqOf, blkOf]; split <;> omega
  · dsimp only; omega

end Cert.AttnIdeal.Closed
end
-- ==== Proof.AttnKer.Stored.lean ====
/-
  What a step stores is its four groups joined.
-/
module

public import proofs.«01_k».proof.Proof.AttnKer.Group

@[expose] public section

set_option maxRecDepth 16384

noncomputable section

namespace Cert.AttnIdeal.Closed

open Idealize.ShloMosaic Idealize.ShloMosaic.TcCoe Idealize.SL.Sem
open Idealize.ShloMosaic.Pipeline (Dat)
open Cert.AttnIdeal Cert.AttnIdeal.Gen

variable (m : (ℓ : Loc nD τ sig) → Buf (Elt Ideal) ℓ)

/-- What a step stores. -/
theorem stored (c : Dev nD) (t : Fin cfg0.N) :
    outsAt0 m c t = joined (og (iblk m c 0 t) (X0_1 m c t) (iblk m c 2 t) (iblk m c 3 t) (iblk m c 4 t) (iblk m c 5 t) (iblk m c 6 t)) := by
  unfold outsAt0
  frame_out
  generalize iblk m c 0 t = a0
  generalize X0_1 m c t = a1
  generalize iblk m c 2 t = a2
  generalize iblk m c 3 t = a3
  generalize iblk m c 4 t = a4
  generalize iblk m c 5 t = a5
  generalize iblk m c 6 t = a6
  rfl

end Cert.AttnIdeal.Closed
end
-- ==== Proof.Attn.lean ====
/-
  The attention kernel's result array is the reference's attention of its arguments.
-/
module

public import proofs.«01_k».proof.Proof.AttnKer.Score
public import proofs.«01_k».proof.Proof.AttnKer.Stored

@[expose] public section

set_option maxRecDepth 16384

noncomputable section

namespace Cert.AttnIdeal.Closed

open Idealize.ShloMosaic Idealize.ShloMosaic.TcCoe Idealize.SL.Sem
open Idealize.ShloMosaic.Pipeline (Dat)
open Cert.AttnIdeal Cert.AttnIdeal.Gen
open Cert.AttnSoft (lo hi crest)
open Cert.AttnRefIdeal.Stretch (scores queries keys values mask mixed weights attention)

variable (m : (ℓ : Loc nD τ sig) → Buf (Elt Ideal) ℓ) (c : Dev nD) (t : Fin cfg0.N)

/-- Scores against the first 128 keys. -/
theorem scores_lo (g e : Fin 4) (r k : Fin 128) :
    half (stackQ (X0_1 m c t) g) (kv (iblk m c 2 t) g) (left (stackB (iblk m c 6 t) g)) (ix2 ⟨128 * e.val + r.val, by omega⟩ k)
      = score m c t g e r (lo k) := by
  rw [← score_eq, half_at, left_at, stackB_at, table_at]
  refine congrArg (fun s => s * _ + _) (Finset.sum_congr rfl fun d _ => ?_)
  rw [stackQ_at, kv_at, q_at, kp_at]
  refine congrArg (fun s => _ * s) (congrArg (rows m c) (congrArg₂ ix2 (Fin.ext (keyAt_lo t k).symm) rfl))

/-- Scores against the last 128 keys. -/
theorem scores_hi (g e : Fin 4) (r k : Fin 128) :
    half (stackQ (X0_1 m c t) g) (kv (iblk m c 3 t) g) (right (stackB (iblk m c 6 t) g)) (ix2 ⟨128 * e.val + r.val, by omega⟩ k)
      = score m c t g e r (hi k) := by
  rw [← score_eq, half_at, right_at, stackB_at, table_at]
  refine congrArg (fun s => s * _ + _) (Finset.sum_congr rfl fun d _ => ?_)
  rw [stackQ_at, kv_at, q_at, kc_at]
  refine congrArg (fun s => _ * s) (congrArg (rows m c) (congrArg₂ ix2 (Fin.ext (keyAt_hi t k).symm) rfl))

/-- The first 128 values. -/
theorem values_lo (g : Fin 4) (k : Fin 128) (l : Fin 64) :
    kv (iblk m c 4 t) g (ix2 k l) = rows m c (ix2 (keyAt t (lo k)) ⟨1280 + (64 * g.val + l.val), by omega⟩) := by
  rw [kv_at, vp_at]
  refine congrArg (rows m c) (congrArg₂ ix2 (Fin.ext (keyAt_lo t k).symm) rfl)

/-- The last 128 values. -/
theorem values_hi (g : Fin 4) (k : Fin 128) (l : Fin 64) :
    kv (iblk m c 5 t) g (ix2 k l) = rows m c (ix2 (keyAt t (hi k)) ⟨1280 + (64 * g.val + l.val), by omega⟩) := by
  rw [kv_at, vc_at]
  refine congrArg (rows m c) (congrArg₂ ix2 (Fin.ext (keyAt_hi t k).symm) rfl)

/-- One stored element. -/
theorem tile (hx : ∀ (r : Fin 16896) (j : Fin 1280), IsReal (rows m c (ix2 r ⟨j.val, by omega⟩))) (hz : ∀ i, IsReal (sinks m c i))
    (hb : ∀ i, bias m c i ≠ ⊤) (g e : Fin 4) (r : Fin 128) (l : Fin 64) :
    outsAt0 m c t (ix2 r ⟨64 * (4 * g.val + e.val) + l.val, by omega⟩)
      = attention (rows m c) (sinks m c) (bias m c)
          (ix2 ⟨t.val * 128 + r.val, by have : t.val < 128 := t.isLt; omega⟩ ⟨64 * (4 * g.val + e.val) + l.val, by omega⟩) := by
  rw [stored, joined_at]
  unfold og
  rw [group_at _ _ _ _ _ ⟨128 * e.val + r.val, by omega⟩ l (score m c t g e r)
    (fun k => rows m c (ix2 (keyAt t k) ⟨1280 + (64 * g.val + l.val), by omega⟩)) (sinks m c (ix1 (head g e)))
    ((stackZ_at _ g e r 0).trans (z_at m c t _)) (fun k => scores_lo m c t g e r k) (fun k => scores_hi m c t g e r k)
    (fun k => values_lo m c t g k l) (fun k => values_hi m c t g k l)]
  refine (Cert.AttnSoft.soft (score m c t g e r) (sinks m c (ix1 (head g e)))
    (fun k => values (rows m c) (ix5 (seqOf t) (blkOf t) k g l))
    (fun k => rows m c (ix2 (keyAt t k) ⟨1280 + (64 * g.val + l.val), by omega⟩)) (score_ne_top m c t hx hb g e r) (hz _).ne_top (hz _).ne_bot
    (fun k => by
      by_cases hm : mask (ix3 (blkOf t) r k) = 1#1
      · exact Or.inr (value_eq m c t g r k l hm)
      · exact Or.inl (score_off m c t g e r k hm))).trans ?_
  have hrow : (⟨t.val * 128 + r.val, by have : t.val < 128 := t.isLt; omega⟩ : Fin 16384)
      = ⟨((seqOf t).val * 32 + (blkOf t).val) * 128 + r.val, by have := (seqOf t).isLt; have := (blkOf t).isLt; omega⟩ :=
    Fin.ext (by simp only [seqOf, blkOf]; omega)
  have hh : head g e = ⟨g.val * 4 + e.val, by omega⟩ := Fin.ext (by simp only [head]; omega)
  unfold attention
  rw [hrow, Cert.AttnRefIdeal.Stretch.mixed_at, hh]
  refine Finset.sum_congr rfl fun k _ => ?_
  rw [Cert.AttnRefIdeal.Stretch.weights_at]
  rfl

/-- The result array after the run. -/
theorem final [Cert.Pre_finite_inputs.Facts] (hp : Pre_AttnIdeal_finite_inputs m) : (dats m 0 c).arrAt 7 cfg0.N
    = attention (m ((c : Thread nD τ).loc main_arg0)) (m ((c : Thread nD τ).loc main_arg1)) (m ((c : Thread nD τ).loc main_arg2)) := by
  obtain ⟨hx, hz, hb⟩ := args_real m hp c
  refine (dats m 0 c).arrAt_eq_of_covers 7 _ (by decide +kernel) fun t _ y => ?_
  blk_simp
  rw [after0_7]
  obtain ⟨r, j, rfl⟩ : ∃ (r : Fin 128) (j : Fin 1024), y = ix2 r j := ⟨y 0, y 1, by funext a; fin_cases a <;> rfl⟩
  obtain ⟨g, e, l, rfl⟩ : ∃ (g e : Fin 4) (l : Fin 64), j = ⟨64 * (4 * g.val + e.val) + l.val, by omega⟩ :=
    ⟨⟨j.val / 256, by omega⟩, ⟨j.val / 64 % 4, by omega⟩, ⟨j.val % 64, by omega⟩, Fin.ext (by dsimp only; omega)⟩
  refine (tile m c t hx hz hb g e r l).trans ?_
  generalize attention (rows m c) (sinks m c) (bias m c) = A
  blk_point [place t]

end Cert.AttnIdeal.Closed

end
-- ==== Proof.AttnS.Soft.lean ====
/-
  The softmax of a sampled sequence: 132 keys, padded to 256 in the kernel. A padded key has the score minus infinity and so the
  weight zero, and dividing the weighted sum once by the total is dividing every weight.
-/
module

public import proofs.«01_k».proof.Proof.AttnSoft

@[expose] public section

noncomputable section

namespace Cert.AttnSoft

open Idealize.ShloMosaic

/-- A key among the padded ones. -/
def wide (c : Fin 132) : Fin 256 := ⟨c.val, by omega⟩

/-- The largest of a sequence's scores and the sink. -/
def peak132 (s : Fin 132 → EReal) (z : EReal) : EReal := max (Finset.univ.sup s) z

theorem sum_wide {M : Type*} [AddCommMonoid M] (f : Fin 256 → M) (h : ∀ c : Fin 256, 132 ≤ c.val → f c = 0) :
    ∑ c, f c = ∑ c, f (wide c) := by
  have e : ∑ c, f c = ∑ c : Fin 132, f (wide c) + ∑ c : Fin 124, f ⟨132 + c.val, by omega⟩ := Fin.sum_univ_add (a := 132) (b := 124) f
  have z : ∑ c : Fin 124, f ⟨132 + c.val, by omega⟩ = 0 := Finset.sum_eq_zero fun c _ => h _ (Nat.le_add_right _ _)
  rw [e, z, add_zero]

theorem crest_wide (s : Fin 256 → EReal) (z : EReal) (h : ∀ c : Fin 256, 132 ≤ c.val → s c = ⊥) :
    crest s z = peak132 (fun c => s (wide c)) z := by
  unfold crest peak132
  congr 1
  apply le_antisymm
  · refine Finset.sup_le fun c _ => ?_
    by_cases hc : c.val < 132
    · exact Finset.le_sup (f := fun c => s (wide c)) (Finset.mem_univ (⟨c.val, hc⟩ : Fin 132))
    · rw [h c (by omega)]; exact bot_le
  · exact Finset.sup_le fun c _ => Finset.le_sup (f := s) (Finset.mem_univ (wide c))

/-- A quotient of sums against a sum of quotients. -/
theorem soft_wide (s : Fin 256 → EReal) (z : EReal) (w : Fin 256 → EReal) (v : Fin 132 → EReal) (hs : ∀ c, s c ≠ ⊤) (hz : z ≠ ⊤)
    (hz' : z ≠ ⊥) (hw : ∀ c, w (wide c) = v c) (h : ∀ c : Fin 256, 132 ≤ c.val → s c = ⊥) :
    Ideal.div (∑ c, Ideal.exp (s c - crest s z) * w c) ((∑ c, Ideal.exp (s c - crest s z)) + Ideal.exp (z - crest s z))
      = ∑ c : Fin 132, v c * Ideal.div (Ideal.exp (s (wide c) - peak132 (fun c => s (wide c)) z))
          ((∑ c : Fin 132, Ideal.exp (s (wide c) - peak132 (fun c => s (wide c)) z))
            + Ideal.exp (z - peak132 (fun c => s (wide c)) z)) := by
  rw [← crest_wide s z h]
  obtain ⟨r, hr⟩ := crest_real s z hs hz hz'
  rw [hr]
  choose p hp hp0 hpb _ using fun c => raised_real (s c) (hs c) r
  obtain ⟨e, he, _, _, hpos⟩ := raised_real z hz r
  have zero : ∀ c : Fin 256, 132 ≤ c.val → Ideal.exp (s c - r) = 0 := fun c hc => by rw [hp, hpb c (h c hc)]; rfl
  rw [sum_wide _ (fun c hc => by rw [zero c hc, zero_mul]), sum_wide _ zero]
  have hD : 0 < (∑ c, p (wide c)) + e := add_pos_of_nonneg_of_pos (Finset.sum_nonneg fun c _ => hp0 _) (hpos hz')
  have e2 : (∑ c, Ideal.exp (s (wide c) - r)) + Ideal.exp (z - r) = (((∑ c, p (wide c)) + e : ℝ) : EReal) := by
    simp only [hp, he, coe_sum, ← EReal.coe_add]
  rw [e2, div_sum _ _ _ hD]
  exact Finset.sum_congr rfl fun c _ => by rw [hp, hw, weigh _ _ hD]

end Cert.AttnSoft
end
-- ==== Proof.AttnS.Ref.lean ====
/-
  The attention of the sampled sequences as the reference states it, and its value at one sequence, group, step, head and column:
  a sum over the 132 keys, the 128 cached ones and the four new.
-/
module

public import proofs.«01_k».proof.Proof.Gen.AttnSRefIdeal.Run
public import proofs.«01_k».proof.Proof.AttnS.Soft
public import proofs.«01_k».proof.Proof.AttnWords

@[expose] public section

set_option maxRecDepth 16384

noncomputable section

namespace Cert.AttnSRefIdeal.Parts

open Cert.AttnSRefIdeal Cert.AttnSRefIdeal.Gen Idealize.ShloMosaic Idealize.ShloMosaic.TcCoe Idealize.SL.Sem
open Cert.AttnSoft (peak132)

/-! ## The parts -/

/-- The new rows, by sequence and step. -/
def rows (x : FVec Ideal S512x1536 .f32) : FVec Ideal S128x4x1536 .f32 :=
  transpose S128x4x1536 [1, 0, 2] (shapeCast S4x128x1536 x shapeCasts_S512x1536_S4x128x1536) transposes_S4x128x1536_S128x4x1536_1_0_2

/-- The queries. -/
def queries (y : FVec Ideal S128x4x1536 .f32) : FVec Ideal S128x4x16x64 .f32 :=
  shapeCast S128x4x16x64 (extractStridedSlice S128x4x1024 ![0, 0, 0] y slices_S128x4x1536_S128x4x1024_0_0_0) shapeCasts_S128x4x1024_S128x4x16x64

/-- The new keys. -/
def newKeys (y : FVec Ideal S128x4x1536 .f32) : FVec Ideal S128x4x4x64 .f32 :=
  shapeCast S128x4x4x64 (extractStridedSlice S128x4x256 ![0, 0, 1024] y slices_S128x4x1536_S128x4x256_0_0_1024) shapeCasts_S128x4x256_S128x4x4x64

/-- The new values. -/
def newValues (y : FVec Ideal S128x4x1536 .f32) : FVec Ideal S128x4x4x64 .f32 :=
  shapeCast S128x4x4x64 (extractStridedSlice S128x4x256 ![0, 0, 1280] y slices_S128x4x1536_S128x4x256_0_0_1280) shapeCasts_S128x4x256_S128x4x4x64

/-- The cache with the new rows behind it. -/
def line (a : FVec Ideal S128x128x4x64 .f32) (n : FVec Ideal S128x4x4x64 .f32) : FVec Ideal S128x132x4x64 .f32 :=
  concatenate S128x132x4x64 1 [⟨S128x128x4x64, a⟩, ⟨S128x4x4x64, n⟩] concatenates_S128x128x4x64_S128x4x4x64_S128x132x4x64_d1

/-- How many rows a key lies behind its query. -/
def gap : IVec S4x132 32 :=
  subi (broadcastInDim S4x132 ![0, 1] bcast_S4x1_S4x132_0_1 (addi (broadcastInDim S4x1 ![0] bcast_S4_S4x1_0 (iotaInDim S4 32 0))
      (broadcastInDim S4x1 ![] bcast_S_S4x1 (constantI S_ 32 128#32))))
    (broadcastInDim S4x132 ![0, 1] bcast_S1x132_S4x132_0_1 (broadcastInDim S1x132 ![1] bcast_S132_S1x132_1 (iotaInDim S132 32 0)))

/-- The window. -/
def window (d : IVec S4x132 32) : IVec S1x4x132 1 :=
  broadcastInDim S1x4x132 ![1, 2] bcast_S4x132_S1x4x132_1_2
    (andi (cmpi .sge d (broadcastInDim S4x132 ![] bcast_S_S4x132 (constantI S_ 32 0#32)))
      (cmpi .slt d (broadcastInDim S4x132 ![] bcast_S_S4x132 (constantI S_ 32 128#32))))

/-- The scores, minus infinity outside the window. -/
def scores (q : FVec Ideal S128x4x16x64 .f32) (k : FVec Ideal S128x132x4x64 .f32) (b : FVec Ideal S16x4x132 .f32) (w : IVec S1x4x132 1) :
    FVec Ideal S128x1x4x4x4x132 .f32 :=
  select (broadcastInDim S128x1x4x4x4x132 ![0, 1, 2, 3, 4, 5] bcast_S1x1x1x1x4x132_S128x1x4x4x4x132_0_1_2_3_4_5
      (broadcastInDim S1x1x1x1x4x132 ![1, 4, 5] bcast_S1x4x132_S1x1x1x1x4x132_1_4_5 w))
    (addf (mulf (transpose S128x1x4x4x4x132 [0, 1, 2, 5, 4, 3]
          (Host.dotGeneral dot_S128x1x132x4x64_S128x1x4x4x4x64_S128x1x4x132x4x4_4_5_2_24_013_013 none
            (broadcastInDim S128x1x132x4x64 ![0, 2, 3, 4] bcast_S128x132x4x64_S128x1x132x4x64_0_2_3_4 k)
            (shapeCast S128x1x4x4x4x64 (broadcastInDim S128x1x4x16x64 ![0, 2, 3, 4] bcast_S128x4x16x64_S128x1x4x16x64_0_2_3_4 q)
              shapeCasts_S128x1x4x16x64_S128x1x4x4x4x64))
          transposes_S128x1x4x132x4x4_S128x1x4x4x4x132_0_1_2_5_4_3)
        (broadcastInDim S128x1x4x4x4x132 ![] bcast_S_S128x1x4x4x4x132 (constant S_ .f32 0x3E000000#32)))
      (broadcastInDim S128x1x4x4x4x132 ![0, 1, 2, 3, 4, 5] bcast_S1x1x4x4x4x132_S128x1x4x4x4x132_0_1_2_3_4_5
        (broadcastInDim S1x1x4x4x4x132 ![2, 3, 4, 5] bcast_S4x4x4x132_S1x1x4x4x4x132_2_3_4_5
          (shapeCast S4x4x4x132 b shapeCasts_S16x4x132_S4x4x4x132))))
    (broadcastInDim S128x1x4x4x4x132 ![] bcast_S_S128x1x4x4x4x132 (id (constant S_ .f32 0xFF800000#32)))

/-- The sinks, by group and head. -/
def sink (z : FVec Ideal S16 .f32) : FVec Ideal S128x1x4x4x4x1 .f32 :=
  broadcastInDim S128x1x4x4x4x1 ![0, 1, 2, 3, 4, 5] bcast_S1x1x4x4x1x1_S128x1x4x4x4x1_0_1_2_3_4_5
    (broadcastInDim S1x1x4x4x1x1 ![2, 3, 4, 5] bcast_S4x4x1x1_S1x1x4x4x1x1_2_3_4_5
      (broadcastInDim S4x4x1x1 ![0, 1] bcast_S4x4_S4x4x1x1_0_1 (shapeCast S4x4 z shapeCasts_S16_S4x4)))

/-- The largest score of a query, its sink among them. -/
def top (s : FVec Ideal S128x1x4x4x4x132 .f32) (z : FVec Ideal S128x1x4x4x4x1 .f32) : FVec Ideal S128x1x4x4x4x1 .f32 :=
  maximumf (broadcastInDim S128x1x4x4x4x1 ![0, 1, 2, 3, 4] bcast_S128x1x4x4x4_S128x1x4x4x4x1_0_1_2_3_4
    (Host.reduce FloatOps.maximumf s (constant S_ .f32 0xFF800000#32) reducesTo_S128x1x4x4x4x132_S128x1x4x4x4_d5 h_S_)) z

/-- The exponentials of the scores less the largest. -/
def raised (s : FVec Ideal S128x1x4x4x4x132 .f32) (t : FVec Ideal S128x1x4x4x4x1 .f32) : FVec Ideal S128x1x4x4x4x132 .f32 :=
  Host.exp (subf s (broadcastInDim S128x1x4x4x4x132 ![0, 1, 2, 3, 4, 5] bcast_S128x1x4x4x4x1_S128x1x4x4x4x132_0_1_2_3_4_5 t))

/-- The sum of the exponentials and the sink's. -/
def total (u : FVec Ideal S128x1x4x4x4x132 .f32) (z t : FVec Ideal S128x1x4x4x4x1 .f32) : FVec Ideal S128x1x4x4x4x1 .f32 :=
  addf (broadcastInDim S128x1x4x4x4x1 ![0, 1, 2, 3, 4] bcast_S128x1x4x4x4_S128x1x4x4x4x1_0_1_2_3_4
      (Host.reduceAdd u (constant S_ .f32 0x00000000#32) reducesTo_S128x1x4x4x4x132_S128x1x4x4x4_d5 h_S_))
    (Host.exp (subf z t))

/-- The weights. -/
def shares (u : FVec Ideal S128x1x4x4x4x132 .f32) (d : FVec Ideal S128x1x4x4x4x1 .f32) : FVec Ideal S128x1x4x4x4x132 .f32 :=
  Host.divf u (broadcastInDim S128x1x4x4x4x132 ![0, 1, 2, 3, 4, 5] bcast_S128x1x4x4x4x1_S128x1x4x4x4x132_0_1_2_3_4_5 d)

/-- The weights of all scores. -/
def weights (s : FVec Ideal S128x1x4x4x4x132 .f32) (z : FVec Ideal S16 .f32) : FVec Ideal S128x1x4x4x4x132 .f32 :=
  shares (raised s (top s (sink z))) (total (raised s (top s (sink z))) (sink z) (top s (sink z)))

/-- The values under the weights. -/
def blend (v : FVec Ideal S128x132x4x64 .f32) (p : FVec Ideal S128x1x4x4x4x132 .f32) : FVec Ideal S128x1x4x64x4x4 .f32 :=
  Host.dotGeneral dot_S128x1x132x4x64_S128x1x4x4x4x132_S128x1x4x64x4x4_2_5_4_34_013_012 none
    (broadcastInDim S128x1x132x4x64 ![0, 2, 3, 4] bcast_S128x132x4x64_S128x1x132x4x64_0_2_3_4 v) p

/-- The blend as the kernel lays it out: by group, then by step and head. -/
def laid (u : FVec Ideal S128x1x4x64x4x4 .f32) : FVec Ideal S128x4x16x64 .f32 :=
  shapeCast S128x4x16x64 (transpose S128x4x4x4x64 [0, 2, 1, 3, 4] (shapeCast S128x4x4x4x64 (shapeCast S128x1x4x1024
      (transpose S128x1x4x4x4x64 [0, 1, 5, 2, 4, 3] u transposes_S128x1x4x64x4x4_S128x1x4x4x4x64_0_1_5_2_4_3)
      shapeCasts_S128x1x4x4x4x64_S128x1x4x1024) shapeCasts_S128x1x4x1024_S128x4x4x4x64)
      transposes_S128x4x4x4x64_S128x4x4x4x64_0_2_1_3_4) shapeCasts_S128x4x4x4x64_S128x4x16x64

/-- The reference's result. -/
def attention (x : FVec Ideal S512x1536 .f32) (ck cv : FVec Ideal S128x128x4x64 .f32) (z : FVec Ideal S16 .f32)
    (b : FVec Ideal S16x4x132 .f32) : FVec Ideal S128x4x16x64 .f32 :=
  laid (blend (line cv (newValues (rows x)))
    (weights (scores (queries (rows x)) (line ck (newKeys (rows x))) b (window gap)) z))

theorem result (m : (ℓ : Loc nD τ sig) → Buf (Elt Ideal) ℓ) (c : Dev nD) :
    Value.res_main_v63 (F := Ideal) m c = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## Rows, keys and values -/

theorem rows_at (x : FVec Ideal S512x1536 .f32) (b : Fin 128) (j : Fin 4) (l : Fin 1536) :
    rows x (ix3 b j l) = x (ix2 ⟨j.val * 128 + b.val, by omega⟩ l) := by
  pointwise [rows]

theorem queries_at (y : FVec Ideal S128x4x1536 .f32) (b : Fin 128) (j : Fin 4) (h : Fin 16) (d : Fin 64) :
    queries y (ix4 b j h d) = y (ix3 b j ⟨h.val * 64 + d.val, by omega⟩) := by
  pointwise [queries]

theorem newKeys_at (y : FVec Ideal S128x4x1536 .f32) (b : Fin 128) (j g : Fin 4) (d : Fin 64) :
    newKeys y (ix4 b j g d) = y (ix3 b j ⟨1024 + (g.val * 64 + d.val), by omega⟩) := by
  pointwise [newKeys]

theorem newValues_at (y : FVec Ideal S128x4x1536 .f32) (b : Fin 128) (j g : Fin 4) (d : Fin 64) :
    newValues y (ix4 b j g d) = y (ix3 b j ⟨1280 + (g.val * 64 + d.val), by omega⟩) := by
  pointwise [newValues]

theorem line_at (a : FVec Ideal S128x128x4x64 .f32) (n : FVec Ideal S128x4x4x64 .f32) (b : Fin 128) (i : Fin 132) (g : Fin 4) (d : Fin 64) :
    line a n (ix4 b i g d) = if h : i.val < 128 then a (ix4 b ⟨i.val, h⟩ g d) else n (ix4 b ⟨i.val - 128, by omega⟩ g d) := by
  pointwise [line]

/-! ## The window -/

theorem gap_at (j : Fin 4) (c : Fin 132) :
    gap (ix2 j c) = IntOp.subi (IntOp.addi (BitVec.ofNat 32 j.val) 128#32) (BitVec.ofNat 32 c.val) := by
  pointwise [gap]

theorem gap_lag (j : Fin 4) (c : Fin 132) : gap (ix2 j c) = Cert.AttnWords.lag j.val c.val := by
  rw [gap_at]
  simp only [IntOp.subi, IntOp.addi, Cert.AttnWords.lag]
  rw [BitVec.sub_eq_add_neg, BitVec.sub_eq_add_neg, BitVec.add_assoc, BitVec.add_assoc, BitVec.add_comm (128#32)]

theorem window_iff (i : Fin 1) (j : Fin 4) (c : Fin 132) :
    window gap (ix3 i j c) = 1#1 ↔ j.val < c.val ∧ c.val ≤ j.val + 128 := by
  rw [← Cert.AttnWords.near _ _ (by omega) (by omega), ← gap_lag]
  generalize gap = d
  pointwise [window]

/-! ## Scores -/

theorem turned_at (q : FVec Ideal S128x1x4x132x4x4 .f32) (b : Fin 128) (g e j : Fin 4) (c : Fin 132) :
    transpose S128x1x4x4x4x132 [0, 1, 2, 5, 4, 3] q transposes_S128x1x4x132x4x4_S128x1x4x4x4x132_0_1_2_5_4_3 (ix6 b 0 g e j c)
      = q (ix6 b 0 g c j e) := by
  pointwise []

theorem product_at (k : FVec Ideal S128x1x132x4x64 .f32) (q : FVec Ideal S128x1x4x4x4x64 .f32) (b : Fin 128) (g e j : Fin 4)
    (c : Fin 132) : Host.dotGeneral dot_S128x1x132x4x64_S128x1x4x4x4x64_S128x1x4x132x4x4_4_5_2_24_013_013 none k q (ix6 b 0 g c j e)
      = ∑ d, k (ix5 b 0 c g d) * q (ix6 b 0 j g e d) := by
  pointwise []

theorem grouped_at (q : FVec Ideal S128x1x4x16x64 .f32) (b : Fin 128) (g e j : Fin 4) (d : Fin 64) :
    shapeCast S128x1x4x4x4x64 q shapeCasts_S128x1x4x16x64_S128x1x4x4x4x64 (ix6 b 0 j g e d) = q (ix5 b 0 j ⟨g.val * 4 + e.val, by omega⟩ d) := by
  pointwise []

theorem lifted_at (q : FVec Ideal S128x4x16x64 .f32) (b : Fin 128) (j : Fin 4) (h : Fin 16) (d : Fin 64) :
    broadcastInDim S128x1x4x16x64 ![0, 2, 3, 4] bcast_S128x4x16x64_S128x1x4x16x64_0_2_3_4 q (ix5 b 0 j h d) = q (ix4 b j h d) := by
  pointwise []

theorem raisedKeys_at (k : FVec Ideal S128x132x4x64 .f32) (b : Fin 128) (c : Fin 132) (g : Fin 4) (d : Fin 64) :
    broadcastInDim S128x1x132x4x64 ![0, 2, 3, 4] bcast_S128x132x4x64_S128x1x132x4x64_0_2_3_4 k (ix5 b 0 c g d) = k (ix4 b c g d) := by
  pointwise []

theorem bias_at (b : FVec Ideal S16x4x132 .f32) (b' : Fin 128) (g e j : Fin 4) (c : Fin 132) :
    broadcastInDim S128x1x4x4x4x132 ![0, 1, 2, 3, 4, 5] bcast_S1x1x4x4x4x132_S128x1x4x4x4x132_0_1_2_3_4_5
      (broadcastInDim S1x1x4x4x4x132 ![2, 3, 4, 5] bcast_S4x4x4x132_S1x1x4x4x4x132_2_3_4_5
        (shapeCast S4x4x4x132 b shapeCasts_S16x4x132_S4x4x4x132)) (ix6 b' 0 g e j c)
      = b (ix3 ⟨g.val * 4 + e.val, by omega⟩ j c) := by
  pointwise []

theorem mask_at (w : IVec S1x4x132 1) (b : Fin 128) (g e j : Fin 4) (c : Fin 132) :
    broadcastInDim S128x1x4x4x4x132 ![0, 1, 2, 3, 4, 5] bcast_S1x1x1x1x4x132_S128x1x4x4x4x132_0_1_2_3_4_5
      (broadcastInDim S1x1x1x1x4x132 ![1, 4, 5] bcast_S1x4x132_S1x1x1x1x4x132_1_4_5 w) (ix6 b 0 g e j c) = w (ix3 0 j c) := by
  pointwise []

theorem choose_at (w : IVec S128x1x4x4x4x132 1) (u v : FVec Ideal S128x1x4x4x4x132 .f32) (i : S128x1x4x4x4x132.Idx) :
    select w u v i = if w i = 1#1 then u i else v i := rfl

theorem scores_at (q : FVec Ideal S128x4x16x64 .f32) (k : FVec Ideal S128x132x4x64 .f32) (a : FVec Ideal S16x4x132 .f32) (w : IVec S1x4x132 1)
    (b : Fin 128) (g e j : Fin 4) (c : Fin 132) :
    scores q k a w (ix6 b 0 g e j c)
      = if w (ix3 0 j c) = 1#1 then (∑ d, k (ix4 b c g d) * q (ix4 b j ⟨g.val * 4 + e.val, by omega⟩ d))
          * Ideal.ofBits .f32 0x3E000000#32 + a (ix3 ⟨g.val * 4 + e.val, by omega⟩ j c) else ⊥ := by
  unfold scores
  rw [choose_at, mask_at, addf_apply, mulf_apply, turned_at, product_at, bias_at]
  rw [← Cert.AttnSoft.minus_infinity, Finset.sum_congr rfl fun d _ => congrArg₂ (fun u v : EReal => u * v)
    (raisedKeys_at k b c g d) ((grouped_at _ b g e j d).trans (lifted_at q b j ⟨g.val * 4 + e.val, by omega⟩ d))]
  rfl

/-! ## Weights -/

theorem sink_at (z : FVec Ideal S16 .f32) (b : Fin 128) (g e j : Fin 4) (i : Fin 1) :
    sink z (ix6 b 0 g e j i) = z (ix1 ⟨g.val * 4 + e.val, by omega⟩) := by
  pointwise [sink]

theorem spread_at (w : FVec Ideal S128x1x4x4x4x1 .f32) (b : Fin 128) (g e j : Fin 4) (c : Fin 132) :
    broadcastInDim S128x1x4x4x4x132 ![0, 1, 2, 3, 4, 5] bcast_S128x1x4x4x4x1_S128x1x4x4x4x132_0_1_2_3_4_5 w (ix6 b 0 g e j c)
      = w (ix6 b 0 g e j 0) := by
  pointwise []

theorem column_at (w : FVec Ideal S128x1x4x4x4 .f32) (b : Fin 128) (g e j : Fin 4) (i : Fin 1) :
    broadcastInDim S128x1x4x4x4x1 ![0, 1, 2, 3, 4] bcast_S128x1x4x4x4_S128x1x4x4x4x1_0_1_2_3_4 w (ix6 b 0 g e j i) = w (ix5 b 0 g e j) := by
  pointwise []

/-- A query's scores are its 132. -/
theorem fiber (b : Fin 128) (g e j : Fin 4) (i : S128x1x4x4x4x132.Idx) :
    (reducesTo_S128x1x4x4x4x132_S128x1x4x4x4_d5).drop i = ix5 b 0 g e j ↔ ∃ c : Fin 132, (ix6 b 0 g e j c : S128x1x4x4x4x132.Idx) = i := by
  constructor
  · intro h
    refine ⟨i 5, funext fun a => Fin.ext ?_⟩
    match a with
    | ⟨0, _⟩ => exact (congrArg Fin.val (congrFun h 0)).symm
    | ⟨1, _⟩ => exact (congrArg Fin.val (congrFun h 1)).symm
    | ⟨2, _⟩ => exact (congrArg Fin.val (congrFun h 2)).symm
    | ⟨3, _⟩ => exact (congrArg Fin.val (congrFun h 3)).symm
    | ⟨4, _⟩ => exact (congrArg Fin.val (congrFun h 4)).symm
    | ⟨5, _⟩ => rfl
  · rintro ⟨c, rfl⟩
    refine funext fun a => Fin.ext ?_
    match a with
    | ⟨0, _⟩ | ⟨1, _⟩ | ⟨2, _⟩ | ⟨3, _⟩ | ⟨4, _⟩ => rfl

theorem top_at (s : FVec Ideal S128x1x4x4x4x132 .f32) (z : FVec Ideal S128x1x4x4x4x1 .f32) (b : Fin 128) (g e j : Fin 4)
    (i : Fin 1) : top s z (ix6 b 0 g e j i) = peak132 (fun c => s (ix6 b 0 g e j c)) (z (ix6 b 0 g e j i)) := by
  unfold top peak132
  rw [maximumf_apply, column_at, ← Cert.AttnSoft.fold_max]
  refine congrArg (fun t => max t (z (ix6 b 0 g e j i))) ?_
  pointwise []
  exact Finset.fold_filter_eq_fold_of_fiber max _ (fun c : Fin 132 => (ix6 b 0 g e j c : S128x1x4x4x4x132.Idx))
    (fun _ _ h => congrFun h 5) (fiber b g e j) _ s

theorem raised_at (s : FVec Ideal S128x1x4x4x4x132 .f32) (t : FVec Ideal S128x1x4x4x4x1 .f32) (b : Fin 128) (g e j : Fin 4)
    (c : Fin 132) : raised s t (ix6 b 0 g e j c) = Ideal.exp (s (ix6 b 0 g e j c) - t (ix6 b 0 g e j 0)) := by
  rw [← spread_at t b g e j c]
  rfl

theorem sum_at (u : FVec Ideal S128x1x4x4x4x132 .f32) (b : Fin 128) (g e j : Fin 4) :
    Host.reduceAdd u (constant S_ .f32 0x00000000#32) reducesTo_S128x1x4x4x4x132_S128x1x4x4x4_d5 h_S_ (ix5 b 0 g e j)
      = ∑ c, u (ix6 b 0 g e j c) := by
  pointwise []
  unfold Ideal.hostReduceAdd
  rw [zero_add]
  exact Finset.sum_filter_eq_sum_of_fiber _ (fun c : Fin 132 => (ix6 b 0 g e j c : S128x1x4x4x4x132.Idx))
    (fun _ _ h => congrFun h 5) (fiber b g e j) u

theorem total_at (u : FVec Ideal S128x1x4x4x4x132 .f32) (z t : FVec Ideal S128x1x4x4x4x1 .f32) (b : Fin 128) (g e j : Fin 4)
    (i : Fin 1) : total u z t (ix6 b 0 g e j i) = (∑ c, u (ix6 b 0 g e j c)) + Ideal.exp (z (ix6 b 0 g e j i) - t (ix6 b 0 g e j i)) := by
  rw [← sum_at u b g e j, ← column_at (Host.reduceAdd u (constant S_ .f32 0x00000000#32)
    reducesTo_S128x1x4x4x4x132_S128x1x4x4x4_d5 h_S_) b g e j i]
  rfl

theorem shares_at (u : FVec Ideal S128x1x4x4x4x132 .f32) (d : FVec Ideal S128x1x4x4x4x1 .f32) (b : Fin 128) (g e j : Fin 4)
    (c : Fin 132) : shares u d (ix6 b 0 g e j c) = Ideal.div (u (ix6 b 0 g e j c)) (d (ix6 b 0 g e j 0)) := by
  rw [← spread_at d b g e j c]
  rfl

/-- One weight, over a query's scores given as a function of the key. -/
theorem weights_at (s : FVec Ideal S128x1x4x4x4x132 .f32) (z : FVec Ideal S16 .f32) (b : Fin 128) (g e j : Fin 4) (c : Fin 132)
    (f : Fin 132 → EReal) (hf : ∀ c, s (ix6 b 0 g e j c) = f c) (ζ : EReal) (hz : z (ix1 ⟨g.val * 4 + e.val, by omega⟩) = ζ) :
    weights s z (ix6 b 0 g e j c)
      = Ideal.div (Ideal.exp (f c - peak132 f ζ)) ((∑ c, Ideal.exp (f c - peak132 f ζ)) + Ideal.exp (ζ - peak132 f ζ)) := by
  unfold weights
  rw [shares_at, total_at]
  simp only [raised_at, top_at, sink_at, hf, hz]

/-! ## The result -/

theorem blend_at (v : FVec Ideal S128x132x4x64 .f32) (p : FVec Ideal S128x1x4x4x4x132 .f32) (b : Fin 128) (g e j : Fin 4)
    (d : Fin 64) : blend v p (ix6 b 0 g d e j) = ∑ c, v (ix4 b c g d) * p (ix6 b 0 g e j c) := by
  have h (k : FVec Ideal S128x1x132x4x64 .f32) :
      Host.dotGeneral dot_S128x1x132x4x64_S128x1x4x4x4x132_S128x1x4x64x4x4_2_5_4_34_013_012 none k p (ix6 b 0 g d e j)
        = ∑ c, k (ix5 b 0 c g d) * p (ix6 b 0 g e j c) := by
    pointwise []
  unfold blend
  rw [h]
  exact Finset.sum_congr rfl fun c _ => congrArg (fun u : EReal => u * p (ix6 b 0 g e j c)) (raisedKeys_at v b c g d)

theorem flat_at (u : FVec Ideal S128x1x4x4x4x64 .f32) (b : Fin 128) (j g e : Fin 4) (d : Fin 64) :
    shapeCast S128x4x4x4x64 (shapeCast S128x1x4x1024 u shapeCasts_S128x1x4x4x4x64_S128x1x4x1024) shapeCasts_S128x1x4x1024_S128x4x4x4x64
      (ix5 b j g e d) = u (ix6 b 0 j g e d) := by
  rw [show shapeCast S128x4x4x4x64 (shapeCast S128x1x4x1024 u shapeCasts_S128x1x4x4x4x64_S128x1x4x1024) shapeCasts_S128x1x4x1024_S128x4x4x4x64
      (ix5 b j g e d) = shapeCast S128x1x4x1024 u shapeCasts_S128x1x4x4x4x64_S128x1x4x1024
        (ix4 b 0 j ⟨g.val * 256 + e.val * 64 + d.val, by omega⟩) by
    generalize shapeCast S128x1x4x1024 u shapeCasts_S128x1x4x4x4x64_S128x1x4x1024 = w
    pointwise []]
  pointwise []

theorem laid_at (u : FVec Ideal S128x1x4x64x4x4 .f32) (b : Fin 128) (g j e : Fin 4) (d : Fin 64) :
    laid u (ix4 b g ⟨j.val * 4 + e.val, by omega⟩ d) = u (ix6 b 0 g d e j) := by
  have h1 (w : FVec Ideal S128x4x4x4x64 .f32) : shapeCast S128x4x16x64 (transpose S128x4x4x4x64 [0, 2, 1, 3, 4] w
      transposes_S128x4x4x4x64_S128x4x4x4x64_0_2_1_3_4) shapeCasts_S128x4x4x4x64_S128x4x16x64 (ix4 b g ⟨j.val * 4 + e.val, by omega⟩ d)
        = w (ix5 b j g e d) := by
    pointwise []
  have h2 : transpose S128x1x4x4x4x64 [0, 1, 5, 2, 4, 3] u transposes_S128x1x4x64x4x4_S128x1x4x4x4x64_0_1_5_2_4_3 (ix6 b 0 j g e d)
      = u (ix6 b 0 g d e j) := by
    pointwise []
  unfold laid
  rw [h1, flat_at, h2]

end Cert.AttnSRefIdeal.Parts
end
-- ==== Proof.AttnS.Ker.lean ====
/-
  What one step of the sampled sequences' attention stores, at one sequence, group, row and column.
-/
module

public import proofs.«01_k».proof.Proof.Gen.AttnSIdeal.Value
public import proofs.«01_k».proof.Proof.AttnS.Soft

@[expose] public section

set_option maxRecDepth 16384

noncomputable section

namespace Cert.AttnSIdeal.Closed

open Idealize.ShloMosaic Idealize.ShloMosaic.TcCoe Idealize.SL.Sem
open Cert.AttnSIdeal Cert.AttnSIdeal.Gen
open Cert.AttnSoft (crest)

theorem joint_at (q : FVec Ideal S8x4x16x64 .bf16) (i : Fin 8) (g : Fin 4) (r : Fin 16) (d : Fin 64) :
    shapeCast S32x16x64 (shapeCast S8x4x16x64 q shapeCasts_S8x4x16x64_S8x4x16x64) shapeCasts_S8x4x16x64_S32x16x64
      (ix3 ⟨i.val * 4 + g.val, by omega⟩ r d) = q (ix4 i g r d) := by
  pointwise []

theorem paired_at (k : FVec Ideal S8x4x256x64 .bf16) (i : Fin 8) (g : Fin 4) (c : Fin 256) (d : Fin 64) :
    k0_pay2 (F := Ideal) k (ix3 ⟨i.val * 4 + g.val, by omega⟩ c d) = k (ix4 i g c d) := by
  pointwise [k0_pay2]

theorem keys_at (k : FVec Ideal S8x4x256x64 .bf16) (i : Fin 8) (g : Fin 4) (c : Fin 256) (d : Fin 64) :
    shapeCast S32x256x64 (shapeCast S8x4x256x64 k shapeCasts_S8x4x256x64_S8x4x256x64) shapeCasts_S8x4x256x64_S32x256x64
      (ix3 ⟨i.val * 4 + g.val, by omega⟩ c d) = k (ix4 i g c d) := by
  pointwise []

theorem product_at (q : FVec Ideal S32x16x64 .bf16) (k : FVec Ideal S32x256x64 .bf16) (n : Fin 32) (r : Fin 16) (c : Fin 256) :
    matmul dot_S32x16x64_S32x256x64_S32x16x256_2_2_1_1_0_0 none q k (constant S32x16x256 .f32 0x00000000#32) (ix3 n r c)
      = ∑ d, q (ix3 n r d) * k (ix3 n c d) := by
  pointwise []

theorem blend_at (p : FVec Ideal S32x16x256 .bf16) (v : FVec Ideal S32x256x64 .bf16) (n : Fin 32) (r : Fin 16) (d : Fin 64) :
    matmul dot_S32x16x256_S32x256x64_S32x16x64_2_1_1_2_0_0 none p v (constant S32x16x64 .f32 0x00000000#32) (ix3 n r d)
      = ∑ c, p (ix3 n r c) * v (ix3 n c d) := by
  pointwise []

theorem apart_at (u : FVec Ideal S32x16x256 .f32) (i : Fin 8) (g : Fin 4) (r : Fin 16) (c : Fin 256) :
    shapeCast S8x4x16x256 u shapeCasts_S32x16x256_S8x4x16x256 (ix4 i g r c) = u (ix3 ⟨i.val * 4 + g.val, by omega⟩ r c) := by
  pointwise []

theorem table_at (b : FVec Ideal S4x16x256 .f32) (i : Fin 8) (g : Fin 4) (r : Fin 16) (c : Fin 256) :
    broadcastTo S8x4x16x256 (shapeCast S1x4x16x256 (shapeCast S4x16x256 b shapeCasts_S4x16x256_S4x16x256) shapeCasts_S4x16x256_S1x4x16x256)
      broadcasts_S1x4x16x256_S8x4x16x256 (ix4 i g r c) = b (ix3 g r c) := by
  pointwise []

/-- One score. -/
theorem score_at (q : FVec Ideal S8x4x16x64 .bf16) (k : FVec Ideal S8x4x256x64 .bf16) (b : FVec Ideal S4x16x256 .f32) (i : Fin 8) (g : Fin 4)
    (r : Fin 16) (c : Fin 256) : k0_pay3 (F := Ideal) q k b (ix4 i g r c)
      = (∑ d, q (ix4 i g r d) * k (ix4 i g c d)) * Ideal.ofBits .f32 0x3E000000#32 + b (ix3 g r c) := by
  unfold k0_pay3
  rw [addf_apply, apart_at, table_at, mulf_apply, product_at, Finset.sum_congr rfl fun d _ => congrArg₂ (fun u v : EReal => u * v)
    (joint_at q i g r d) (keys_at k i g c d)]
  rfl

theorem sink_at (z : FVec Ideal S4x16x1 .f32) (i : Fin 8) (g : Fin 4) (r : Fin 16) :
    broadcastTo S8x4x16x1 (k0_pay4 (F := Ideal) z) broadcasts_S1x4x16x1_S8x4x16x1 (ix4 i g r 0) = z (ix3 g r 0) := by
  pointwise [k0_pay4]

theorem most_at (s : FVec Ideal S8x4x16x256 .f32) (i : Fin 8) (g : Fin 4) (r : Fin 16) :
    shapeCast S8x4x16x1 (multiReduction .maximumf [3] S8x4x16 s 0xFF800000#32 reduces_S8x4x16x256_S8x4x16 (.inl rfl) rfl)
      shapeCasts_S8x4x16_S8x4x16x1 (ix4 i g r 0) = Finset.univ.sup fun c => s (ix4 i g r c) := by
  rw [← Cert.AttnSoft.fold_max]
  pointwise []

theorem sum_at (s : FVec Ideal S8x4x16x256 .f32) (i : Fin 8) (g : Fin 4) (r : Fin 16) :
    shapeCast S8x4x16x1 (multiReduction .add [3] S8x4x16 s 0x00000000#32 reduces_S8x4x16x256_S8x4x16 (.inl rfl) rfl)
      shapeCasts_S8x4x16_S8x4x16x1 (ix4 i g r 0) = ∑ c, s (ix4 i g r c) := by
  pointwise []

theorem spread_at (t : FVec Ideal S8x4x16x1 .f32) (i : Fin 8) (g : Fin 4) (r : Fin 16) (c : Fin 256) :
    broadcastTo S8x4x16x256 t broadcasts_S8x4x16x1_S8x4x16x256 (ix4 i g r c) = t (ix4 i g r 0) := by
  pointwise []

variable (q : FVec Ideal S8x4x16x64 .bf16) (k v : FVec Ideal S8x4x256x64 .bf16) (b : FVec Ideal S4x16x256 .f32) (z : FVec Ideal S4x16x1 .f32)

theorem crest_at (i : Fin 8) (g : Fin 4) (r : Fin 16) :
    k0_pay5 (F := Ideal) q k b z (ix4 i g r 0) = crest (fun c => k0_pay3 (F := Ideal) q k b (ix4 i g r c)) (z (ix3 g r 0)) := by
  unfold k0_pay5
  dsimp only
  rw [maximumf_apply, most_at, sink_at]
  rfl

theorem expo_at (i : Fin 8) (g : Fin 4) (r : Fin 16) (c : Fin 256) : k0_pay6 (F := Ideal) q k b z (ix4 i g r c)
      = Ideal.exp (k0_pay3 (F := Ideal) q k b (ix4 i g r c) - crest (fun c => k0_pay3 (F := Ideal) q k b (ix4 i g r c)) (z (ix3 g r 0))) := by
  rw [← crest_at q k b z i g r, ← spread_at (k0_pay5 (F := Ideal) q k b z) i g r c]
  rfl

theorem denom_at (i : Fin 8) (g : Fin 4) (r : Fin 16) : k0_pay7 (F := Ideal) q k b z (ix4 i g r 0)
      = (∑ c, k0_pay6 (F := Ideal) q k b z (ix4 i g r c))
        + Ideal.exp (z (ix3 g r 0) - crest (fun c => k0_pay3 (F := Ideal) q k b (ix4 i g r c)) (z (ix3 g r 0))) := by
  rw [← crest_at q k b z i g r, ← sum_at, ← sink_at z i g r]
  rfl

theorem share_at (i : Fin 8) (g : Fin 4) (r : Fin 16) (c : Fin 256) :
    k0_pay8 (F := Ideal) q k b z (ix3 ⟨i.val * 4 + g.val, by omega⟩ r c) = k0_pay6 (F := Ideal) q k b z (ix4 i g r c) := by
  unfold k0_pay8
  generalize k0_pay6 (F := Ideal) q k b z = u
  pointwise []

theorem quotient_at (p : FVec Ideal S32x256x64 .bf16) (t : FVec Ideal S8x4x16x1 .f32) (w : FVec Ideal S32x16x256 .bf16) (i : Fin 8) (g : Fin 4)
    (r : Fin 16) (d : Fin 64) : k0_pay1 (F := Ideal) p t w (constant S32x16x64 .f32 0x00000000#32) (ix4 i g r d)
      = Ideal.div (∑ c, w (ix3 ⟨i.val * 4 + g.val, by omega⟩ r c) * p (ix3 ⟨i.val * 4 + g.val, by omega⟩ c d)) (t (ix4 i g r 0)) := by
  pointwise [k0_pay1]

/-- What a step stores. -/
def stored : FVec Ideal S8x4x16x64 .f32 :=
  k0_pay1 (k0_pay2 v) (k0_pay7 (F := Ideal) q k b z) (k0_pay8 (F := Ideal) q k b z) (constant S32x16x64 .f32 0x00000000#32)

theorem out_stored : out0_5 (F := Ideal) q k v b z = stored q k v b z := by
  frame_out
  rfl

/-- One stored value, over a row's scores given as a function of the key. -/
theorem stored_at (i : Fin 8) (g : Fin 4) (r : Fin 16) (d : Fin 64) (s : Fin 256 → EReal)
    (hs : ∀ c, k0_pay3 (F := Ideal) q k b (ix4 i g r c) = s c) (ζ : EReal) (hz : z (ix3 g r 0) = ζ) (w : Fin 256 → EReal) (hw : ∀ c, v (ix4 i g c d) = w c) :
    stored q k v b z (ix4 i g r d)
      = Ideal.div (∑ c, Ideal.exp (s c - crest s ζ) * w c) ((∑ c, Ideal.exp (s c - crest s ζ)) + Ideal.exp (ζ - crest s ζ)) := by
  unfold stored
  rw [quotient_at, denom_at]
  simp only [share_at, expo_at, paired_at, hs, hz, hw]

end Cert.AttnSIdeal.Closed
end
-- ==== Proof.AttnS.Host.lean ====
/-
  What the host lays out for the sampled sequences' attention: queries, keys and values by sequence and group, the sinks and the score table.
-/
module

public import proofs.«01_k».proof.Proof.Gen.AttnSIdeal.Value
public import Idealize.ShloMosaic.Lib.StableHlo.RunRead
public import proofs.«01_k».proof.Proof.AttnSoft
public import proofs.«01_k».proof.Proof.AttnWords

@[expose] public section

set_option maxRecDepth 16384

noncomputable section

namespace Cert.AttnSIdeal.Closed

open Idealize.ShloMosaic Idealize.ShloMosaic.TcCoe Idealize.SL.Sem
open Cert.AttnSIdeal Cert.AttnSIdeal.Gen

variable (m : (ℓ : Loc nD τ sig) → Buf (Elt Ideal) ℓ)

/-- The new rows, by step and sequence. -/
def steps (x : FVec Ideal S512x1536 .f32) : FVec Ideal S4x128x1536 .f32 := shapeCast S4x128x1536 x shapeCasts_S512x1536_S4x128x1536

/-- The queries, by sequence and group. -/
def queries (x : FVec Ideal S512x1536 .f32) : FVec Ideal S128x4x16x64 .bf16 :=
  truncf .bf16 (shapeCast S128x4x16x64 (transpose S128x4x4x4x64 [1, 2, 0, 3, 4] (shapeCast S4x128x4x4x64
    (extractStridedSlice S4x128x1024 ![0, 0, 0] (steps x) slices_S4x128x1536_S4x128x1024_0_0_0) shapeCasts_S4x128x1024_S4x128x4x4x64)
    transposes_S4x128x4x4x64_S128x4x4x4x64_1_2_0_3_4) shapeCasts_S128x4x4x4x64_S128x4x16x64) bitsLt_bf16_f32

/-- The new keys, by sequence. -/
def freshKeys (x : FVec Ideal S512x1536 .f32) : FVec Ideal S128x4x4x64 .f32 :=
  transpose S128x4x4x64 [1, 0, 2, 3] (shapeCast S4x128x4x64 (extractStridedSlice S4x128x256 ![0, 0, 1024] (steps x)
    slices_S4x128x1536_S4x128x256_0_0_1024) shapeCasts_S4x128x256_S4x128x4x64) transposes_S4x128x4x64_S128x4x4x64_1_0_2_3

/-- The new values, by sequence. -/
def freshValues (x : FVec Ideal S512x1536 .f32) : FVec Ideal S128x4x4x64 .f32 :=
  transpose S128x4x4x64 [1, 0, 2, 3] (shapeCast S4x128x4x64 (extractStridedSlice S4x128x256 ![0, 0, 1280] (steps x)
    slices_S4x128x1536_S4x128x256_0_0_1280) shapeCasts_S4x128x256_S4x128x4x64) transposes_S4x128x4x64_S128x4x4x64_1_0_2_3

/-- The zero that fills a pad. -/
def blank : FVec Ideal S_ .f32 := sitofp .f32 (constantI S_ 32 0#32)

/-- The cache with the new rows behind it, by group, filled up to 256 rows. -/
def filled (a : FVec Ideal S128x128x4x64 .f32) (n : FVec Ideal S128x4x4x64 .f32) : FVec Ideal S128x4x256x64 .bf16 :=
  truncf .bf16 (pad S128x4x256x64 ![0, 0, 0, 0] ![0, 0, 124, 0] ![0, 0, 0, 0] (transpose S128x4x132x64 [0, 2, 1, 3]
    (concatenate S128x132x4x64 1 [⟨S128x128x4x64, a⟩, ⟨S128x4x4x64, n⟩] concatenates_S128x128x4x64_S128x4x4x64_S128x132x4x64_d1)
    transposes_S128x132x4x64_S128x4x132x64_0_2_1_3) blank pads_S128x4x132x64_S128x4x256x64_000_000_01240_000 h_S_) bitsLt_bf16_f32

/-- The sinks, by group, for each step. -/
def sinks (z : FVec Ideal S16 .f32) : FVec Ideal S4x16x1 .f32 :=
  shapeCast S4x16x1 (broadcastInDim S4x4x4 ![0, 1, 2] bcast_S4x1x4_S4x4x4_0_1_2 (shapeCast S4x1x4 z shapeCasts_S16_S4x1x4)) shapeCasts_S4x4x4_S4x16x1

/-- How far a step lies ahead of the first key it no longer reads. -/
def ahead : IVec S4x256 32 :=
  addi (subi (iotaInDim S4x256 32 0) (iotaInDim S4x256 32 1)) (broadcastInDim S4x256 ![] bcast_S_S4x256 (constantI S_ 32 128#32))

/-- The keys within reach of each step. -/
def reach : IVec S1x4x256 1 :=
  broadcastInDim S1x4x256 ![1, 2] bcast_S4x256_S1x4x256_1_2
    (andi (cmpi .sge ahead (broadcastInDim S4x256 ![] bcast_S_S4x256 (constantI S_ 32 0#32)))
      (cmpi .slt ahead (broadcastInDim S4x256 ![] bcast_S_S4x256 (constantI S_ 32 128#32))))

/-- The bias where a key is in reach, minus infinity elsewhere. -/
def kept (w : IVec S1x4x256 1) (b : FVec Ideal S16x4x132 .f32) : FVec Ideal S16x4x256 .f32 :=
  select (broadcastInDim S16x4x256 ![0, 1, 2] bcast_S1x4x256_S16x4x256_0_1_2 w)
    (pad S16x4x256 ![0, 0, 0] ![0, 0, 124] ![0, 0, 0] b blank pads_S16x4x132_S16x4x256_000_000_01240 h_S_)
    (broadcastInDim S16x4x256 ![] bcast_S_S16x4x256 (id (constant S_ .f32 0xFF800000#32)))

/-- The score table, by group, then by step and head. -/
def table (t : FVec Ideal S16x4x256 .f32) : FVec Ideal S4x16x256 .f32 :=
  shapeCast S4x16x256 (transpose S4x4x4x256 [0, 2, 1, 3] (shapeCast S4x4x4x256 t shapeCasts_S16x4x256_S4x4x4x256)
    transposes_S4x4x4x256_S4x4x4x256_0_2_1_3) shapeCasts_S4x4x4x256_S4x16x256

theorem entry_q (c : Dev nD) : V m c main_v38 = queries (m ((c : Thread nD τ).loc main_arg0)) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_reads_simp
  rfl

theorem entry_k (c : Dev nD) : V m c main_v31
    = filled (m ((c : Thread nD τ).loc main_arg1)) (freshKeys (m ((c : Thread nD τ).loc main_arg0))) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_reads_simp
  rfl

theorem entry_v (c : Dev nD) : V m c main_v34
    = filled (m ((c : Thread nD τ).loc main_arg2)) (freshValues (m ((c : Thread nD τ).loc main_arg0))) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_reads_simp
  rfl

theorem entry_b (c : Dev nD) : V m c main_v15 = table (kept reach (m ((c : Thread nD τ).loc main_arg4))) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_reads_simp
  rfl

theorem entry_z (c : Dev nD) : V m c main_v37 = sinks (m ((c : Thread nD τ).loc main_arg3)) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_reads_simp
  rfl

theorem steps_at (x : FVec Ideal S512x1536 .f32) (j : Fin 4) (b : Fin 128) (l : Fin 1536) :
    steps x (ix3 j b l) = x (ix2 ⟨j.val * 128 + b.val, by omega⟩ l) := by
  pointwise [steps]

theorem queries_at (x : FVec Ideal S512x1536 .f32) (b : Fin 128) (g j e : Fin 4) (d : Fin 64) :
    queries x (ix4 b g ⟨j.val * 4 + e.val, by omega⟩ d) = x (ix2 ⟨j.val * 128 + b.val, by omega⟩ ⟨(g.val * 4 + e.val) * 64 + d.val, by omega⟩) := by
  rw [← steps_at x j b]
  unfold queries
  generalize steps x = y
  have h (u : FVec Ideal S4x128x4x4x64 .f32) : truncf .bf16 (shapeCast S128x4x16x64 (transpose S128x4x4x4x64 [1, 2, 0, 3, 4] u
      transposes_S4x128x4x4x64_S128x4x4x4x64_1_2_0_3_4) shapeCasts_S128x4x4x4x64_S128x4x16x64) bitsLt_bf16_f32
      (ix4 b g ⟨j.val * 4 + e.val, by omega⟩ d) = u (ix5 j b g e d) := by
    pointwise []
  rw [h]
  pointwise []
  exact congrArg y (congrArg (ix3 j b) (Fin.ext (by dsimp only; omega)))

theorem freshKeys_at (x : FVec Ideal S512x1536 .f32) (b : Fin 128) (j g : Fin 4) (d : Fin 64) :
    freshKeys x (ix4 b j g d) = x (ix2 ⟨j.val * 128 + b.val, by omega⟩ ⟨1024 + (g.val * 64 + d.val), by omega⟩) := by
  rw [← steps_at x j b]
  unfold freshKeys
  generalize steps x = y
  pointwise []

theorem freshValues_at (x : FVec Ideal S512x1536 .f32) (b : Fin 128) (j g : Fin 4) (d : Fin 64) :
    freshValues x (ix4 b j g d) = x (ix2 ⟨j.val * 128 + b.val, by omega⟩ ⟨1280 + (g.val * 64 + d.val), by omega⟩) := by
  rw [← steps_at x j b]
  unfold freshValues
  generalize steps x = y
  pointwise []

theorem blank_at (i : S_.Idx) : blank i = 0 := by
  have h : (0#32).toInt = 0 := by decide
  change (((0#32).toInt : ℝ) : EReal) = 0
  rw [h]; simp

theorem blank_eq : blank = fun _ => (0 : EReal) := funext blank_at

theorem filled_at (a : FVec Ideal S128x128x4x64 .f32) (n : FVec Ideal S128x4x4x64 .f32) (b : Fin 128) (g : Fin 4) (c : Fin 256) (d : Fin 64) :
    filled a n (ix4 b g c d) = if h : c.val < 132 then
      (if h' : c.val < 128 then a (ix4 b ⟨c.val, h'⟩ g d) else n (ix4 b ⟨c.val - 128, by omega⟩ g d)) else 0 := by
  have h (u : FVec Ideal S128x132x4x64 .f32) : truncf .bf16 (pad S128x4x256x64 ![0, 0, 0, 0] ![0, 0, 124, 0] ![0, 0, 0, 0]
      (transpose S128x4x132x64 [0, 2, 1, 3] u transposes_S128x132x4x64_S128x4x132x64_0_2_1_3) blank
      pads_S128x4x132x64_S128x4x256x64_000_000_01240_000 h_S_) bitsLt_bf16_f32 (ix4 b g c d)
      = if h : c.val < 132 then u (ix4 b ⟨c.val, h⟩ g d) else 0 := by
    rw [blank_eq]
    pointwise []
  unfold filled
  rw [h]
  by_cases hc : c.val < 132
  · rw [dif_pos hc, dif_pos hc]
    pointwise []
  · rw [dif_neg hc, dif_neg hc]

theorem sinks_at (z : FVec Ideal S16 .f32) (g j e : Fin 4) (i : Fin 1) :
    sinks z (ix3 g ⟨j.val * 4 + e.val, by omega⟩ i) = z (ix1 ⟨g.val * 4 + e.val, by omega⟩) := by
  pointwise [sinks]

theorem ahead_at (j : Fin 4) (c : Fin 256) : ahead (ix2 j c) = Cert.AttnWords.lag j.val c.val := by
  pointwise [ahead]

theorem reach_at (i : Fin 1) (j : Fin 4) (c : Fin 256) :
    reach (ix3 i j c) = 1#1 ↔ j.val < c.val ∧ c.val ≤ j.val + 128 := by
  rw [← Cert.AttnWords.near _ _ (by omega) c.isLt, ← ahead_at]
  unfold reach
  generalize ahead = d
  pointwise []

theorem kept_at (w : IVec S1x4x256 1) (b : FVec Ideal S16x4x132 .f32) (h : Fin 16) (j : Fin 4) (c : Fin 256) :
    kept w b (ix3 h j c) = if w (ix3 0 j c) = 1#1 then (if hc : c.val < 132 then b (ix3 h j ⟨c.val, hc⟩) else 0) else ⊥ := by
  unfold kept
  rw [blank_eq]
  pointwise []
  rw [← Cert.AttnSoft.minus_infinity]; rfl

theorem table_entry (t : FVec Ideal S16x4x256 .f32) (g j e : Fin 4) (c : Fin 256) :
    table t (ix3 g ⟨j.val * 4 + e.val, by omega⟩ c) = t (ix3 ⟨g.val * 4 + e.val, by omega⟩ j c) := by
  pointwise [table]

end Cert.AttnSIdeal.Closed
end
-- ==== Proof.AttnS.Final.lean ====
/-
  The sampled sequences' attention: the kernel's result array is the reference's attention of its arguments.
-/
module

public import proofs.«01_k».proof.Proof.AttnS.Ref
public import proofs.«01_k».proof.Proof.AttnS.Ker
public import proofs.«01_k».proof.Proof.AttnS.Host
public import proofs.«01_k».proof.Proof.AttnKer.Finite

@[expose] public section

set_option maxRecDepth 16384

noncomputable section

namespace Cert.AttnSIdeal.Closed

open Idealize.ShloMosaic Idealize.ShloMosaic.TcCoe Idealize.SL.Sem
open Idealize.ShloMosaic.Pipeline (Dat)
open Cert.AttnSIdeal Cert.AttnSIdeal.Gen
open Cert.AttnSoft (crest wide)
open Cert.AttnIdeal.Closed (IsReal isReal_of_below ne_top_of_below)
open Cert.AttnSRefIdeal.Parts (attention line newKeys newValues window gap)

variable (m : (ℓ : Loc nD τ sig) → Buf (Elt Ideal) ℓ)

/-! ## The arguments -/

/-- The new rows. -/
abbrev fresh (c : Dev nD) : FVec Ideal S512x1536 .f32 := m ((c : Thread nD τ).loc main_arg0)
/-- The cached keys. -/
abbrev keyCache (c : Dev nD) : FVec Ideal S128x128x4x64 .f32 := m ((c : Thread nD τ).loc main_arg1)
/-- The cached values. -/
abbrev valueCache (c : Dev nD) : FVec Ideal S128x128x4x64 .f32 := m ((c : Thread nD τ).loc main_arg2)
/-- The sinks. -/
abbrev sinkArg (c : Dev nD) : FVec Ideal S16 .f32 := m ((c : Thread nD τ).loc main_arg3)
/-- The bias. -/
abbrev biasArg (c : Dev nD) : FVec Ideal S16x4x132 .f32 := m ((c : Thread nD τ).loc main_arg4)

/-- The precondition, element by element. -/
theorem opened [Cert.Pre_finite_sample.Facts] (x : FVec Ideal S512x1536 .f32) (k v : FVec Ideal S128x128x4x64 .f32) (z : FVec Ideal S16 .f32)
    (b : FVec Ideal S16x4x132 .f32) (h : Cert.Pre_finite_sample.fn (F := Ideal) x k v z b = fun _ => 1#1) :
    (∀ (r : Fin 512) (j : Fin 1280), IsReal (x (ix2 r ⟨j.val, by omega⟩))) ∧ (∀ i, IsReal (k i)) ∧ (∀ i, IsReal (z i)) ∧ ∀ i, b i ≠ ⊤ := by
  have h0 := congrFun h (fun a => a.elim0)
  unfold Cert.Pre_finite_sample.fn Cert.Pre_finite_sample.fn_part1 at h0
  dsimp only at h0
  obtain ⟨h1, hb⟩ := IntOp.andi_eq_one.1 h0
  obtain ⟨h2, hz⟩ := IntOp.andi_eq_one.1 h1
  obtain ⟨hx, hk⟩ := IntOp.andi_eq_one.1 h2
  haveI : Subsingleton Cert.Pre_finite_sample.S_.Idx := ⟨fun a b => funext fun i => i.elim0⟩
  refine ⟨fun r j => ?_, fun i => isReal_of_below _ (Host.reduce_andi_all _ _ _ _ _ hk i),
    fun i => isReal_of_below _ (Host.reduce_andi_all _ _ _ _ _ hz i), fun i => ne_top_of_below _ (Host.reduce_andi_all _ _ _ _ _ hb i)⟩
  have hr := isReal_of_below _ (Host.reduce_andi_all _ _ _ _ _ hx (ix2 r j))
  have e : extractStridedSlice Cert.Pre_finite_sample.S512x1280 ![0, 0] x
      Cert.Pre_finite_sample.Facts.slices_S512x1536_S512x1280_0_0 (ix2 r j) = x (ix2 r ⟨j.val, by omega⟩) := by
    pointwise []
  rw [← e]
  exact hr

/-! ## The blocks of a step -/

/-- Where each window's block lies at step `t`: sequences `8 t` to `8 t + 7`. -/
theorem place : ∀ t : Fin cfg0.N, win0_0.index t = ![t.val, 0, 0, 0] ∧ win0_1.index t = ![t.val, 0, 0, 0] ∧ win0_2.index t = ![t.val, 0, 0, 0]
    ∧ win0_3.index t = ![0, 0, 0] ∧ win0_4.index t = ![0, 0, 0] ∧ win0_5.index t = ![t.val, 0, 0, 0] :=
  (by decide +kernel : ∀ t : Fin grid0.N, _)

/-- The sequence at place `i` of step `t`. -/
def seqAt (t : Fin cfg0.N) (i : Fin 8) : Fin 128 := ⟨t.val * 8 + i.val, by have : t.val < 16 := t.isLt; omega⟩

variable (c : Dev nD) (t : Fin cfg0.N)

theorem q_blk (i : Fin 8) (g : Fin 4) (r : Fin 16) (d : Fin 64) :
    iblk m c 0 t (ix4 i g r d) = V m c main_v38 (ix4 (seqAt t i) g r d) := by
  unfold seqAt
  blk_point [iblk, place t]

theorem k_blk (i : Fin 8) (g : Fin 4) (k : Fin 256) (d : Fin 64) :
    iblk m c 1 t (ix4 i g k d) = V m c main_v31 (ix4 (seqAt t i) g k d) := by
  unfold seqAt
  blk_point [iblk, place t]

theorem v_blk (i : Fin 8) (g : Fin 4) (k : Fin 256) (d : Fin 64) :
    iblk m c 2 t (ix4 i g k d) = V m c main_v34 (ix4 (seqAt t i) g k d) := by
  unfold seqAt
  blk_point [iblk, place t]

theorem b_blk (g : Fin 4) (r : Fin 16) (k : Fin 256) : iblk m c 3 t (ix3 g r k) = V m c main_v15 (ix3 g r k) := by
  blk_point [iblk, place t]

theorem z_blk (g : Fin 4) (r : Fin 16) (i : Fin 1) : iblk m c 4 t (ix3 g r i) = V m c main_v37 (ix3 g r i) := by
  blk_point [iblk, place t]

/-! ## Keys and values of both sides -/

theorem freshKeys_eq (x : FVec Ideal S512x1536 .f32) (b : Fin 128) (j g : Fin 4) (d : Fin 64) :
    freshKeys x (ix4 b j g d) = newKeys (Cert.AttnSRefIdeal.Parts.rows x) (ix4 b j g d) := by
  rw [freshKeys_at, Cert.AttnSRefIdeal.Parts.newKeys_at, Cert.AttnSRefIdeal.Parts.rows_at]

theorem freshValues_eq (x : FVec Ideal S512x1536 .f32) (b : Fin 128) (j g : Fin 4) (d : Fin 64) :
    freshValues x (ix4 b j g d) = newValues (Cert.AttnSRefIdeal.Parts.rows x) (ix4 b j g d) := by
  rw [freshValues_at, Cert.AttnSRefIdeal.Parts.newValues_at, Cert.AttnSRefIdeal.Parts.rows_at]

theorem filled_wide (a : FVec Ideal S128x128x4x64 .f32) (n n' : FVec Ideal S128x4x4x64 .f32)
    (h : ∀ (b : Fin 128) (j g : Fin 4) (d : Fin 64), n (ix4 b j g d) = n' (ix4 b j g d)) (b : Fin 128) (g : Fin 4) (k : Fin 132) (d : Fin 64) :
    filled a n (ix4 b g (wide k) d) = line a n' (ix4 b k g d) := by
  rw [filled_at, dif_pos (show (wide k).val < 132 from k.isLt), Cert.AttnSRefIdeal.Parts.line_at]
  by_cases hk : k.val < 128
  · rw [dif_pos (show (wide k).val < 128 from hk), dif_pos hk]
    rfl
  · rw [dif_neg (show ¬(wide k).val < 128 from hk), dif_neg hk]
    exact h _ _ _ _

theorem filled_real (a : FVec Ideal S128x128x4x64 .f32) (n : FVec Ideal S128x4x4x64 .f32) (ha : ∀ i, IsReal (a i))
    (hn : ∀ (b : Fin 128) (j g : Fin 4) (d : Fin 64), IsReal (n (ix4 b j g d))) (b : Fin 128) (g : Fin 4) (k : Fin 256) (d : Fin 64) :
    IsReal (filled a n (ix4 b g k d)) := by
  rw [filled_at]
  split
  · split
    · exact ha _
    · exact hn _ _ _ _
  · exact IsReal.zero

/-! ## Scores -/

/-- The score of a step's row against a key. -/
def score (i : Fin 8) (g : Fin 4) (r : Fin 16) (k : Fin 256) : EReal :=
  k0_pay3 (F := Ideal) (iblk m c 0 t) (iblk m c 1 t) (iblk m c 3 t) (ix4 i g r k)

theorem score_eq (i : Fin 8) (g j e : Fin 4) (k : Fin 256) :
    score m c t i g ⟨j.val * 4 + e.val, by omega⟩ k
      = (∑ d, queries (fresh m c) (ix4 (seqAt t i) g ⟨j.val * 4 + e.val, by omega⟩ d)
          * filled (keyCache m c) (freshKeys (fresh m c)) (ix4 (seqAt t i) g k d)) * Ideal.ofBits .f32 0x3E000000#32
        + kept reach (biasArg m c) (ix3 ⟨g.val * 4 + e.val, by omega⟩ j k) := by
  unfold score
  rw [score_at, b_blk, entry_b, table_entry]
  refine congrArg (fun s => s * _ + _) (Finset.sum_congr rfl fun d _ => ?_)
  rw [q_blk, entry_q, k_blk, entry_k]

theorem score_off (i : Fin 8) (g j e : Fin 4) (k : Fin 256) (h : ¬(j.val < k.val ∧ k.val ≤ j.val + 128)) :
    score m c t i g ⟨j.val * 4 + e.val, by omega⟩ k = ⊥ := by
  rw [score_eq, kept_at, if_neg fun hr => h ((reach_at 0 j k).1 hr)]
  exact EReal.add_bot _

theorem score_ne_top (hx : ∀ (r : Fin 512) (j : Fin 1280), IsReal (fresh m c (ix2 r ⟨j.val, by omega⟩))) (hk : ∀ i, IsReal (keyCache m c i))
    (hb : ∀ i, biasArg m c i ≠ ⊤) (i : Fin 8) (g j e : Fin 4) (k : Fin 256) : score m c t i g ⟨j.val * 4 + e.val, by omega⟩ k ≠ ⊤ := by
  by_cases h : j.val < k.val ∧ k.val ≤ j.val + 128
  · rw [score_eq, kept_at, if_pos ((reach_at 0 j k).2 h), dif_pos (show k.val < 132 by omega), Cert.AttnSoft.eighth]
    refine IsReal.add_ne_top (IsReal.mul (IsReal.sum _ fun d => IsReal.mul ?_ ?_) ⟨_, rfl⟩) (hb _)
    · rw [queries_at]; exact hx _ ⟨_, by omega⟩
    · exact filled_real _ _ hk (fun b j g d => by rw [freshKeys_at]; exact hx _ ⟨_, by omega⟩) _ _ _ _
  · rw [score_off m c t i g j e k h]
    exact bot_ne_top

theorem score_ref (i : Fin 8) (g j e : Fin 4) (k : Fin 132) :
    Cert.AttnSRefIdeal.Parts.scores (Cert.AttnSRefIdeal.Parts.queries (Cert.AttnSRefIdeal.Parts.rows (fresh m c)))
        (line (keyCache m c) (newKeys (Cert.AttnSRefIdeal.Parts.rows (fresh m c)))) (biasArg m c) (window gap) (ix6 (seqAt t i) 0 g e j k)
      = score m c t i g ⟨j.val * 4 + e.val, by omega⟩ (wide k) := by
  rw [Cert.AttnSRefIdeal.Parts.scores_at]
  by_cases h : j.val < k.val ∧ k.val ≤ j.val + 128
  · rw [if_pos ((Cert.AttnSRefIdeal.Parts.window_iff 0 j k).2 h), score_eq, kept_at, if_pos ((reach_at 0 j (wide k)).2 h),
      dif_pos (show (wide k).val < 132 from k.isLt)]
    refine congrArg (fun s => s * _ + _) (Finset.sum_congr rfl fun d _ => ?_)
    rw [filled_wide _ _ _ (freshKeys_eq (fresh m c)), queries_at, Cert.AttnSRefIdeal.Parts.queries_at, Cert.AttnSRefIdeal.Parts.rows_at]
    exact mul_comm _ _
  · rw [if_neg fun hr => h ((Cert.AttnSRefIdeal.Parts.window_iff 0 j k).1 hr), score_off m c t i g j e (wide k) h]

/-! ## The result -/

theorem value_eq (i : Fin 8) (g : Fin 4) (k : Fin 256) (d : Fin 64) :
    iblk m c 2 t (ix4 i g k d) = filled (valueCache m c) (freshValues (fresh m c)) (ix4 (seqAt t i) g k d) := by
  rw [v_blk, entry_v]

theorem sink_eq (g j e : Fin 4) : iblk m c 4 t (ix3 g ⟨j.val * 4 + e.val, by omega⟩ 0) = sinkArg m c (ix1 ⟨g.val * 4 + e.val, by omega⟩) := by
  rw [z_blk, entry_z, sinks_at]

/-- One stored element. -/
theorem tile (hx : ∀ (r : Fin 512) (j : Fin 1280), IsReal (fresh m c (ix2 r ⟨j.val, by omega⟩))) (hk : ∀ i, IsReal (keyCache m c i))
    (hz : ∀ i, IsReal (sinkArg m c i)) (hb : ∀ i, biasArg m c i ≠ ⊤) (i : Fin 8) (g j e : Fin 4) (d : Fin 64) :
    stored (iblk m c 0 t) (iblk m c 1 t) (iblk m c 2 t) (iblk m c 3 t) (iblk m c 4 t) (ix4 i g ⟨j.val * 4 + e.val, by omega⟩ d)
      = attention (fresh m c) (keyCache m c) (valueCache m c) (sinkArg m c) (biasArg m c)
          (ix4 (seqAt t i) g ⟨j.val * 4 + e.val, by omega⟩ d) := by
  rw [stored_at _ _ _ _ _ i g ⟨j.val * 4 + e.val, by omega⟩ d (score m c t i g ⟨j.val * 4 + e.val, by omega⟩) (fun _ => rfl)
    (sinkArg m c (ix1 ⟨g.val * 4 + e.val, by omega⟩)) (sink_eq m c t g j e)
    (fun k => filled (valueCache m c) (freshValues (fresh m c)) (ix4 (seqAt t i) g k d)) (fun k => value_eq m c t i g k d)]
  have hw (k : Fin 132) := filled_wide (valueCache m c) _ _ (freshValues_eq (fresh m c)) (seqAt t i) g k d
  refine (Cert.AttnSoft.soft_wide (score m c t i g ⟨j.val * 4 + e.val, by omega⟩) (sinkArg m c (ix1 ⟨g.val * 4 + e.val, by omega⟩)) _
    (fun k => line (valueCache m c) (newValues (Cert.AttnSRefIdeal.Parts.rows (fresh m c))) (ix4 (seqAt t i) k g d))
    (score_ne_top m c t hx hk hb i g j e) (hz _).ne_top (hz _).ne_bot
    hw (fun k h => score_off m c t i g j e k (by omega))).trans ?_
  unfold attention
  rw [Cert.AttnSRefIdeal.Parts.laid_at, Cert.AttnSRefIdeal.Parts.blend_at]
  refine Finset.sum_congr rfl fun k _ => ?_
  rw [Cert.AttnSRefIdeal.Parts.weights_at _ _ (seqAt t i) g e j k _ (score_ref m c t i g j e) _ rfl]

/-- The result array after the run. -/
theorem final [Cert.Pre_finite_sample.Facts] (hp : Pre_AttnSIdeal_finite_sample m) : (dats m 0 c).arrAt 5 cfg0.N
    = attention (m ((c : Thread nD τ).loc main_arg0)) (m ((c : Thread nD τ).loc main_arg1)) (m ((c : Thread nD τ).loc main_arg2))
        (m ((c : Thread nD τ).loc main_arg3)) (m ((c : Thread nD τ).loc main_arg4)) := by
  obtain ⟨hx, hk, hz, hb⟩ := opened _ _ _ _ _ (hp c)
  refine (dats m 0 c).arrAt_eq_of_covers 5 _ (by decide +kernel) fun t _ y => ?_
  blk_simp
  rw [after0_5, out_stored]
  obtain ⟨i, g, r, d, rfl⟩ : ∃ (i : Fin 8) (g : Fin 4) (r : Fin 16) (d : Fin 64), y = ix4 i g r d :=
    ⟨y 0, y 1, y 2, y 3, by funext a; fin_cases a <;> rfl⟩
  obtain ⟨j, e, rfl⟩ : ∃ j e : Fin 4, r = ⟨j.val * 4 + e.val, by omega⟩ :=
    ⟨⟨r.val / 4, by omega⟩, ⟨r.val % 4, by omega⟩, Fin.ext (by dsimp only; omega)⟩
  refine (tile m c t hx hk hz hb i g j e d).trans ?_
  generalize attention (fresh m c) (keyCache m c) (valueCache m c) (sinkArg m c) (biasArg m c) = A
  unfold seqAt
  blk_point [place t]

end Cert.AttnSIdeal.Closed
end
-- ==== Proof.Bias.lean ====
/-
  The bias table: for each head, the chain of selections over the buckets picks the head's bias of the row's bucket.
-/
module

public import proofs.«01_k».proof.Proof.Gen.BiasIdeal.Value
public import Idealize.ShloMosaic.Lib.Pipeline.ValueKit
public import Idealize.ShloMosaic.Lib.ValueLayout

@[expose] public section

set_option maxRecDepth 16384

noncomputable section

namespace Cert.BiasIdeal.Closed

open Idealize.ShloMosaic Idealize.ShloMosaic.TcCoe Idealize.SL.Sem
open Idealize.ShloMosaic.Pipeline (Dat)
open Cert.BiasIdeal Cert.BiasIdeal.Gen

variable (m : (ℓ : Loc nD τ sig) → Buf (Elt Ideal) ℓ)

/-- What the first `n` selections leave for a row whose bucket is `b`, when bucket `k` would bring `f k`. -/
def chain (b : BitVec 32) (f : Nat → EReal) : Nat → EReal
  | 0 => Scalar.ofBits (F := Ideal) .f32 0xF149F2CA#32
  | n + 1 => Scalar.select (Scalar.cmpi .eq b (BitVec.ofNat 32 n)) (f n) (chain b f n)

/-- The one entry of the table the kernel reads for bucket `k` and head `h`, at any pair of numbers. -/
def entry (X : FVec Ideal S32x16 .f32) (h k : Nat) : EReal :=
  if hk : k < 32 ∧ h < 16 then X (ix2 ⟨k, hk.1⟩ ⟨h, hk.2⟩) else 0

/-- The table as the selections leave it. -/
def chained (X : FVec Ideal S32x16 .f32) (B : IVec S256x256 32) : FVec Ideal S16x256x256 .f32 :=
  fun y => chain (B (ix2 (y 1) (y 2))) (entry X (y 0).val) 32

/-- A load of one entry. -/
theorem one (X : S32x16.Idx → Elt Ideal .f32) (off size : Fin S32x16.rank → Nat) (inb : ∀ a, off a + size a ≤ S32x16.size a)
    (x : (Rect.unit off size inb).shape.Idx) (z : ∀ a, (x a).val = 0) :
    View.ld X (Rect.unit off size inb) x = entry X (off 1) (off 0) := by
  have hk : off 0 < 32 ∧ off 1 < 16 := by
    have l0 : (x 0).val < size 0 := (x 0).isLt
    have l1 : (x 1).val < size 1 := (x 1).isLt
    have h0 : off 0 + size 0 ≤ 32 := inb 0
    have h1 : off 1 + size 1 ≤ 16 := inb 1
    omega
  unfold entry
  rw [dif_pos hk]
  refine congrArg X (funext fun a => Fin.ext ?_)
  rw [Rect.idx_unit_val, z, Nat.add_zero]
  fin_cases a
  · rfl
  · rfl

/-- The load for bucket `k`, as the body writes it. -/
def got (X : S32x16.Idx → Elt Ideal .f32) (h : Nat) (hh : h < 16) (k : Nat) : EReal :=
  View.ld X (Rect.unit (s := S32x16) ![k % 32, h] ![1, 1] (fun a => by
    have := Nat.mod_lt k (show 0 < 32 by omega)
    fin_cases a
    · show k % 32 + 1 ≤ 32
      omega
    · show h + 1 ≤ 16
      omega)) (Shape.Idx.first (show 0 < S1x1.numel by decide))

/-- The load for a bucket of the table is its entry. -/
theorem got_eq (X : S32x16.Idx → Elt Ideal .f32) (h : Nat) (hh : h < 16) (k : Nat) (hk : k < 32) : got X h hh k = entry X h k := by
  refine (one X _ _ _ _ fun a => ?_).trans ?_
  · fin_cases a <;> rfl
  · show entry X h (k % 32) = _
    rw [Nat.mod_eq_of_lt hk]

/-- The selections read only the buckets below their number. -/
theorem chain_congr (b : BitVec 32) (f g : Nat → EReal) : ∀ n, (∀ k, k < n → f k = g k) → chain b f n = chain b g n
  | 0, _ => rfl
  | n + 1, e => by
    unfold chain
    rw [e n (Nat.lt_succ_self n), chain_congr b f g n fun k hk => e k (by omega)]

/-- One stored page. -/
theorem page (X : FVec Ideal S32x16 .f32) (B : IVec S256x256 32) (h : Nat)
    (inb : ∀ a, (![h, 0, 0] : Fin 3 → Nat) a + (![1, 256, 256] : Fin 3 → Nat) a ≤ S16x256x256.size a)
    (w : FVec Ideal S256x256 .f32) (hc : S256x256.ShapeCasts S1x256x256) (hh : h < 16)
    (hw : ∀ i, w i = chain (B i) (got X h hh) 32) (x : S1x256x256.Idx) :
    shapeCast S1x256x256 w hc x = chained X B ((Rect.unit (s := S16x256x256) ![h, 0, 0] ![1, 256, 256] inb).emb x) := by
  have x0 : (x 0).val = 0 := by have : (x 0).val < 1 := (x 0).isLt; omega
  have e : x = (ix3 (0 : Fin 1) (x 1 : Fin 256) (x 2 : Fin 256) : S1x256x256.Idx) := by
    funext a
    fin_cases a
    · exact Fin.ext x0
    · rfl
    · rfl
  have key : ∀ i j : Fin 256, shapeCast S1x256x256 w hc (ix3 (0 : Fin 1) i j : S1x256x256.Idx) = w (ix2 i j : S256x256.Idx) := by
    intro i j
    pointwise []
  have y0 : ((Rect.unit (s := S16x256x256) ![h, 0, 0] ![1, 256, 256] inb).emb x 0).val = h := by
    show h + 1 * (x 0).val = h
    omega
  have y1 : (Rect.unit (s := S16x256x256) ![h, 0, 0] ![1, 256, 256] inb).emb x 1 = (x 1 : Fin 256) := Fin.ext (by show 0 + 1 * (x 1).val = _; omega)
  have y2 : (Rect.unit (s := S16x256x256) ![h, 0, 0] ![1, 256, 256] inb).emb x 2 = (x 2 : Fin 256) := Fin.ext (by show 0 + 1 * (x 2).val = _; omega)
  unfold chained
  rw [y0, y1, y2]
  exact (congrArg _ e).trans ((key _ _).trans ((hw _).trans (chain_congr _ _ _ _ (got_eq X h hh))))

set_option maxHeartbeats 4000000 in
/-- Every page the body stores is the table's. -/
theorem pages (c : Dev nD) (arg0 : Memref sig .tc .smem S32x16 .f32) (harg0 : arg0.IsWhole) (arg1 : Memref sig .tc .vmem S256x256 .i32)
    (harg1 : arg1.IsWhole) (arg2 : Memref sig .tc .vmem S16x256x256 .f32) (harg2 : arg2.IsWhole)
    (X : FVec Ideal S32x16 .f32) (B : IVec S256x256 32) :
    ∀ p ∈ (kernelRun0_A (F := Ideal) c arg0 harg0 arg1 harg1 arg2 harg2 X B).1, ∀ x, p.2 x = chained X B (p.1.emb x) := by
  frame_out
  simp only [List.forall_mem_cons]
  refine ⟨?_, ?_, ?_, ?_, ?_, ?_, ?_, ?_, ?_, ?_, ?_, ?_, ?_, ?_, ?_, ?_, fun _ h => absurd h List.not_mem_nil⟩
  all_goals exact fun x => page X B _ _ _ _ (by decide) (fun i => rfl) x

/-- Every block is a whole array. -/
theorem place : ∀ t : Fin cfg0.N, win0_0.index t = ![0, 0] ∧ win0_1.index t = ![0, 0] ∧ win0_2.index t = ![0, 0, 0] :=
  (by decide +kernel : ∀ t : Fin grid0.N, _)

/-- The table's block is the table. -/
theorem table_blk (c : Dev nD) (t : Fin cfg0.N) (i : Fin 32) (j : Fin 16) :
    iblk m c 0 t (ix2 i j) = m ((c : Thread nD τ).loc main_arg0) (ix2 i j) := by
  blk_point [iblk, V, place t]

/-- The buckets' block is the buckets. -/
theorem bucket_blk (c : Dev nD) (t : Fin cfg0.N) (i j : Fin 256) :
    iblk m c 1 t (ix2 i j) = m ((c : Thread nD τ).loc main_arg1) (ix2 i j) := by
  blk_point [iblk, V, place t]

/-- The result array, as the selections leave it. -/
theorem final_chained (c : Dev nD) : (dats m 0 c).arrAt 2 cfg0.N
    = chained (m ((c : Thread nD τ).loc main_arg0)) (m ((c : Thread nD τ).loc main_arg1)) := by
  refine (dats m 0 c).arrAt_eq_of_covers 2 _ (by decide +kernel) fun t _ y => ?_
  blk_simp
  rw [after0_2]
  unfold outsAt0 out0_A_2
  rw [View.read_writes_junk_eq_canon,
    View.canon_apply_of_pieces _ _ (pages c _ _ _ _ _ _ _ _) y (cover0_A_2 c _ _ _ _ _ _ _ _ y)]
  have e0 : (iblk m c 0 t : FVec Ideal S32x16 .f32) = m ((c : Thread nD τ).loc main_arg0) := by
    funext i
    rw [show i = (ix2 (i 0 : Fin 32) (i 1 : Fin 16) : S32x16.Idx) from by funext a; fin_cases a <;> rfl]
    exact table_blk m c t _ _
  have e1 : (iblk m c 1 t : IVec S256x256 32) = m ((c : Thread nD τ).loc main_arg1) := by
    funext i
    rw [show i = (ix2 (i 0 : Fin 256) (i 1 : Fin 256) : S256x256.Idx) from by funext a; fin_cases a <;> rfl]
    exact bucket_blk m c t _ _
  have e2 : (win0_2.blk t).view.emb y = y := by
    blk_point [place t]
  rw [e2]
  exact congrArg₂ (fun X B => chained X B y) e0 e1

/-- The selections find the bucket's entry, and leave the literal where there is none. -/
theorem chain_eq (b : BitVec 32) (f : Nat → EReal) : ∀ n, n ≤ 32 →
    chain b f n = if b.toNat < n then f b.toNat else Scalar.ofBits (F := Ideal) .f32 0xF149F2CA#32
  | 0, _ => by simp [chain]
  | n + 1, hn => by
    unfold chain
    rw [chain_eq b f n (by omega)]
    by_cases h : b.toNat = n
    · have e : b = BitVec.ofNat 32 n := by rw [← h]; simp
      have hs : Scalar.cmpi .eq b (BitVec.ofNat 32 n) = 1#1 := by rw [← e]; simp [Scalar.cmpi, IntOp.cmpi]
      rw [hs, h, if_pos (Nat.lt_succ_self n)]
      rfl
    · have e : b ≠ BitVec.ofNat 32 n := fun e => h (by rw [e]; simp; omega)
      have hs : Scalar.cmpi .eq b (BitVec.ofNat 32 n) = 0#1 := by simp [Scalar.cmpi, IntOp.cmpi, beq_eq_false_iff_ne.2 e]
      rw [hs]
      have hi : (b.toNat < n + 1) = (b.toNat < n) := by simp; omega
      simp only [hi]
      rfl

end Cert.BiasIdeal.Closed

end
-- ==== Proof.BiasRef.lean ====
/-
  The bias table of the reference: the row taken for a bucket, masked, is what the selections leave.
-/
module

public import proofs.«01_k».proof.Proof.Gen.BiasRefIdeal.Run
public import proofs.«01_k».proof.Proof.Gen.Pre_known_buckets
public import proofs.«01_k».proof.Proof.Bias
public import Idealize.ShloMosaic.Lib.ReduceAll
public import Idealize.ShloMosaic.Lib.WordCmp
public import Idealize.ShloMosaic.Lib.ValueLayout

@[expose] public section

noncomputable section

namespace Cert.BiasIdeal.Closed

open Idealize.ShloMosaic Idealize.ShloMosaic.TcCoe Idealize.SL.Sem
open Cert.BiasRefIdeal Cert.BiasRefIdeal.Gen

/-- The rows the reference takes, at one element. -/
theorem rows (X : FVec Ideal S32x16 .f32) (idx : IVec S256x256x1 32) (p q : Fin 256) (j : Fin 16) (k : Fin 32)
    (hk : (idx (ix3 p q (0 : Fin 1))).toInt.toNat = k.val) :
    Host.gather gather_S32x16_S256x256x1_S256x256x16_2_0_n_n_0_2_116 X idx (ix3 p q j) = X (ix2 k j) := by
  unfold Host.gather
  refine congrArg X (funext fun a => Fin.ext ?_)
  have s0 : ∀ u, gather_S32x16_S256x256x1_S256x256x16_2_0_n_n_0_2_116.siIdx (ix3 p q j) u = ix3 p q (0 : Fin 1) := by
    intro u
    funext b
    fin_cases b
    · rfl
    · rfl
    · exact Subsingleton.elim (α := Fin 1) _ _
  fin_cases a
  · show min (idx (gather_S32x16_S256x256x1_S256x256x16_2_0_n_n_0_2_116.siIdx (ix3 p q j) ⟨0, by decide⟩)).toInt.toNat 31 + 0 + 0 = k.val
    rw [s0, hk]
    omega
  · show 0 + 0 + j.val = j.val
    omega

/-- The rows' numbers as the reference takes them: a negative bucket counts from the end. -/
def rowsOf (B : IVec S256x256 32) : IVec S256x256x1 32 :=
  broadcastInDim S256x256x1 ![0, 1] bcast_S256x256_S256x256x1_0_1 (select (cmpi .slt B (broadcastInDim S256x256 ![] bcast_S_S256x256 (constantI S_ 32 0#32))) (addi B (broadcastInDim S256x256 ![] bcast_S_S256x256 (constantI S_ 32 32#32))) B)

/-- Which rows' numbers lie in the table. -/
def within (B : IVec S256x256 32) : IVec S256x256x1 1 :=
  andi (cmpi .sge (rowsOf B) (broadcastInDim S256x256x1 ![] bcast_S_S256x256x1 (constantI S_ 32 0#32))) (cmpi .sle (rowsOf B) (broadcastInDim S256x256x1 ![0, 1, 2] bcast_S1x1x1_S256x256x1_0_1_2 (broadcastInDim S1x1x1 ![2] bcast_S1_S1x1x1_2 (constantI S1 32 31#32))))

/-- The rows the reference takes, with the literal for a missing row. -/
def taken (X : FVec Ideal S32x16 .f32) (B : IVec S256x256 32) : FVec Ideal S256x256x16 .f32 :=
  select (broadcastInDim S256x256x16 ![0, 1] bcast_S256x256_S256x256x16_0_1 (Host.reduce IntOp.andi (within B) (constantI S_ 1 1#1) reducesTo_S256x256x1_S256x256_d2 h_S_)) (Host.gather gather_S32x16_S256x256x1_S256x256x16_2_0_n_n_0_2_116 X (rowsOf B)) (broadcastInDim S256x256x16 ![] bcast_S_S256x256x16 (constant S_ .f32 0x7FC00000#32))

/-- The reference's table. -/
def want (X : FVec Ideal S32x16 .f32) (B : IVec S256x256 32) : FVec Ideal S16x256x256 .f32 :=
  select (broadcastInDim S16x256x256 ![0, 1, 2] bcast_S1x256x256_S16x256x256_0_1_2 (broadcastInDim S1x256x256 ![1, 2] bcast_S256x256_S1x256x256_1_2 (cmpi .sge B (broadcastInDim S256x256 ![] bcast_S_S256x256 (constantI S_ 32 0#32))))) (transpose S16x256x256 [2, 0, 1] (taken X B) transposes_S256x256x16_S16x256x256_2_0_1) (broadcastInDim S16x256x256 ![] bcast_S_S16x256x256 (id (constant S_ .f32 0xF149F2CA#32)))

/-- A bucket that is not negative is its own row's number. -/
theorem rowsOf_eq (B : IVec S256x256 32) (p q : Fin 256) (h0 : 0 ≤ (B (ix2 p q)).toInt) : rowsOf B (ix3 p q (0 : Fin 1)) = B (ix2 p q) := by
  have e : rowsOf B (ix3 p q (0 : Fin 1)) = Scalar.select (IntOp.cmpi .slt (B (ix2 p q)) 0#32) (IntOp.addi (B (ix2 p q)) 32#32) (B (ix2 p q)) := by
    pointwise [rowsOf]
  rw [e, WordCmp.cmpi_slt_eq, decide_eq_false (by simpa using h0)]
  rfl

/-- A known bucket's row lies in the table. -/
theorem within_eq (B : IVec S256x256 32) (p q : Fin 256) (h0 : 0 ≤ (B (ix2 p q)).toInt) (h1 : (B (ix2 p q)).toInt < 32) :
    within B (ix3 p q (0 : Fin 1)) = 1#1 := by
  have e : within B (ix3 p q (0 : Fin 1)) = IntOp.andi (IntOp.cmpi .sge (rowsOf B (ix3 p q (0 : Fin 1))) 0#32) (IntOp.cmpi .sle (rowsOf B (ix3 p q (0 : Fin 1))) 31#32) := by
    pointwise [within]
  rw [e, rowsOf_eq B p q h0, WordCmp.cmpi_sge_eq, WordCmp.cmpi_sle_eq, decide_eq_true (by simpa using h0),
    decide_eq_true (by show _ ≤ (31 : Int); omega)]
  rfl

/-- The mask over the one column of row numbers. -/
theorem mask_eq (B : IVec S256x256 32) (p q : Fin 256) (h0 : 0 ≤ (B (ix2 p q)).toInt) (h1 : (B (ix2 p q)).toInt < 32) :
    Host.reduce IntOp.andi (within B) (constantI S_ 1 1#1) reducesTo_S256x256x1_S256x256_d2 h_S_ (ix2 p q) = 1#1 := by
  rw [Host.reduce_eq_foldl]
  refine IntOp.foldl_andi_one _ _ _ rfl fun n hn => ?_
  have hd : reducesTo_S256x256x1_S256x256_d2.drop n = ix2 p q := by simpa using (List.mem_filter.1 hn).2
  have hp : n 0 = p := congrFun hd 0
  have hq : n 1 = q := congrFun hd 1
  have en : n = ix3 p q (0 : Fin 1) := by
    funext a
    fin_cases a
    · exact hp
    · exact hq
    · exact Subsingleton.elim (α := Fin 1) _ _
  rw [en]
  exact within_eq B p q h0 h1

/-- The reference's table at one element, when the bucket is below the number of buckets. -/
theorem want_eq (X : FVec Ideal S32x16 .f32) (B : IVec S256x256 32) (h : Fin 16) (p q : Fin 256) (h1 : (B (ix2 p q)).toInt < 32) :
    want X B (ix3 h p q) = if (B (ix2 p q)).toNat < 32 then entry X h.val (B (ix2 p q)).toNat else Scalar.ofBits (F := Ideal) .f32 0xF149F2CA#32 := by
  have e : want X B (ix3 h p q) = Scalar.select (IntOp.cmpi .sge (B (ix2 p q)) 0#32) (taken X B (ix3 p q h)) (Scalar.ofBits (F := Ideal) .f32 0xF149F2CA#32) := by
    pointwise [want]
    rfl
  rw [e, WordCmp.cmpi_sge_eq]
  by_cases h0 : 0 ≤ (B (ix2 p q)).toInt
  · have hn : (B (ix2 p q)).toNat < 32 := by
      have := BitVec.toInt_eq_toNat_cond (B (ix2 p q))
      have := (B (ix2 p q)).isLt
      split at * <;> omega
    have ht : (B (ix2 p q)).toInt.toNat = (B (ix2 p q)).toNat := by
      have := BitVec.toInt_eq_toNat_cond (B (ix2 p q))
      have := (B (ix2 p q)).isLt
      split at * <;> omega
    have et : taken X B (ix3 p q h) = Scalar.select (Host.reduce IntOp.andi (within B) (constantI S_ 1 1#1) reducesTo_S256x256x1_S256x256_d2 h_S_ (ix2 p q))
        (Host.gather gather_S32x16_S256x256x1_S256x256x16_2_0_n_n_0_2_116 X (rowsOf B) (ix3 p q h)) (Scalar.ofBits (F := Ideal) .f32 0x7FC00000#32) := by
      pointwise [taken]
    rw [decide_eq_true (by simpa using h0), et, mask_eq B p q h0 h1,
      rows X (rowsOf B) p q h ⟨_, hn⟩ (by rw [rowsOf_eq B p q h0]; exact ht), if_pos hn]
    unfold entry
    rw [dif_pos ⟨hn, h.isLt⟩]
    rfl
  · have hn : ¬ (B (ix2 p q)).toNat < 32 := by
      have := BitVec.toInt_eq_toNat_cond (B (ix2 p q))
      have := (B (ix2 p q)).isLt
      split at * <;> omega
    rw [decide_eq_false (by simpa using h0), if_neg hn]
    rfl

/-- The kernel's table is the reference's, when every bucket is below the number of buckets. -/
theorem final (m : (ℓ : Loc Cert.BiasIdeal.nD Cert.BiasIdeal.τ Cert.BiasIdeal.sig) → Buf (Elt Ideal) ℓ) (c : Dev Cert.BiasIdeal.nD)
    (hp : Cert.Pre_known_buckets.fn (F := Ideal) (m ((c : Thread Cert.BiasIdeal.nD Cert.BiasIdeal.τ).loc Cert.BiasIdeal.main_arg0)) (m ((c : Thread Cert.BiasIdeal.nD Cert.BiasIdeal.τ).loc Cert.BiasIdeal.main_arg1)) = fun _ => 1#1) :
    (Cert.BiasIdeal.Gen.dats m 0 c).arrAt 2 Cert.BiasIdeal.cfg0.N = want (m ((c : Thread Cert.BiasIdeal.nD Cert.BiasIdeal.τ).loc Cert.BiasIdeal.main_arg0)) (m ((c : Thread Cert.BiasIdeal.nD Cert.BiasIdeal.τ).loc Cert.BiasIdeal.main_arg1)) := by
  rw [final_chained]
  funext y
  have low : ∀ i : S256x256.Idx, ((m ((c : Thread Cert.BiasIdeal.nD Cert.BiasIdeal.τ).loc Cert.BiasIdeal.main_arg1) : IVec S256x256 32) i).toInt < 32 := by
    intro i
    have hsub : Subsingleton Cert.Pre_known_buckets.S_.Idx := ⟨fun a b => funext fun (k : Fin 0) => k.elim0⟩
    have h := Host.reduce_andi_all _ _ _ _ _ (congrFun hp (fun k : Fin 0 => k.elim0)) i
    have h' : BitVec.ofBool (decide (((m ((c : Thread Cert.BiasIdeal.nD Cert.BiasIdeal.τ).loc Cert.BiasIdeal.main_arg1) : IVec S256x256 32) i).toInt < (32#32).toInt)) = 1#1 := h
    by_contra hc
    rw [decide_eq_false (by show ¬ _ < (32 : Int); exact hc)] at h'
    exact absurd h' (by decide)
  rw [show y = (ix3 (y 0 : Fin 16) (y 1 : Fin 256) (y 2 : Fin 256) : S16x256x256.Idx) from by funext a; fin_cases a <;> rfl]
  refine Eq.trans ?_ (want_eq _ _ _ _ _ (low _)).symm
  exact chain_eq _ _ 32 (le_refl 32)

end Cert.BiasIdeal.Closed
-- ==== Proof.AttnRef.Run.lean ====
/-
  The run of the attention's reference, put together from its stretches: what each leaves for the next, and what it leaves alone.
-/
module

public import proofs.«01_k».proof.Proof.Gen.AttnRefIdeal
public import proofs.«01_k».proof.Proof.AttnRef.Stretch
public import Idealize.ShloMosaic.Lib.StableHlo.RunRead
public import Idealize.ShloMosaic.Lib.StableHlo.RunHlo
public import Idealize.ShloMosaic.Lib.Pipeline.ValueKit

@[expose] public section

set_option maxRecDepth 16384

noncomputable section

namespace Cert.AttnRefIdeal.Stretch

open Cert.AttnRefIdeal Cert.AttnRefIdeal.Gen Idealize.ShloMosaic Idealize.ShloMosaic.TcCoe Idealize.SL.Sem
open Idealize.ShloMosaic.StableHlo

/-- Every operation of a stretch names arrays of the program. -/
abbrev Sub (l : List (HloOp τ sig (Elt Ideal))) : Prop := l.Forall fun op => op.bufs ⊆ tcRefs τ sig

theorem lineA1_sub : Sub lineA1 := ⟨unary_bufs_sub .., reshape_bufs_sub .., unary_bufs_sub .., reshape_bufs_sub .., unary_bufs_sub .., reshape_bufs_sub .., unary_bufs_sub .., reshape_bufs_sub .., nullary_bufs_sub .., unary_bufs_sub ..⟩
theorem lineA2_sub : Sub lineA2 := ⟨binary_bufs_sub .., unary_bufs_sub .., reshape_bufs_sub .., reshape_bufs_sub ..⟩
theorem lineA3_sub : Sub lineA3 := binary_bufs_sub ..
theorem lineA4_sub : Sub lineA4 := ⟨binary_bufs_sub .., unary_bufs_sub .., reshape_bufs_sub .., reshape_bufs_sub ..⟩
theorem lineA5_sub : Sub lineA5 := binary_bufs_sub ..
theorem lineB_sub : Sub lineB := ⟨nullary_bufs_sub .., nullary_bufs_sub .., unary_bufs_sub .., unary_bufs_sub .., unary_bufs_sub .., unary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., unary_bufs_sub .., unary_bufs_sub .., unary_bufs_sub .., binary_bufs_sub ..⟩
theorem lineC_sub : Sub lineC := ⟨reshape_bufs_sub .., reshape_bufs_sub .., binary_bufs_sub ..⟩
theorem lineM_sub : Sub lineM := ⟨unary_bufs_sub .., nullary_bufs_sub .., unary_bufs_sub .., binary_bufs_sub .., reshape_bufs_sub .., unary_bufs_sub .., unary_bufs_sub .., binary_bufs_sub .., unary_bufs_sub .., nullary_bufs_sub .., unary_bufs_sub .., unary_bufs_sub .., unary_bufs_sub .., ternary_bufs_sub ..⟩
theorem lineD_sub : Sub lineD := ⟨reshape_bufs_sub .., unary_bufs_sub .., nullary_bufs_sub .., binary_bufs_sub .., unary_bufs_sub .., unary_bufs_sub .., unary_bufs_sub .., binary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., unary_bufs_sub .., binary_bufs_sub ..⟩
theorem lineE_sub : Sub lineE := ⟨binary_bufs_sub .., unary_bufs_sub .., reshape_bufs_sub .., reshape_bufs_sub .., unary_bufs_sub ..⟩

/-- The first sixty operations, and the rest. -/
abbrev lineHead : List (HloOp τ sig (Elt Ideal)) := lineA1 ++ (lineA2 ++ (lineA3 ++ (lineA4 ++ (lineA5 ++ (lineB ++ lineC)))))
abbrev lineTail : List (HloOp τ sig (Elt Ideal)) := lineM ++ (lineD ++ lineE)

theorem head_eq (c : Dev nD) : main_part0 (F := Ideal) c = seq lineHead := rfl
theorem tail_eq (c : Dev nD) : main_part1 (F := Ideal) c = seq lineTail := rfl

/-- The whole program, stretch after stretch. -/
theorem main_eq (c : Dev nD) : main (F := Ideal) c = seq (lineHead ++ lineTail) := by
  rw [seq_append, ← head_eq c, ← tail_eq c]; rfl

theorem lines_sub : Sub (lineHead ++ lineTail) :=
  List.forall_append.mpr ⟨List.forall_append.mpr ⟨lineA1_sub, List.forall_append.mpr ⟨lineA2_sub, List.forall_append.mpr ⟨lineA3_sub,
    List.forall_append.mpr ⟨lineA4_sub, List.forall_append.mpr ⟨lineA5_sub, List.forall_append.mpr ⟨lineB_sub, lineC_sub⟩⟩⟩⟩⟩⟩,
    List.forall_append.mpr ⟨lineM_sub, List.forall_append.mpr ⟨lineD_sub, lineE_sub⟩⟩⟩

/-- One stretch after another. -/
theorem after_two (l k : List (HloOp τ sig (Elt Ideal))) (W : Valuation τ sig (Elt Ideal)) : after (l ++ k) W = after k (after l W) := by
  induction l generalizing W with
  | nil => rfl
  | cons op l ih => exact ih _

variable (W : Valuation τ sig (Elt Ideal))

theorem A1_left : after lineA1 W main_arg0 = W main_arg0 ∧ after lineA1 W main_arg1 = W main_arg1 ∧ after lineA1 W main_arg2 = W main_arg2 := by
  refine ⟨?_, ?_, ?_⟩ <;> after_reads_simp
theorem A2_left : after lineA2 W main_v8 = W main_v8 ∧ after lineA2 W main_v7 = W main_v7 ∧ after lineA2 W main_v3 = W main_v3 ∧ after lineA2 W main_arg0 = W main_arg0 ∧ after lineA2 W main_arg1 = W main_arg1 ∧ after lineA2 W main_arg2 = W main_arg2 := by
  refine ⟨?_, ?_, ?_, ?_, ?_, ?_⟩ <;> after_reads_simp
theorem A3_left : after lineA3 W main_v8 = W main_v8 ∧ after lineA3 W main_v7 = W main_v7 ∧ after lineA3 W main_v3 = W main_v3 ∧ after lineA3 W main_arg0 = W main_arg0 ∧ after lineA3 W main_arg1 = W main_arg1 ∧ after lineA3 W main_arg2 = W main_arg2 := by
  refine ⟨?_, ?_, ?_, ?_, ?_, ?_⟩ <;> after_reads_simp
theorem A4_left : after lineA4 W main_v13 = W main_v13 ∧ after lineA4 W main_v3 = W main_v3 ∧ after lineA4 W main_arg0 = W main_arg0 ∧ after lineA4 W main_arg1 = W main_arg1 ∧ after lineA4 W main_arg2 = W main_arg2 := by
  refine ⟨?_, ?_, ?_, ?_, ?_⟩ <;> after_reads_simp
theorem A5_left : after lineA5 W main_v13 = W main_v13 ∧ after lineA5 W main_v3 = W main_v3 ∧ after lineA5 W main_arg0 = W main_arg0 ∧ after lineA5 W main_arg1 = W main_arg1 ∧ after lineA5 W main_arg2 = W main_arg2 := by
  refine ⟨?_, ?_, ?_, ?_, ?_⟩ <;> after_reads_simp
theorem B_left : after lineB W main_v18 = W main_v18 ∧ after lineB W main_v13 = W main_v13 ∧ after lineB W main_v3 = W main_v3 ∧ after lineB W main_arg0 = W main_arg0 ∧ after lineB W main_arg1 = W main_arg1 ∧ after lineB W main_arg2 = W main_arg2 := by
  refine ⟨?_, ?_, ?_, ?_, ?_, ?_⟩ <;> after_reads_simp
theorem C_left : after lineC W main_v18 = W main_v18 ∧ after lineC W main_v49 = W main_v49 ∧ after lineC W main_arg0 = W main_arg0 ∧ after lineC W main_arg1 = W main_arg1 ∧ after lineC W main_arg2 = W main_arg2 := by
  refine ⟨?_, ?_, ?_, ?_, ?_⟩ <;> after_reads_simp
theorem M_left : after lineM W main_v18 = W main_v18 ∧ after lineM W main_arg0 = W main_arg0 ∧ after lineM W main_arg1 = W main_arg1 ∧ after lineM W main_arg2 = W main_arg2 := by
  refine ⟨?_, ?_, ?_, ?_⟩ <;> after_reads_simp
theorem D_left : after lineD W main_v18 = W main_v18 ∧ after lineD W main_arg0 = W main_arg0 ∧ after lineD W main_arg1 = W main_arg1 ∧ after lineD W main_arg2 = W main_arg2 := by
  refine ⟨?_, ?_, ?_, ?_⟩ <;> after_reads_simp
theorem E_left : after lineE W main_arg0 = W main_arg0 ∧ after lineE W main_arg1 = W main_arg1 ∧ after lineE W main_arg2 = W main_arg2 := by
  refine ⟨?_, ?_, ?_⟩ <;> after_reads_simp

/-- The result of the whole line. -/
theorem line_result : after (lineHead ++ lineTail) W main_v85 = attention (W main_arg0) (W main_arg1) (W main_arg2) := by
  simp only [after_two]
  rw [E_mixed, D_weights, CM_scores, (D_left _).1, (M_left _).1, (M_left _).2.2.1,
    (C_left _).1, (C_left _).2.2.2.1, B_mask,
    (B_left _).1, (B_left _).2.1, (B_left _).2.2.1, (B_left _).2.2.2.2.1, (B_left _).2.2.2.2.2,
    A5_band, (A5_left _).1, (A5_left _).2.1, (A5_left _).2.2.2.1, (A5_left _).2.2.2.2,
    A4_before, A4_own, (A4_left _).1, (A4_left _).2.1, (A4_left _).2.2.2.1, (A4_left _).2.2.2.2,
    A3_band, (A3_left _).1, (A3_left _).2.1, (A3_left _).2.2.1, (A3_left _).2.2.2.2.1, (A3_left _).2.2.2.2.2,
    A2_before, A2_own, (A2_left _).1, (A2_left _).2.1, (A2_left _).2.2.1, (A2_left _).2.2.2.2.1, (A2_left _).2.2.2.2.2,
    A1_queries, A1_keys, A1_values, A1_zeros, (A1_left _).2.1, (A1_left _).2.2]
  rfl

theorem line_left : after (lineHead ++ lineTail) W main_arg0 = W main_arg0 ∧ after (lineHead ++ lineTail) W main_arg1 = W main_arg1
    ∧ after (lineHead ++ lineTail) W main_arg2 = W main_arg2 := by
  simp only [after_two]
  refine ⟨?_, ?_, ?_⟩
  · rw [(E_left _).1, (D_left _).2.1, (M_left _).2.1, (C_left _).2.2.1, (B_left _).2.2.2.1, (A5_left _).2.2.1, (A4_left _).2.2.1, (A3_left _).2.2.2.1, (A2_left _).2.2.2.1, (A1_left _).1]
  · rw [(E_left _).2.1, (D_left _).2.2.1, (M_left _).2.2.1, (C_left _).2.2.2.1, (B_left _).2.2.2.2.1, (A5_left _).2.2.2.1, (A4_left _).2.2.2.1, (A3_left _).2.2.2.2.1, (A2_left _).2.2.2.2.1, (A1_left _).2.1]
  · rw [(E_left _).2.2, (D_left _).2.2.2, (M_left _).2.2.2, (C_left _).2.2.2.2, (B_left _).2.2.2.2.2, (A5_left _).2.2.2.2, (A4_left _).2.2.2.2, (A3_left _).2.2.2.2.2, (A2_left _).2.2.2.2.2, (A1_left _).2.2]

/-- The run: the attention of the arguments, which are left as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v85) = attention (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v85).trans (line_result _), (h c main_arg0).trans (line_left _).1,
      (h c main_arg1).trans (line_left _).2.1, (h c main_arg2).trans (line_left _).2.2⟩)
    (run_seq (by decide) (by decide) defs main (fun _ => lineHead ++ lineTail) main_eq (fun _ => lines_sub) m ρ)

end Cert.AttnRefIdeal.Stretch

end
-- ==== Proof.lean ====
/- The proof of the certificate: every program runs and ends quiescent, each idealized kernel is the kernel, and each computes what its reference computes. -/
module

public import proofs.«01_k».proof.Defs
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.Bch
public import proofs.«01_k».proof.Proof.Gen.Bch.Skeleton
public import proofs.«01_k».proof.Proof.Gen.Bch.Launch
public import proofs.«01_k».proof.Proof.Gen.Bch.Points
public import proofs.«01_k».proof.Proof.Gen.Bch.Frame
public import proofs.«01_k».proof.Proof.Gen.BchIdeal
public import proofs.«01_k».proof.Proof.Gen.BchIdeal.Skeleton
public import proofs.«01_k».proof.Proof.Gen.BchIdeal.Launch
public import proofs.«01_k».proof.Proof.Gen.BchIdeal.Points
public import proofs.«01_k».proof.Proof.Gen.BchIdeal.Frame
public import proofs.«01_k».proof.Proof.Gen.BchRefIdeal
public import proofs.«01_k».proof.Proof.Gen.Wo
public import proofs.«01_k».proof.Proof.Gen.Wo.Skeleton
public import proofs.«01_k».proof.Proof.Gen.Wo.Launch
public import proofs.«01_k».proof.Proof.Gen.Wo.Points
public import proofs.«01_k».proof.Proof.Gen.Wo.Frame
public import proofs.«01_k».proof.Proof.Gen.WoIdeal
public import proofs.«01_k».proof.Proof.Gen.WoIdeal.Skeleton
public import proofs.«01_k».proof.Proof.Gen.WoIdeal.Launch
public import proofs.«01_k».proof.Proof.Gen.WoIdeal.Points
public import proofs.«01_k».proof.Proof.Gen.WoIdeal.Frame
public import proofs.«01_k».proof.Proof.Gen.WoRefIdeal
public import proofs.«01_k».proof.Proof.Gen.ConvP
public import proofs.«01_k».proof.Proof.Gen.ConvP.Skeleton
public import proofs.«01_k».proof.Proof.Gen.ConvP.Launch
public import proofs.«01_k».proof.Proof.Gen.ConvP.Points
public import proofs.«01_k».proof.Proof.Gen.ConvP.Frame
public import proofs.«01_k».proof.Proof.Gen.ConvPIdeal
public import proofs.«01_k».proof.Proof.Gen.ConvPIdeal.Skeleton
public import proofs.«01_k».proof.Proof.Gen.ConvPIdeal.Launch
public import proofs.«01_k».proof.Proof.Gen.ConvPIdeal.Points
public import proofs.«01_k».proof.Proof.Gen.ConvPIdeal.Frame
public import proofs.«01_k».proof.Proof.Gen.ConvPRefIdeal
public import proofs.«01_k».proof.Proof.Gen.ConvS
public import proofs.«01_k».proof.Proof.Gen.ConvS.Skeleton
public import proofs.«01_k».proof.Proof.Gen.ConvS.Launch
public import proofs.«01_k».proof.Proof.Gen.ConvS.Points
public import proofs.«01_k».proof.Proof.Gen.ConvS.Frame
public import proofs.«01_k».proof.Proof.Gen.ConvSIdeal
public import proofs.«01_k».proof.Proof.Gen.ConvSIdeal.Skeleton
public import proofs.«01_k».proof.Proof.Gen.ConvSIdeal.Launch
public import proofs.«01_k».proof.Proof.Gen.ConvSIdeal.Points
public import proofs.«01_k».proof.Proof.Gen.ConvSIdeal.Frame
public import proofs.«01_k».proof.Proof.Gen.ConvSRefIdeal
public import proofs.«01_k».proof.Proof.Gen.Fin
public import proofs.«01_k».proof.Proof.Gen.Fin.Skeleton
public import proofs.«01_k».proof.Proof.Gen.Fin.Launch
public import proofs.«01_k».proof.Proof.Gen.Fin.Points
public import proofs.«01_k».proof.Proof.Gen.Fin.Frame
public import proofs.«01_k».proof.Proof.Gen.FinIdeal
public import proofs.«01_k».proof.Proof.Gen.FinIdeal.Skeleton
public import proofs.«01_k».proof.Proof.Gen.FinIdeal.Launch
public import proofs.«01_k».proof.Proof.Gen.FinIdeal.Points
public import proofs.«01_k».proof.Proof.Gen.FinIdeal.Frame
public import proofs.«01_k».proof.Proof.Gen.FinRefIdeal
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_inputs
public import proofs.«01_k».proof.Proof.Gen.AttnS
public import proofs.«01_k».proof.Proof.Gen.AttnS.Skeleton
public import proofs.«01_k».proof.Proof.Gen.AttnS.Launch
public import proofs.«01_k».proof.Proof.Gen.AttnS.Points
public import proofs.«01_k».proof.Proof.Gen.AttnS.Frame
public import proofs.«01_k».proof.Proof.Gen.AttnSIdeal
public import proofs.«01_k».proof.Proof.Gen.AttnSIdeal.Skeleton
public import proofs.«01_k».proof.Proof.Gen.AttnSIdeal.Launch
public import proofs.«01_k».proof.Proof.Gen.AttnSIdeal.Points
public import proofs.«01_k».proof.Proof.Gen.AttnSIdeal.Frame
public import proofs.«01_k».proof.Proof.Gen.AttnSRefIdeal
public import proofs.«01_k».proof.Proof.Gen.AttnSIdeal.Value
public import proofs.«01_k».proof.Proof.Gen.AttnSRefIdeal.Run
public import proofs.«01_k».proof.Proof.Gen.Pre_finite_sample
public import proofs.«01_k».proof.Proof.Gen.Bias
public import proofs.«01_k».proof.Proof.Gen.Bias.Frame
public import proofs.«01_k».proof.Proof.Gen.BiasIdeal
public import proofs.«01_k».proof.Proof.Gen.BiasIdeal.Frame
public import proofs.«01_k».proof.Proof.Gen.BiasRefIdeal
public import proofs.«01_k».proof.Proof.Gen.BiasIdeal.Value
public import proofs.«01_k».proof.Proof.Gen.BiasRefIdeal.Run
public import proofs.«01_k».proof.Proof.Gen.Pre_known_buckets
public import proofs.«01_k».proof.Proof.Gen.QkvIdeal.Value
public import proofs.«01_k».proof.Proof.Gen.QkvRefIdeal.Run
public import proofs.«01_k».proof.Proof.Gen.BchIdeal.Value
public import proofs.«01_k».proof.Proof.Gen.BchRefIdeal.Run
public import proofs.«01_k».proof.Proof.Gen.WoIdeal.Value
public import proofs.«01_k».proof.Proof.Gen.WoRefIdeal.Run
public import proofs.«01_k».proof.Proof.Gen.ConvPIdeal.Value
public import proofs.«01_k».proof.Proof.Gen.ConvPRefIdeal.Run
public import proofs.«01_k».proof.Proof.Gen.ConvSIdeal.Value
public import proofs.«01_k».proof.Proof.Gen.ConvSRefIdeal.Run
public import proofs.«01_k».proof.Proof.Gen.FinIdeal.Value
public import proofs.«01_k».proof.Proof.Gen.FinRefIdeal.Run
public import proofs.«01_k».proof.Proof.Gen.AttnIdeal.Value
public import proofs.«01_k».proof.Proof.Wo
public import proofs.«01_k».proof.Proof.Qkv
public import proofs.«01_k».proof.Proof.Bch
public import proofs.«01_k».proof.Proof.Fin
public import proofs.«01_k».proof.Proof.ConvP
public import proofs.«01_k».proof.Proof.ConvS
public import proofs.«01_k».proof.Proof.Attn
public import proofs.«01_k».proof.Proof.AttnS.Final
public import proofs.«01_k».proof.Proof.BiasRef
public import proofs.«01_k».proof.Proof.AttnRef.Run
public import Idealize.ShloMosaic.Lib.Quiescent
public import Idealize.ShloMosaic.Adequacy
public import Idealize.ShloMosaic.Init

@[expose] public section

noncomputable section

namespace Cert.Proof

open Idealize.ShloMosaic Idealize.SL.Sem Cert.Qkv

theorem claim : Cert.Claim := ⟨Cert.Qkv.Gen.facts, Cert.QkvIdeal.Gen.facts, Cert.QkvRefIdeal.Gen.facts, Cert.Bch.Gen.facts, Cert.BchIdeal.Gen.facts, Cert.BchRefIdeal.Gen.facts, Cert.Wo.Gen.facts, Cert.WoIdeal.Gen.facts, Cert.WoRefIdeal.Gen.facts, Cert.ConvP.Gen.facts, Cert.ConvPIdeal.Gen.facts, Cert.ConvPRefIdeal.Gen.facts, Cert.ConvS.Gen.facts, Cert.ConvSIdeal.Gen.facts, Cert.ConvSRefIdeal.Gen.facts, Cert.Fin.Gen.facts, Cert.FinIdeal.Gen.facts, Cert.FinRefIdeal.Gen.facts, Cert.Attn.Gen.facts, Cert.AttnIdeal.Gen.facts, Cert.AttnRefIdeal.Gen.facts, Cert.AttnS.Gen.facts, Cert.AttnSIdeal.Gen.facts, Cert.AttnSRefIdeal.Gen.facts, Cert.Bias.Gen.facts, Cert.BiasIdeal.Gen.facts, Cert.BiasRefIdeal.Gen.facts, Cert.Pre_finite_inputs.Gen.facts, Cert.Pre_finite_sample.Gen.facts, Cert.Pre_known_buckets.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.Qkv.Gen.frame m ρ
  · exact fun m ρ _ => Cert.QkvIdeal.Gen.frame m ρ
  · exact fun m ρ _ => (θ_run _ _ _).mono (fun r h => ⟨fun c => (h c).2, sem_eq_zero_of_no_sems (by decide) _⟩)
      (Cert.QkvRefIdeal.Value.run (F := Ideal) m ρ)
  · exact fun m ρ _ => Cert.Bch.Gen.frame m ρ
  · exact fun m ρ _ => Cert.BchIdeal.Gen.frame m ρ
  · exact fun m ρ _ => (θ_run _ _ _).mono (fun r h => ⟨fun c => (h c).2, sem_eq_zero_of_no_sems (by decide) _⟩)
      (Cert.BchRefIdeal.Value.run (F := Ideal) m ρ)
  · exact fun m ρ _ => Cert.Wo.Gen.frame m ρ
  · exact fun m ρ _ => Cert.WoIdeal.Gen.frame m ρ
  · exact fun m ρ _ => (θ_run _ _ _).mono (fun r h => ⟨fun c => (h c).2, sem_eq_zero_of_no_sems (by decide) _⟩)
      (Cert.WoRefIdeal.Value.run (F := Ideal) m ρ)
  · exact fun m ρ _ => Cert.ConvP.Gen.frame m ρ
  · exact fun m ρ _ => Cert.ConvPIdeal.Gen.frame m ρ
  · exact fun m ρ _ => (θ_run _ _ _).mono (fun r h => ⟨fun c => (h c).2.2, sem_eq_zero_of_no_sems (by decide) _⟩)
      (Cert.ConvPRefIdeal.Value.run (F := Ideal) m ρ)
  · exact fun m ρ _ => Cert.ConvS.Gen.frame m ρ
  · exact fun m ρ _ => Cert.ConvSIdeal.Gen.frame m ρ
  · exact fun m ρ _ => (θ_run _ _ _).mono (fun r h => ⟨fun c => (h c).2.2, sem_eq_zero_of_no_sems (by decide) _⟩)
      (Cert.ConvSRefIdeal.Value.run (F := Ideal) m ρ)
  · exact fun m ρ _ => Cert.Fin.Gen.frame m ρ
  · exact fun m ρ _ => Cert.FinIdeal.Gen.frame m ρ
  · exact fun m ρ _ => (θ_run _ _ _).mono (fun r h => ⟨fun c => (h c).2, sem_eq_zero_of_no_sems (by decide) _⟩)
      (Cert.FinRefIdeal.Value.run (F := Ideal) m ρ)
  · exact fun m ρ _ => Cert.Attn.Gen.frame m ρ
  · exact fun m ρ _ => Cert.AttnIdeal.Gen.frame m ρ
  · exact fun m ρ _ => Cert.AttnIdeal.Gen.frame m ρ
  · exact fun m ρ _ => (θ_run _ _ _).mono (fun r h => ⟨fun c => (h c).2, sem_eq_zero_of_no_sems (by decide) _⟩)
      (Cert.AttnRefIdeal.Stretch.run m ρ)
  · exact fun m ρ _ => (θ_run _ _ _).mono (fun r h => ⟨fun c => (h c).2, sem_eq_zero_of_no_sems (by decide) _⟩)
      (Cert.AttnRefIdeal.Stretch.run m ρ)
  · exact fun m ρ _ => Cert.AttnS.Gen.frame m ρ
  · exact fun m ρ _ => Cert.AttnSIdeal.Gen.frame m ρ
  · exact fun m ρ _ => Cert.AttnSIdeal.Gen.frame m ρ
  · exact fun m ρ _ => (θ_run _ _ _).mono (fun r h => ⟨fun c => (h c).2, sem_eq_zero_of_no_sems (by decide) _⟩)
      (Cert.AttnSRefIdeal.Value.run (F := Ideal) m ρ)
  · exact fun m ρ _ => (θ_run _ _ _).mono (fun r h => ⟨fun c => (h c).2, sem_eq_zero_of_no_sems (by decide) _⟩)
      (Cert.AttnSRefIdeal.Value.run (F := Ideal) m ρ)
  · exact fun m ρ _ => Cert.Bias.Gen.frame m ρ
  · exact fun m ρ _ => Cert.BiasIdeal.Gen.frame m ρ
  · exact fun m ρ _ => Cert.BiasIdeal.Gen.frame m ρ
  · exact fun m ρ _ => (θ_run _ _ _).mono (fun r h => ⟨fun c => (h c).2, sem_eq_zero_of_no_sems (by decide) _⟩)
      (Cert.BiasRefIdeal.Value.run (F := Ideal) m ρ)
  · exact fun m ρ _ => (θ_run _ _ _).mono (fun r h => ⟨fun c => (h c).2, sem_eq_zero_of_no_sems (by decide) _⟩)
      (Cert.BiasRefIdeal.Value.run (F := Ideal) m ρ)
  · trivial
  · intro m ρ m' ρ' _ hagree
    refine ⟨fun c => (Cert.QkvIdeal.Gen.dats m 0 c).arrAt 3 Cert.QkvIdeal.cfg0.N, Cert.QkvIdeal.Value.run_blocks m ρ,
      (θ_run _ _ _).mono (fun r h c => ⟨(h c).1.trans ?_, (h c).2⟩) (Cert.QkvRefIdeal.Value.run (F := Ideal) m' ρ')⟩
    · obtain ⟨e0, e1, e2⟩ := hagree c
      rw [e0, e1, e2]
      exact (Cert.QkvIdeal.Closed.final m c).symm
  · trivial
  · intro m ρ m' ρ' _ hagree
    refine ⟨fun c => (Cert.BchIdeal.Gen.dats m 0 c).arrAt 3 Cert.BchIdeal.cfg0.N, Cert.BchIdeal.Value.run_blocks m ρ,
      (θ_run _ _ _).mono (fun r h c => ⟨(h c).1.trans ?_, (h c).2⟩) (Cert.BchRefIdeal.Value.run (F := Ideal) m' ρ')⟩
    · obtain ⟨e0, e1, e2⟩ := hagree c
      rw [e0, e1, e2]
      exact (Cert.BchIdeal.Closed.final m c).symm
  · trivial
  · intro m ρ m' ρ' _ hagree
    refine ⟨fun c => (Cert.WoIdeal.Gen.dats m 0 c).arrAt 3 Cert.WoIdeal.cfg0.N, Cert.WoIdeal.Value.run_blocks m ρ,
      (θ_run _ _ _).mono (fun r h c => ⟨(h c).1.trans ?_, (h c).2⟩) (Cert.WoRefIdeal.Value.run (F := Ideal) m' ρ')⟩
    · obtain ⟨e0, e1, e2⟩ := hagree c
      rw [e0, e1, e2]
      exact (Cert.WoIdeal.Closed.final m c).symm
  · trivial
  · intro m ρ m' ρ' _ hagree
    refine ⟨fun c => (Cert.ConvPIdeal.Gen.dats m 0 c).arrAt 4 Cert.ConvPIdeal.cfg0.N, fun c => (Cert.ConvPIdeal.Gen.dats m 0 c).arrAt 5 Cert.ConvPIdeal.cfg0.N, Cert.ConvPIdeal.Value.run_blocks m ρ,
      (θ_run _ _ _).mono (fun r h c => ⟨(h c).1.trans ?_, (h c).2.1.trans ?_, (h c).2.2⟩) (Cert.ConvPRefIdeal.Value.run (F := Ideal) m' ρ')⟩
    · obtain ⟨e0, e1, e2, e3⟩ := hagree c
      rw [e0, e1, e2, e3]
      exact (Cert.ConvPIdeal.Closed.final m c).symm
    · obtain ⟨e0, e1, e2, e3⟩ := hagree c
      rw [e0]
      exact (Cert.ConvPIdeal.Closed.final_kept m c).symm
  · trivial
  · intro m ρ m' ρ' _ hagree
    refine ⟨fun c => (Cert.ConvSIdeal.Gen.dats m 0 c).arrAt 5 Cert.ConvSIdeal.cfg0.N, fun c => (Cert.ConvSIdeal.Gen.dats m 0 c).arrAt 6 Cert.ConvSIdeal.cfg0.N, Cert.ConvSIdeal.Value.run_blocks m ρ,
      (θ_run _ _ _).mono (fun r h c => ⟨(h c).1.trans ?_, (h c).2.1.trans ?_, (h c).2.2⟩) (Cert.ConvSRefIdeal.Value.run (F := Ideal) m' ρ')⟩
    · obtain ⟨e0, e1, e2, e3, e4⟩ := hagree c
      rw [e0, e1, e2, e3, e4]
      exact (Cert.ConvSIdeal.Closed.final m c).symm
    · obtain ⟨e0, e1, e2, e3, e4⟩ := hagree c
      rw [e0, e1]
      exact (Cert.ConvSIdeal.Closed.final_kept m c).symm
  · trivial
  · intro m ρ m' ρ' _ hagree
    refine ⟨fun c => (Cert.FinIdeal.Gen.dats m 0 c).arrAt 2 Cert.FinIdeal.cfg0.N, Cert.FinIdeal.Value.run_blocks m ρ,
      (θ_run _ _ _).mono (fun r h c => ⟨(h c).1.trans ?_, (h c).2⟩) (Cert.FinRefIdeal.Value.run (F := Ideal) m' ρ')⟩
    · obtain ⟨e0, e1⟩ := hagree c
      rw [e0, e1]
      exact (Cert.FinIdeal.Closed.final m c).symm
  · trivial
  · intro m ρ m' ρ' hp hagree
    refine ⟨fun c => (Cert.AttnIdeal.Gen.dats m 0 c).arrAt 7 Cert.AttnIdeal.cfg0.N, Cert.AttnIdeal.Value.run_blocks m ρ,
      (θ_run _ _ _).mono (fun r h c => ⟨(h c).1.trans ?_, (h c).2⟩) (Cert.AttnRefIdeal.Stretch.run m' ρ')⟩
    · obtain ⟨e0, e1, e2⟩ := hagree c
      rw [e0, e1, e2]
      exact (Cert.AttnIdeal.Closed.final m c hp).symm
  · trivial
  · intro m ρ m' ρ' hp hagree
    refine ⟨fun c => (Cert.AttnSIdeal.Gen.dats m 0 c).arrAt 5 Cert.AttnSIdeal.cfg0.N, Cert.AttnSIdeal.Value.run_blocks m ρ,
      (θ_run _ _ _).mono (fun r h c => ⟨(h c).1.trans ((Cert.AttnSRefIdeal.Parts.result m' c).trans ?_), (h c).2⟩) (Cert.AttnSRefIdeal.Value.run (F := Ideal) m' ρ')⟩
    · obtain ⟨e0, e1, e2, e3, e4⟩ := hagree c
      rw [e0, e1, e2, e3, e4]
      exact (Cert.AttnSIdeal.Closed.final m c hp).symm
  · trivial
  · intro m ρ m' ρ' hp hagree
    refine ⟨fun c => (Cert.BiasIdeal.Gen.dats m 0 c).arrAt 2 Cert.BiasIdeal.cfg0.N, Cert.BiasIdeal.Value.run_blocks m ρ,
      (θ_run _ _ _).mono (fun r h c => ⟨(h c).1.trans ?_, (h c).2⟩) (Cert.BiasRefIdeal.Value.run (F := Ideal) m' ρ')⟩
    · obtain ⟨e0, e1⟩ := hagree c
      rw [e0, e1]
      exact (Cert.BiasIdeal.Closed.final m c (hp c)).symm⟩

end Cert.Proof

end
